-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_named_KernelIdeal [hPre_ids_named_KernelIdeal : Cert.Pre_ids_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_named_ReferenceIdeal [hPre_ids_named_ReferenceIdeal : Cert.Pre_ids_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_named_KernelIdeal [hKernelIdeal : Cert.KernelIdeal.Facts] [hPre_ids_named_KernelIdeal : Cert.Pre_ids_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_named_ReferenceIdeal [hReferenceIdeal : Cert.ReferenceIdeal.Facts] [hPre_ids_named_ReferenceIdeal : Cert.Pre_ids_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_named_KernelIdeal [hKernelIdeal : Cert.KernelIdeal.Facts] [hReferenceIdeal : Cert.ReferenceIdeal.Facts] [hPre_ids_named_KernelIdeal : Cert.Pre_ids_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_named_KernelIdeal : Cert.Pre_ids_named_KernelIdeal.Facts) (hPre_ids_named_ReferenceIdeal : Cert.Pre_ids_named_ReferenceIdeal.Facts),
    quiescent_Kernel (hKernel := hKernel)
    ∧ quiescent_KernelIdeal (hKernelIdeal := hKernelIdeal)
    ∧ quiescent_KernelIdeal_pre_ids_named_KernelIdeal (hKernelIdeal := hKernelIdeal) (hPre_ids_named_KernelIdeal := hPre_ids_named_KernelIdeal)
    ∧ quiescent_ReferenceIdeal (hReferenceIdeal := hReferenceIdeal)
    ∧ quiescent_ReferenceIdeal_pre_ids_named_ReferenceIdeal (hReferenceIdeal := hReferenceIdeal) (hPre_ids_named_ReferenceIdeal := hPre_ids_named_ReferenceIdeal)
    ∧ preserves_Kernel_KernelIdeal
    ∧ algebraic_KernelIdeal_ReferenceIdeal_pre_ids_named_KernelIdeal (hKernelIdeal := hKernelIdeal) (hReferenceIdeal := hReferenceIdeal) (hPre_ids_named_KernelIdeal := hPre_ids_named_KernelIdeal)
-- ==== Pre_ids_named_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Pre_ids_named_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S32768x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S16384x1024 : Shape := ⟨2, ![16384, 1024]⟩
abbrev S_ : Shape := ⟨0, ![]⟩
abbrev S2048x1 : Shape := ⟨2, ![2048, 1]⟩
abbrev S2048x1024 : Shape := ⟨2, ![2048, 1024]⟩
abbrev S256x1024 : Shape := ⟨2, ![256, 1024]⟩
abbrev S2x128x1024 : Shape := ⟨3, ![2, 128, 1024]⟩
abbrev S2 : Shape := ⟨1, ![2]⟩
abbrev S4 : Shape := ⟨1, ![4]⟩
abbrev S6 : Shape := ⟨1, ![6]⟩
abbrev S1 : Shape := ⟨1, ![1]⟩
abbrev S1x1x1024 : Shape := ⟨3, ![1, 1, 1024]⟩
abbrev S1024 : Shape := ⟨1, ![1024]⟩
abbrev S1x1024 : Shape := ⟨2, ![1, 1024]⟩
abbrev S1x128x1024 : Shape := ⟨3, ![1, 128, 1024]⟩
abbrev S128x1024 : Shape := ⟨2, ![128, 1024]⟩
abbrev S128x1 : Shape := ⟨2, ![128, 1]⟩

abbrev nBuf : Space → Nat
  | .hbm => 26
  | .vmem => 5
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S2048x1, .f32⟩
  | .hbm, ⟨25, _⟩ => ⟨S2048x1024, .bf16⟩
  | .local _ .vmem, ⟨0, _⟩ => ⟨S2048x1, .f32⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2x128x1024, .f32⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v15 : BitVec 32 := Scalar.muli v2 c8_i32_7
  let v16 : BitVec 32 := Scalar.addi c0_i32 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v17 : BitVec 32 := Scalar.muli v9 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_11 : BitVec 32 := 8#32
  let v21 : BitVec 32 := Scalar.muli v10 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v27 : BitVec 1 := Scalar.cmpi .sgt v8 c0_i32_15
  let v28 : BitVec 32 := Scalar.extui v27
  let c0_i32_16 : BitVec 32 := 0#32
  let v29 : BitVec 1 := Scalar.cmpi .ne v28 c0_i32_16
  v29

def k0_dev3 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v321 : BitVec 32 := Scalar.muli v2 c8_i32_255
  let v322 : BitVec 32 := Scalar.addi c0_i32_256 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v323 : BitVec 32 := Scalar.muli v5 c4_i32_257
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_258 : BitVec 32 := 1#32
  let v325 : BitVec 32 := Scalar.muli v11 c1_i32_258
  let v326 : BitVec 32 := Scalar.addi v324 v325
  v326.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v30 : BitVec 1 := Scalar.cmpi .slt v8 c3_i32
  let v31 : BitVec 32 := Scalar.extui v30
  let c0_i32_17 : BitVec 32 := 0#32
  let v32 : BitVec 1 := Scalar.cmpi .ne v31 c0_i32_17
  v32

def k0_dev4 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v321 : BitVec 32 := Scalar.muli v2 c8_i32_255
  let v322 : BitVec 32 := Scalar.addi c0_i32_256 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v323 : BitVec 32 := Scalar.muli v5 c4_i32_257
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_258 : BitVec 32 := 1#32
  let v325 : BitVec 32 := Scalar.muli v12 c1_i32_258
  let v326 : BitVec 32 := Scalar.addi v324 v325
  v326.toNat
def k0_amt1 (d0 : Dev nD) : BitVec 32 :=
  let c2_i32_19 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_18 : BitVec 32 := 0#32
  let v33 : BitVec 1 := Scalar.cmpi .sgt v8 c0_i32_18
  let v34 : BitVec 32 := Scalar.extui v33
  let v35 : BitVec 32 := Scalar.addi c2_i32_19 v34
  let c3_i32_20 : BitVec 32 := 3#32
  let v36 : BitVec 1 := Scalar.cmpi .slt v8 c3_i32_20
  let v37 : BitVec 32 := Scalar.extui v36
  let v38 : BitVec 32 := Scalar.addi v35 v37
  v38

@[reducible] def k0_t1_loop : Scf.Loop 32 :=
  let c0_i32_23 : BitVec 32 := 0#32
  let c128_i32_24 : BitVec 32 := 128#32
  let v43 : BitVec 32 := Scalar.addi c0_i32_23 c128_i32_24
  let c1_i32_25 : BitVec 32 := 1#32
  ⟨c0_i32_23, v43, c1_i32_25⟩
def k0_off1 (d0 : Dev nD) (k0_t1 : Fin k0_t1_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v13 : BitVec 32 := Scalar.muli v8 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v39 : BitVec 32 := Scalar.muli v2 c2_i32_21
  let c0_i32_22 : BitVec 32 := 0#32
  let v40 : BitVec 32 := Scalar.addi v39 c0_i32_22
  let c128_i32 : BitVec 32 := 128#32
  let v41 : BitVec 32 := Scalar.muli v40 c128_i32
  let v42 : BitVec 32 := Scalar.addi v13 v41
  let c0_i32_23 : BitVec 32 := 0#32
  let c1_i32_25 : BitVec 32 := 1#32
  let arg21 : BitVec 32 := Scf.iv c0_i32_23 c1_i32_25 k0_t1
  let v321 : BitVec 32 := Scalar.addi v42 arg21
  let v322 : Index := Scalar.indexCast v321
  ![v322.toNat]
def k0_off2 (k0_t1 : Fin k0_t1_loop.trips) : Fin 3 → Nat :=
  let c0_i32_254 : BitVec 32 := 0#32
  let c0_i32_23 : BitVec 32 := 0#32
  let c1_i32_25 : BitVec 32 := 1#32
  let arg21 : BitVec 32 := Scf.iv c0_i32_23 c1_i32_25 k0_t1
  let c0_i32_256 : BitVec 32 := 0#32
  ![0, arg21.toNat, 0]
def k0_off3 (v323 : BitVec 32) : Fin 2 → Nat :=
  let c0_i32_257 : BitVec 32 := 0#32
  ![v323.toNat, 0]

def k0_chk1 (v323 : BitVec 32) : Prop :=
  (∀ a, (k0_off3 v323) a + S1x1024.size a ≤ S16384x1024.size a)
theorem k0_off3_inb : ∀ (v323 : BitVec 32) (k0_hw1 : k0_chk1 v323), ∀ a, (k0_off3 v323) a + S1x1024.size a ≤ S16384x1024.size a := fun v323 k0_hw1 => k0_hw1

@[reducible] def k0_t2_loop : Scf.Loop 32 :=
  let c0_i32_27 : BitVec 32 := 0#32
  let c128_i32_28 : BitVec 32 := 128#32
  let v44 : BitVec 32 := Scalar.addi c0_i32_27 c128_i32_28
  let c1_i32_29 : BitVec 32 := 1#32
  ⟨c0_i32_27, v44, c1_i32_29⟩
def k0_dev5 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v51 : BitVec 32 := Scalar.muli v2 c8_i32_36
  let v52 : BitVec 32 := Scalar.addi c0_i32_37 v51
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_38 : BitVec 32 := 4#32
  let v53 : BitVec 32 := Scalar.muli v9 c4_i32_38
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v55 : BitVec 32 := Scalar.muli v8 c1_i32_39
  let v56 : BitVec 32 := Scalar.addi v54 v55
  v56.toNat
@[reducible] def k0_t3_loop : Scf.Loop 32 :=
  let c0_i32_47 : BitVec 32 := 0#32
  let c128_i32_48 : BitVec 32 := 128#32
  let v67 : BitVec 32 := Scalar.addi c0_i32_47 c128_i32_48
  let c1_i32_49 : BitVec 32 := 1#32
  ⟨c0_i32_47, v67, c1_i32_49⟩
def k0_off4 (d0 : Dev nD) (k0_t3 : Fin k0_t3_loop.trips) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v13 : BitVec 32 := Scalar.muli v8 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_44 : BitVec 32 := 2#32
  let v63 : BitVec 32 := Scalar.muli v2 c2_i32_44
  let c1_i32_45 : BitVec 32 := 1#32
  let v64 : BitVec 32 := Scalar.addi v63 c1_i32_45
  let c128_i32_46 : BitVec 32 := 128#32
  let v65 : BitVec 32 := Scalar.muli v64 c128_i32_46
  let v66 : BitVec 32 := Scalar.addi v13 v65
  let c0_i32_47 : BitVec 32 := 0#32
  let c1_i32_49 : BitVec 32 := 1#32
  let arg21 : BitVec 32 := Scf.iv c0_i32_47 c1_i32_49 k0_t3
  let v321 : BitVec 32 := Scalar.addi v66 arg21
  let v322 : Index := Scalar.indexCast v321
  ![v322.toNat]
def k0_off5 (k0_t3 : Fin k0_t3_loop.trips) : Fin 3 → Nat :=
  let c1_i32_254 : BitVec 32 := 1#32
  let c0_i32_47 : BitVec 32 := 0#32
  let c1_i32_49 : BitVec 32 := 1#32
  let arg21 : BitVec 32 := Scf.iv c0_i32_47 c1_i32_49 k0_t3
  let c0_i32_256 : BitVec 32 := 0#32
  ![1, arg21.toNat, 0]
def k0_off6 (v323 : BitVec 32) : Fin 2 → Nat :=
  let c0_i32_257 : BitVec 32 := 0#32
  ![v323.toNat, 0]

def k0_chk2 (v323 : BitVec 32) : Prop :=
  (∀ a, (k0_off6 v323) a + S1x1024.size a ≤ S16384x1024.size a)
theorem k0_off6_inb : ∀ (v323 : BitVec 32) (k0_hw2 : k0_chk2 v323), ∀ a, (k0_off6 v323) a + S1x1024.size a ≤ S16384x1024.size a := fun v323 k0_hw2 => k0_hw2

@[reducible] def k0_t4_loop : Scf.Loop 32 :=
  let c0_i32_51 : BitVec 32 := 0#32
  let c128_i32_52 : BitVec 32 := 128#32
  let v68 : BitVec 32 := Scalar.addi c0_i32_51 c128_i32_52
  let c1_i32_53 : BitVec 32 := 1#32
  ⟨c0_i32_51, v68, c1_i32_53⟩
def k0_dev6 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v75 : BitVec 32 := Scalar.muli v2 c8_i32_59
  let v76 : BitVec 32 := Scalar.addi c0_i32_60 v75
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v77 : BitVec 32 := Scalar.muli v9 c4_i32_61
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v79 : BitVec 32 := Scalar.muli v8 c1_i32_62
  let v80 : BitVec 32 := Scalar.addi v78 v79
  v80.toNat
def k0_off7 (d0 : Dev nD) (c0_i32_68 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v13 : BitVec 32 := Scalar.muli v8 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_67 : BitVec 32 := 2#32
  let v87 : BitVec 32 := Scalar.muli v2 c2_i32_67
  let v88 : BitVec 32 := Scalar.addi v87 c0_i32_68
  let c128_i32_69 : BitVec 32 := 128#32
  let v89 : BitVec 32 := Scalar.muli v88 c128_i32_69
  let v90 : BitVec 32 := Scalar.addi v13 v89
  let v101 : Index := Scalar.indexCast v90
  let c0_80 : Index := 0#32
  ![v101.toNat, 0]
def k0_off8 (d0 : Dev nD) (c0_i32_68 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v13 : BitVec 32 := Scalar.muli v8 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_67 : BitVec 32 := 2#32
  let v87 : BitVec 32 := Scalar.muli v2 c2_i32_67
  let v88 : BitVec 32 := Scalar.addi v87 c0_i32_68
  let c128_i32_69 : BitVec 32 := 128#32
  let v89 : BitVec 32 := Scalar.muli v88 c128_i32_69
  let v90 : BitVec 32 := Scalar.addi v13 v89
  let v111 : Index := Scalar.indexCast v90
  let c0_85 : Index := 0#32
  ![v111.toNat, 0]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_86 : BitVec 32 := 3#32
  let v113 : BitVec 1 := Scalar.cmpi .slt v8 c3_i32_86
  let v114 : BitVec 32 := Scalar.extui v113
  let c0_i32_87 : BitVec 32 := 0#32
  let v115 : BitVec 1 := Scalar.cmpi .ne v114 c0_i32_87
  v115

def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let c0_i32_257 : BitVec 32 := 0#32
  let v325 : BitVec 32 := Scalar.addi v324 c0_i32_257
  let c0_i32_264 : BitVec 32 := 0#32
  ![v325.toNat, 0]
def k0_dev7 (d0 : Dev nD) : Nat :=
  let c0_i32_261 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_260 : BitVec 32 := 8#32
  let v326 : BitVec 32 := Scalar.muli v2 c8_i32_260
  let v327 : BitVec 32 := Scalar.addi c0_i32_261 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_262 : BitVec 32 := 4#32
  let v328 : BitVec 32 := Scalar.muli v5 c4_i32_262
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_263 : BitVec 32 := 1#32
  let v330 : BitVec 32 := Scalar.muli v12 c1_i32_263
  let v331 : BitVec 32 := Scalar.addi v329 v330
  v331.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_88 : BitVec 32 := 0#32
  let v116 : BitVec 1 := Scalar.cmpi .sgt v8 c0_i32_88
  let v117 : BitVec 32 := Scalar.extui v116
  let c0_i32_89 : BitVec 32 := 0#32
  let v118 : BitVec 1 := Scalar.cmpi .ne v117 c0_i32_89
  v118

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let c0_i32_257 : BitVec 32 := 0#32
  let v325 : BitVec 32 := Scalar.addi v324 c0_i32_257
  let c0_i32_264 : BitVec 32 := 0#32
  ![v325.toNat, 0]
def k0_dev8 (d0 : Dev nD) : Nat :=
  let c0_i32_261 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_260 : BitVec 32 := 8#32
  let v326 : BitVec 32 := Scalar.muli v2 c8_i32_260
  let v327 : BitVec 32 := Scalar.addi c0_i32_261 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_262 : BitVec 32 := 4#32
  let v328 : BitVec 32 := Scalar.muli v5 c4_i32_262
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_263 : BitVec 32 := 1#32
  let v330 : BitVec 32 := Scalar.muli v11 c1_i32_263
  let v331 : BitVec 32 := Scalar.addi v329 v330
  v331.toNat
def k0_off11 (d0 : Dev nD) (c0_i32_93 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_90 : BitVec 32 := 512#32
  let v119 : BitVec 32 := Scalar.muli v8 c512_i32_90
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_91 : BitVec 32 := 2#32
  let v120 : BitVec 32 := Scalar.muli v2 c2_i32_91
  let c128_i32_92 : BitVec 32 := 128#32
  let v121 : BitVec 32 := Scalar.muli v120 c128_i32_92
  let v122 : BitVec 32 := Scalar.addi v119 v121
  let v123 : BitVec 32 := Scalar.addi v122 c0_i32_93
  let c0_i32_100 : BitVec 32 := 0#32
  ![v123.toNat, 0]
def k0_dev9 (d0 : Dev nD) : Nat :=
  let c0_i32_97 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_96 : BitVec 32 := 8#32
  let v124 : BitVec 32 := Scalar.muli v10 c8_i32_96
  let v125 : BitVec 32 := Scalar.addi c0_i32_97 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v126 : BitVec 32 := Scalar.muli v5 c4_i32_98
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v128 : BitVec 32 := Scalar.muli v8 c1_i32_99
  let v129 : BitVec 32 := Scalar.addi v127 v128
  v129.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_122 : BitVec 32 := 3#32
  let v162 : BitVec 1 := Scalar.cmpi .slt v8 c3_i32_122
  let v163 : BitVec 32 := Scalar.extui v162
  let c0_i32_123 : BitVec 32 := 0#32
  let v164 : BitVec 1 := Scalar.cmpi .ne v163 c0_i32_123
  v164

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let c128_i32_257 : BitVec 32 := 128#32
  let v325 : BitVec 32 := Scalar.addi v324 c128_i32_257
  let c0_i32_264 : BitVec 32 := 0#32
  ![v325.toNat, 0]
def k0_dev10 (d0 : Dev nD) : Nat :=
  let c0_i32_261 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_260 : BitVec 32 := 8#32
  let v326 : BitVec 32 := Scalar.muli v2 c8_i32_260
  let v327 : BitVec 32 := Scalar.addi c0_i32_261 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_262 : BitVec 32 := 4#32
  let v328 : BitVec 32 := Scalar.muli v5 c4_i32_262
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_263 : BitVec 32 := 1#32
  let v330 : BitVec 32 := Scalar.muli v12 c1_i32_263
  let v331 : BitVec 32 := Scalar.addi v329 v330
  v331.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_124 : BitVec 32 := 0#32
  let v165 : BitVec 1 := Scalar.cmpi .sgt v8 c0_i32_124
  let v166 : BitVec 32 := Scalar.extui v165
  let c0_i32_125 : BitVec 32 := 0#32
  let v167 : BitVec 1 := Scalar.cmpi .ne v166 c0_i32_125
  v167

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let c128_i32_257 : BitVec 32 := 128#32
  let v325 : BitVec 32 := Scalar.addi v324 c128_i32_257
  let c0_i32_264 : BitVec 32 := 0#32
  ![v325.toNat, 0]
def k0_dev11 (d0 : Dev nD) : Nat :=
  let c0_i32_261 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_260 : BitVec 32 := 8#32
  let v326 : BitVec 32 := Scalar.muli v2 c8_i32_260
  let v327 : BitVec 32 := Scalar.addi c0_i32_261 v326
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_262 : BitVec 32 := 4#32
  let v328 : BitVec 32 := Scalar.muli v5 c4_i32_262
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_263 : BitVec 32 := 1#32
  let v330 : BitVec 32 := Scalar.muli v11 c1_i32_263
  let v331 : BitVec 32 := Scalar.addi v329 v330
  v331.toNat
def k0_dev12 (d0 : Dev nD) : Nat :=
  let c0_i32_133 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_132 : BitVec 32 := 8#32
  let v173 : BitVec 32 := Scalar.muli v10 c8_i32_132
  let v174 : BitVec 32 := Scalar.addi c0_i32_133 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v175 : BitVec 32 := Scalar.muli v5 c4_i32_134
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v177 : BitVec 32 := Scalar.muli v8 c1_i32_135
  let v178 : BitVec 32 := Scalar.addi v176 v177
  v178.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v185 : BitVec 32 := Scalar.subi v8 c1_i32_138
  let c0_i32_139 : BitVec 32 := 0#32
  let v186 : BitVec 1 := Scalar.cmpi .sge v185 c0_i32_139
  let v187 : BitVec 32 := Scalar.extui v186
  let c0_i32_140 : BitVec 32 := 0#32
  let v188 : BitVec 1 := Scalar.cmpi .ne v187 c0_i32_140
  v188

def k0_off14 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v185 : BitVec 32 := Scalar.subi v8 c1_i32_138
  let c512_i32_254 : BitVec 32 := 512#32
  let v321 : BitVec 32 := Scalar.muli v185 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_266 : BitVec 32 := 3#32
  let v336 : BitVec 1 := Scalar.cmpi .slt v8 c3_i32_266
  let v337 : BitVec 32 := Scalar.extui v336
  let c0_i32_267 : BitVec 32 := 0#32
  let v338 : BitVec 1 := Scalar.cmpi .ne v337 c0_i32_267
  v338

def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v185 : BitVec 32 := Scalar.subi v8 c1_i32_138
  let c512_i32_306 : BitVec 32 := 512#32
  let v391 : BitVec 32 := Scalar.muli v185 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c0_i32_309 : BitVec 32 := 0#32
  let v395 : BitVec 32 := Scalar.addi v394 c0_i32_309
  let c0_i32_316 : BitVec 32 := 0#32
  ![v395.toNat, 0]
def k0_dev13 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_315 : BitVec 32 := 1#32
  let v400 : BitVec 32 := Scalar.muli v12 c1_i32_315
  let v401 : BitVec 32 := Scalar.addi v399 v400
  v401.toNat
def k0_dev14 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v371 : BitVec 1 := Scalar.cmpi .slt v8 c3_i32_292
  let v372 : BitVec 32 := Scalar.extui v371
  let c0_i32_293 : BitVec 32 := 0#32
  let v373 : BitVec 1 := Scalar.cmpi .ne v372 c0_i32_293
  v373

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v185 : BitVec 32 := Scalar.subi v8 c1_i32_138
  let c512_i32_306 : BitVec 32 := 512#32
  let v391 : BitVec 32 := Scalar.muli v185 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c128_i32_309 : BitVec 32 := 128#32
  let v395 : BitVec 32 := Scalar.addi v394 c128_i32_309
  let c0_i32_316 : BitVec 32 := 0#32
  ![v395.toNat, 0]
def k0_dev15 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_315 : BitVec 32 := 1#32
  let v400 : BitVec 32 := Scalar.muli v12 c1_i32_315
  let v401 : BitVec 32 := Scalar.addi v399 v400
  v401.toNat
def k0_dev16 (d0 : Dev nD) : Nat :=
  let c0_i32_301 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_300 : BitVec 32 := 8#32
  let v379 : BitVec 32 := Scalar.muli v10 c8_i32_300
  let v380 : BitVec 32 := Scalar.addi c0_i32_301 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v381 : BitVec 32 := Scalar.muli v5 c4_i32_302
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v383 : BitVec 32 := Scalar.muli v8 c1_i32_303
  let v384 : BitVec 32 := Scalar.addi v382 v383
  v384.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v189 : BitVec 32 := Scalar.addi v8 c1_i32_141
  let c3_i32_142 : BitVec 32 := 3#32
  let v190 : BitVec 1 := Scalar.cmpi .sle v189 c3_i32_142
  let v191 : BitVec 32 := Scalar.extui v190
  let c0_i32_143 : BitVec 32 := 0#32
  let v192 : BitVec 1 := Scalar.cmpi .ne v191 c0_i32_143
  v192

def k0_off17 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v189 : BitVec 32 := Scalar.addi v8 c1_i32_141
  let c512_i32_254 : BitVec 32 := 512#32
  let v321 : BitVec 32 := Scalar.muli v189 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_266 : BitVec 32 := 0#32
  let v336 : BitVec 1 := Scalar.cmpi .sgt v8 c0_i32_266
  let v337 : BitVec 32 := Scalar.extui v336
  let c0_i32_267 : BitVec 32 := 0#32
  let v338 : BitVec 1 := Scalar.cmpi .ne v337 c0_i32_267
  v338

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v189 : BitVec 32 := Scalar.addi v8 c1_i32_141
  let c512_i32_306 : BitVec 32 := 512#32
  let v391 : BitVec 32 := Scalar.muli v189 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c0_i32_309 : BitVec 32 := 0#32
  let v395 : BitVec 32 := Scalar.addi v394 c0_i32_309
  let c0_i32_316 : BitVec 32 := 0#32
  ![v395.toNat, 0]
def k0_dev17 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_315 : BitVec 32 := 1#32
  let v400 : BitVec 32 := Scalar.muli v11 c1_i32_315
  let v401 : BitVec 32 := Scalar.addi v399 v400
  v401.toNat
def k0_dev18 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_292 : BitVec 32 := 0#32
  let v371 : BitVec 1 := Scalar.cmpi .sgt v8 c0_i32_292
  let v372 : BitVec 32 := Scalar.extui v371
  let c0_i32_293 : BitVec 32 := 0#32
  let v373 : BitVec 1 := Scalar.cmpi .ne v372 c0_i32_293
  v373

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v189 : BitVec 32 := Scalar.addi v8 c1_i32_141
  let c512_i32_306 : BitVec 32 := 512#32
  let v391 : BitVec 32 := Scalar.muli v189 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c128_i32_309 : BitVec 32 := 128#32
  let v395 : BitVec 32 := Scalar.addi v394 c128_i32_309
  let c0_i32_316 : BitVec 32 := 0#32
  ![v395.toNat, 0]
def k0_dev19 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_315 : BitVec 32 := 1#32
  let v400 : BitVec 32 := Scalar.muli v11 c1_i32_315
  let v401 : BitVec 32 := Scalar.addi v399 v400
  v401.toNat
def k0_dev20 (d0 : Dev nD) : Nat :=
  let c0_i32_301 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_300 : BitVec 32 := 8#32
  let v379 : BitVec 32 := Scalar.muli v10 c8_i32_300
  let v380 : BitVec 32 := Scalar.addi c0_i32_301 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v381 : BitVec 32 := Scalar.muli v5 c4_i32_302
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v383 : BitVec 32 := Scalar.muli v8 c1_i32_303
  let v384 : BitVec 32 := Scalar.addi v382 v383
  v384.toNat
def k0_off20 (d0 : Dev nD) (c0_i32_148 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_145 : BitVec 32 := 512#32
  let v194 : BitVec 32 := Scalar.muli v8 c512_i32_145
  let c1_i32_144 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v193 : BitVec 32 := Scalar.subi c1_i32_144 v2
  let c2_i32_146 : BitVec 32 := 2#32
  let v195 : BitVec 32 := Scalar.muli v193 c2_i32_146
  let c128_i32_147 : BitVec 32 := 128#32
  let v196 : BitVec 32 := Scalar.muli v195 c128_i32_147
  let v197 : BitVec 32 := Scalar.addi v194 v196
  let v198 : BitVec 32 := Scalar.addi v197 c0_i32_148
  let c0_i32_155 : BitVec 32 := 0#32
  ![v198.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_170 : BitVec 32 := 2#32
  let v225 : BitVec 32 := Scalar.subi v8 c2_i32_170
  let c0_i32_171 : BitVec 32 := 0#32
  let v226 : BitVec 1 := Scalar.cmpi .sge v225 c0_i32_171
  let v227 : BitVec 32 := Scalar.extui v226
  let c0_i32_172 : BitVec 32 := 0#32
  let v228 : BitVec 1 := Scalar.cmpi .ne v227 c0_i32_172
  v228

def k0_off21 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_170 : BitVec 32 := 2#32
  let v225 : BitVec 32 := Scalar.subi v8 c2_i32_170
  let c512_i32_254 : BitVec 32 := 512#32
  let v321 : BitVec 32 := Scalar.muli v225 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_266 : BitVec 32 := 3#32
  let v336 : BitVec 1 := Scalar.cmpi .slt v8 c3_i32_266
  let v337 : BitVec 32 := Scalar.extui v336
  let c0_i32_267 : BitVec 32 := 0#32
  let v338 : BitVec 1 := Scalar.cmpi .ne v337 c0_i32_267
  v338

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_170 : BitVec 32 := 2#32
  let v225 : BitVec 32 := Scalar.subi v8 c2_i32_170
  let c512_i32_306 : BitVec 32 := 512#32
  let v391 : BitVec 32 := Scalar.muli v225 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c0_i32_309 : BitVec 32 := 0#32
  let v395 : BitVec 32 := Scalar.addi v394 c0_i32_309
  let c0_i32_316 : BitVec 32 := 0#32
  ![v395.toNat, 0]
def k0_dev21 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_315 : BitVec 32 := 1#32
  let v400 : BitVec 32 := Scalar.muli v12 c1_i32_315
  let v401 : BitVec 32 := Scalar.addi v399 v400
  v401.toNat
def k0_dev22 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_292 : BitVec 32 := 3#32
  let v371 : BitVec 1 := Scalar.cmpi .slt v8 c3_i32_292
  let v372 : BitVec 32 := Scalar.extui v371
  let c0_i32_293 : BitVec 32 := 0#32
  let v373 : BitVec 1 := Scalar.cmpi .ne v372 c0_i32_293
  v373

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_170 : BitVec 32 := 2#32
  let v225 : BitVec 32 := Scalar.subi v8 c2_i32_170
  let c512_i32_306 : BitVec 32 := 512#32
  let v391 : BitVec 32 := Scalar.muli v225 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c128_i32_309 : BitVec 32 := 128#32
  let v395 : BitVec 32 := Scalar.addi v394 c128_i32_309
  let c0_i32_315 : BitVec 32 := 0#32
  ![v395.toNat, 0]
def k0_dev23 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_314 : BitVec 32 := 1#32
  let v400 : BitVec 32 := Scalar.muli v12 c1_i32_314
  let v401 : BitVec 32 := Scalar.addi v399 v400
  v401.toNat
def k0_dev24 (d0 : Dev nD) : Nat :=
  let c0_i32_301 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_300 : BitVec 32 := 8#32
  let v379 : BitVec 32 := Scalar.muli v10 c8_i32_300
  let v380 : BitVec 32 := Scalar.addi c0_i32_301 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v381 : BitVec 32 := Scalar.muli v5 c4_i32_302
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v383 : BitVec 32 := Scalar.muli v8 c1_i32_303
  let v384 : BitVec 32 := Scalar.addi v382 v383
  v384.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_173 : BitVec 32 := 2#32
  let v229 : BitVec 32 := Scalar.addi v8 c2_i32_173
  let c3_i32_174 : BitVec 32 := 3#32
  let v230 : BitVec 1 := Scalar.cmpi .sle v229 c3_i32_174
  let v231 : BitVec 32 := Scalar.extui v230
  let c0_i32_175 : BitVec 32 := 0#32
  let v232 : BitVec 1 := Scalar.cmpi .ne v231 c0_i32_175
  v232

def k0_off24 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_173 : BitVec 32 := 2#32
  let v229 : BitVec 32 := Scalar.addi v8 c2_i32_173
  let c512_i32_254 : BitVec 32 := 512#32
  let v321 : BitVec 32 := Scalar.muli v229 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_266 : BitVec 32 := 0#32
  let v336 : BitVec 1 := Scalar.cmpi .sgt v8 c0_i32_266
  let v337 : BitVec 32 := Scalar.extui v336
  let c0_i32_267 : BitVec 32 := 0#32
  let v338 : BitVec 1 := Scalar.cmpi .ne v337 c0_i32_267
  v338

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_173 : BitVec 32 := 2#32
  let v229 : BitVec 32 := Scalar.addi v8 c2_i32_173
  let c512_i32_306 : BitVec 32 := 512#32
  let v391 : BitVec 32 := Scalar.muli v229 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c0_i32_309 : BitVec 32 := 0#32
  let v395 : BitVec 32 := Scalar.addi v394 c0_i32_309
  let c0_i32_316 : BitVec 32 := 0#32
  ![v395.toNat, 0]
def k0_dev25 (d0 : Dev nD) : Nat :=
  let c0_i32_313 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_312 : BitVec 32 := 8#32
  let v396 : BitVec 32 := Scalar.muli v2 c8_i32_312
  let v397 : BitVec 32 := Scalar.addi c0_i32_313 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_314 : BitVec 32 := 4#32
  let v398 : BitVec 32 := Scalar.muli v5 c4_i32_314
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_315 : BitVec 32 := 1#32
  let v400 : BitVec 32 := Scalar.muli v11 c1_i32_315
  let v401 : BitVec 32 := Scalar.addi v399 v400
  v401.toNat
def k0_dev26 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_292 : BitVec 32 := 0#32
  let v371 : BitVec 1 := Scalar.cmpi .sgt v8 c0_i32_292
  let v372 : BitVec 32 := Scalar.extui v371
  let c0_i32_293 : BitVec 32 := 0#32
  let v373 : BitVec 1 := Scalar.cmpi .ne v372 c0_i32_293
  v373

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_173 : BitVec 32 := 2#32
  let v229 : BitVec 32 := Scalar.addi v8 c2_i32_173
  let c512_i32_306 : BitVec 32 := 512#32
  let v391 : BitVec 32 := Scalar.muli v229 c512_i32_306
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_307 : BitVec 32 := 2#32
  let v392 : BitVec 32 := Scalar.muli v2 c2_i32_307
  let c128_i32_308 : BitVec 32 := 128#32
  let v393 : BitVec 32 := Scalar.muli v392 c128_i32_308
  let v394 : BitVec 32 := Scalar.addi v391 v393
  let c128_i32_309 : BitVec 32 := 128#32
  let v395 : BitVec 32 := Scalar.addi v394 c128_i32_309
  let c0_i32_315 : BitVec 32 := 0#32
  ![v395.toNat, 0]
def k0_dev27 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_314 : BitVec 32 := 1#32
  let v400 : BitVec 32 := Scalar.muli v11 c1_i32_314
  let v401 : BitVec 32 := Scalar.addi v399 v400
  v401.toNat
def k0_dev28 (d0 : Dev nD) : Nat :=
  let c0_i32_301 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_300 : BitVec 32 := 8#32
  let v379 : BitVec 32 := Scalar.muli v10 c8_i32_300
  let v380 : BitVec 32 := Scalar.addi c0_i32_301 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v381 : BitVec 32 := Scalar.muli v5 c4_i32_302
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v383 : BitVec 32 := Scalar.muli v8 c1_i32_303
  let v384 : BitVec 32 := Scalar.addi v382 v383
  v384.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v233 : BitVec 32 := Scalar.subi v8 c1_i32_176
  let c0_i32_177 : BitVec 32 := 0#32
  let v234 : BitVec 1 := Scalar.cmpi .sge v233 c0_i32_177
  let v235 : BitVec 32 := Scalar.extui v234
  let c0_i32_178 : BitVec 32 := 0#32
  let v236 : BitVec 1 := Scalar.cmpi .ne v235 c0_i32_178
  v236

def k0_off27 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v233 : BitVec 32 := Scalar.subi v8 c1_i32_176
  let c512_i32_255 : BitVec 32 := 512#32
  let v322 : BitVec 32 := Scalar.muli v233 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v237 : BitVec 32 := Scalar.addi v8 c1_i32_179
  let c3_i32_180 : BitVec 32 := 3#32
  let v238 : BitVec 1 := Scalar.cmpi .sle v237 c3_i32_180
  let v239 : BitVec 32 := Scalar.extui v238
  let c0_i32_181 : BitVec 32 := 0#32
  let v240 : BitVec 1 := Scalar.cmpi .ne v239 c0_i32_181
  v240

def k0_off28 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v237 : BitVec 32 := Scalar.addi v8 c1_i32_179
  let c512_i32_255 : BitVec 32 := 512#32
  let v322 : BitVec 32 := Scalar.muli v237 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v241 : BitVec 32 := Scalar.subi v8 c3_i32_182
  let c0_i32_183 : BitVec 32 := 0#32
  let v242 : BitVec 1 := Scalar.cmpi .sge v241 c0_i32_183
  let v243 : BitVec 32 := Scalar.extui v242
  let c0_i32_184 : BitVec 32 := 0#32
  let v244 : BitVec 1 := Scalar.cmpi .ne v243 c0_i32_184
  v244

def k0_off29 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v241 : BitVec 32 := Scalar.subi v8 c3_i32_182
  let c512_i32_254 : BitVec 32 := 512#32
  let v321 : BitVec 32 := Scalar.muli v241 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_266 : BitVec 32 := 3#32
  let v336 : BitVec 1 := Scalar.cmpi .slt v8 c3_i32_266
  let v337 : BitVec 32 := Scalar.extui v336
  let c0_i32_267 : BitVec 32 := 0#32
  let v338 : BitVec 1 := Scalar.cmpi .ne v337 c0_i32_267
  v338

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v241 : BitVec 32 := Scalar.subi v8 c3_i32_182
  let c512_i32_305 : BitVec 32 := 512#32
  let v391 : BitVec 32 := Scalar.muli v241 c512_i32_305
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v392 : BitVec 32 := Scalar.muli v2 c2_i32_306
  let c128_i32_307 : BitVec 32 := 128#32
  let v393 : BitVec 32 := Scalar.muli v392 c128_i32_307
  let v394 : BitVec 32 := Scalar.addi v391 v393
  let c0_i32_308 : BitVec 32 := 0#32
  let v395 : BitVec 32 := Scalar.addi v394 c0_i32_308
  let c0_i32_315 : BitVec 32 := 0#32
  ![v395.toNat, 0]
def k0_dev29 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_314 : BitVec 32 := 1#32
  let v400 : BitVec 32 := Scalar.muli v12 c1_i32_314
  let v401 : BitVec 32 := Scalar.addi v399 v400
  v401.toNat
def k0_dev30 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_291 : BitVec 32 := 3#32
  let v371 : BitVec 1 := Scalar.cmpi .slt v8 c3_i32_291
  let v372 : BitVec 32 := Scalar.extui v371
  let c0_i32_292 : BitVec 32 := 0#32
  let v373 : BitVec 1 := Scalar.cmpi .ne v372 c0_i32_292
  v373

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_182 : BitVec 32 := 3#32
  let v241 : BitVec 32 := Scalar.subi v8 c3_i32_182
  let c512_i32_305 : BitVec 32 := 512#32
  let v391 : BitVec 32 := Scalar.muli v241 c512_i32_305
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v392 : BitVec 32 := Scalar.muli v2 c2_i32_306
  let c128_i32_307 : BitVec 32 := 128#32
  let v393 : BitVec 32 := Scalar.muli v392 c128_i32_307
  let v394 : BitVec 32 := Scalar.addi v391 v393
  let c128_i32_308 : BitVec 32 := 128#32
  let v395 : BitVec 32 := Scalar.addi v394 c128_i32_308
  let c0_i32_315 : BitVec 32 := 0#32
  ![v395.toNat, 0]
def k0_dev31 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c1_i32_314 : BitVec 32 := 1#32
  let v400 : BitVec 32 := Scalar.muli v12 c1_i32_314
  let v401 : BitVec 32 := Scalar.addi v399 v400
  v401.toNat
def k0_dev32 (d0 : Dev nD) : Nat :=
  let c0_i32_300 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_299 : BitVec 32 := 8#32
  let v379 : BitVec 32 := Scalar.muli v10 c8_i32_299
  let v380 : BitVec 32 := Scalar.addi c0_i32_300 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v381 : BitVec 32 := Scalar.muli v5 c4_i32_301
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v383 : BitVec 32 := Scalar.muli v8 c1_i32_302
  let v384 : BitVec 32 := Scalar.addi v382 v383
  v384.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_185 : BitVec 32 := 3#32
  let v245 : BitVec 32 := Scalar.addi v8 c3_i32_185
  let c3_i32_186 : BitVec 32 := 3#32
  let v246 : BitVec 1 := Scalar.cmpi .sle v245 c3_i32_186
  let v247 : BitVec 32 := Scalar.extui v246
  let c0_i32_187 : BitVec 32 := 0#32
  let v248 : BitVec 1 := Scalar.cmpi .ne v247 c0_i32_187
  v248

def k0_off32 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_185 : BitVec 32 := 3#32
  let v245 : BitVec 32 := Scalar.addi v8 c3_i32_185
  let c512_i32_254 : BitVec 32 := 512#32
  let v321 : BitVec 32 := Scalar.muli v245 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_264 : BitVec 32 := 0#32
  ![v325.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_266 : BitVec 32 := 0#32
  let v336 : BitVec 1 := Scalar.cmpi .sgt v8 c0_i32_266
  let v337 : BitVec 32 := Scalar.extui v336
  let c0_i32_267 : BitVec 32 := 0#32
  let v338 : BitVec 1 := Scalar.cmpi .ne v337 c0_i32_267
  v338

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_185 : BitVec 32 := 3#32
  let v245 : BitVec 32 := Scalar.addi v8 c3_i32_185
  let c512_i32_305 : BitVec 32 := 512#32
  let v391 : BitVec 32 := Scalar.muli v245 c512_i32_305
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v392 : BitVec 32 := Scalar.muli v2 c2_i32_306
  let c128_i32_307 : BitVec 32 := 128#32
  let v393 : BitVec 32 := Scalar.muli v392 c128_i32_307
  let v394 : BitVec 32 := Scalar.addi v391 v393
  let c0_i32_308 : BitVec 32 := 0#32
  let v395 : BitVec 32 := Scalar.addi v394 c0_i32_308
  let c0_i32_315 : BitVec 32 := 0#32
  ![v395.toNat, 0]
def k0_dev33 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_314 : BitVec 32 := 1#32
  let v400 : BitVec 32 := Scalar.muli v11 c1_i32_314
  let v401 : BitVec 32 := Scalar.addi v399 v400
  v401.toNat
def k0_dev34 (d0 : Dev nD) : Nat :=
  let c0_i32_275 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_274 : BitVec 32 := 8#32
  let v344 : BitVec 32 := Scalar.muli v10 c8_i32_274
  let v345 : BitVec 32 := Scalar.addi c0_i32_275 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v346 : BitVec 32 := Scalar.muli v5 c4_i32_276
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_277 : BitVec 32 := 1#32
  let v348 : BitVec 32 := Scalar.muli v8 c1_i32_277
  let v349 : BitVec 32 := Scalar.addi v347 v348
  v349.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_291 : BitVec 32 := 0#32
  let v371 : BitVec 1 := Scalar.cmpi .sgt v8 c0_i32_291
  let v372 : BitVec 32 := Scalar.extui v371
  let c0_i32_292 : BitVec 32 := 0#32
  let v373 : BitVec 1 := Scalar.cmpi .ne v372 c0_i32_292
  v373

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_185 : BitVec 32 := 3#32
  let v245 : BitVec 32 := Scalar.addi v8 c3_i32_185
  let c512_i32_305 : BitVec 32 := 512#32
  let v391 : BitVec 32 := Scalar.muli v245 c512_i32_305
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_306 : BitVec 32 := 2#32
  let v392 : BitVec 32 := Scalar.muli v2 c2_i32_306
  let c128_i32_307 : BitVec 32 := 128#32
  let v393 : BitVec 32 := Scalar.muli v392 c128_i32_307
  let v394 : BitVec 32 := Scalar.addi v391 v393
  let c128_i32_308 : BitVec 32 := 128#32
  let v395 : BitVec 32 := Scalar.addi v394 c128_i32_308
  let c0_i32_315 : BitVec 32 := 0#32
  ![v395.toNat, 0]
def k0_dev35 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v396 : BitVec 32 := Scalar.muli v2 c8_i32_311
  let v397 : BitVec 32 := Scalar.addi c0_i32_312 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.subi v8 c1_i32_4
  let c1_i32_314 : BitVec 32 := 1#32
  let v400 : BitVec 32 := Scalar.muli v11 c1_i32_314
  let v401 : BitVec 32 := Scalar.addi v399 v400
  v401.toNat
def k0_dev36 (d0 : Dev nD) : Nat :=
  let c0_i32_300 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_299 : BitVec 32 := 8#32
  let v379 : BitVec 32 := Scalar.muli v10 c8_i32_299
  let v380 : BitVec 32 := Scalar.addi c0_i32_300 v379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v381 : BitVec 32 := Scalar.muli v5 c4_i32_301
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v383 : BitVec 32 := Scalar.muli v8 c1_i32_302
  let v384 : BitVec 32 := Scalar.addi v382 v383
  v384.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_188 : BitVec 32 := 2#32
  let v249 : BitVec 32 := Scalar.subi v8 c2_i32_188
  let c0_i32_189 : BitVec 32 := 0#32
  let v250 : BitVec 1 := Scalar.cmpi .sge v249 c0_i32_189
  let v251 : BitVec 32 := Scalar.extui v250
  let c0_i32_190 : BitVec 32 := 0#32
  let v252 : BitVec 1 := Scalar.cmpi .ne v251 c0_i32_190
  v252

def k0_off35 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_188 : BitVec 32 := 2#32
  let v249 : BitVec 32 := Scalar.subi v8 c2_i32_188
  let c512_i32_255 : BitVec 32 := 512#32
  let v322 : BitVec 32 := Scalar.muli v249 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v253 : BitVec 32 := Scalar.addi v8 c2_i32_191
  let c3_i32_192 : BitVec 32 := 3#32
  let v254 : BitVec 1 := Scalar.cmpi .sle v253 c3_i32_192
  let v255 : BitVec 32 := Scalar.extui v254
  let c0_i32_193 : BitVec 32 := 0#32
  let v256 : BitVec 1 := Scalar.cmpi .ne v255 c0_i32_193
  v256

def k0_off36 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v253 : BitVec 32 := Scalar.addi v8 c2_i32_191
  let c512_i32_255 : BitVec 32 := 512#32
  let v322 : BitVec 32 := Scalar.muli v253 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_194 : BitVec 32 := 3#32
  let v257 : BitVec 32 := Scalar.subi v8 c3_i32_194
  let c0_i32_195 : BitVec 32 := 0#32
  let v258 : BitVec 1 := Scalar.cmpi .sge v257 c0_i32_195
  let v259 : BitVec 32 := Scalar.extui v258
  let c0_i32_196 : BitVec 32 := 0#32
  let v260 : BitVec 1 := Scalar.cmpi .ne v259 c0_i32_196
  v260

def k0_off37 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_194 : BitVec 32 := 3#32
  let v257 : BitVec 32 := Scalar.subi v8 c3_i32_194
  let c512_i32_255 : BitVec 32 := 512#32
  let v322 : BitVec 32 := Scalar.muli v257 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_197 : BitVec 32 := 3#32
  let v261 : BitVec 32 := Scalar.addi v8 c3_i32_197
  let c3_i32_198 : BitVec 32 := 3#32
  let v262 : BitVec 1 := Scalar.cmpi .sle v261 c3_i32_198
  let v263 : BitVec 32 := Scalar.extui v262
  let c0_i32_199 : BitVec 32 := 0#32
  let v264 : BitVec 1 := Scalar.cmpi .ne v263 c0_i32_199
  v264

def k0_off38 (d0 : Dev nD) (c0_i32_258 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_197 : BitVec 32 := 3#32
  let v261 : BitVec 32 := Scalar.addi v8 c3_i32_197
  let c512_i32_255 : BitVec 32 := 512#32
  let v322 : BitVec 32 := Scalar.muli v261 c512_i32_255
  let c1_i32_254 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v321 : BitVec 32 := Scalar.subi c1_i32_254 v2
  let c2_i32_256 : BitVec 32 := 2#32
  let v323 : BitVec 32 := Scalar.muli v321 c2_i32_256
  let c128_i32_257 : BitVec 32 := 128#32
  let v324 : BitVec 32 := Scalar.muli v323 c128_i32_257
  let v325 : BitVec 32 := Scalar.addi v322 v324
  let v326 : BitVec 32 := Scalar.addi v325 c0_i32_258
  let c0_i32_265 : BitVec 32 := 0#32
  ![v326.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_232 : BitVec 32 := 3#32
  let v291 : BitVec 1 := Scalar.cmpi .slt v8 c3_i32_232
  let v292 : BitVec 32 := Scalar.extui v291
  let c0_i32_233 : BitVec 32 := 0#32
  let v293 : BitVec 1 := Scalar.cmpi .ne v292 c0_i32_233
  v293

def k0_off39 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_261 : BitVec 32 := 0#32
  ![v325.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_234 : BitVec 32 := 0#32
  let v294 : BitVec 1 := Scalar.cmpi .sgt v8 c0_i32_234
  let v295 : BitVec 32 := Scalar.extui v294
  let c0_i32_235 : BitVec 32 := 0#32
  let v296 : BitVec 1 := Scalar.cmpi .ne v295 c0_i32_235
  v296

def k0_off40 (d0 : Dev nD) (c0_i32_257 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_254 : BitVec 32 := 512#32
  let v321 : BitVec 32 := Scalar.muli v8 c512_i32_254
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_255 : BitVec 32 := 2#32
  let v322 : BitVec 32 := Scalar.muli v2 c2_i32_255
  let c128_i32_256 : BitVec 32 := 128#32
  let v323 : BitVec 32 := Scalar.muli v322 c128_i32_256
  let v324 : BitVec 32 := Scalar.addi v321 v323
  let v325 : BitVec 32 := Scalar.addi v324 c0_i32_257
  let c0_i32_261 : BitVec 32 := 0#32
  ![v325.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v297 : BitVec 32 := Scalar.subi v8 c1_i32_236
  let c0_i32_237 : BitVec 32 := 0#32
  let v298 : BitVec 1 := Scalar.cmpi .sge v297 c0_i32_237
  let v299 : BitVec 32 := Scalar.extui v298
  let c0_i32_238 : BitVec 32 := 0#32
  let v300 : BitVec 1 := Scalar.cmpi .ne v299 c0_i32_238
  v300

def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_254 : BitVec 32 := 3#32
  let v321 : BitVec 1 := Scalar.cmpi .slt v8 c3_i32_254
  let v322 : BitVec 32 := Scalar.extui v321
  let c0_i32_255 : BitVec 32 := 0#32
  let v323 : BitVec 1 := Scalar.cmpi .ne v322 c0_i32_255
  v323

def k0_off41 (d0 : Dev nD) (c0_i32_277 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v297 : BitVec 32 := Scalar.subi v8 c1_i32_236
  let c512_i32_274 : BitVec 32 := 512#32
  let v342 : BitVec 32 := Scalar.muli v297 c512_i32_274
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_275 : BitVec 32 := 2#32
  let v343 : BitVec 32 := Scalar.muli v2 c2_i32_275
  let c128_i32_276 : BitVec 32 := 128#32
  let v344 : BitVec 32 := Scalar.muli v343 c128_i32_276
  let v345 : BitVec 32 := Scalar.addi v342 v344
  let v346 : BitVec 32 := Scalar.addi v345 c0_i32_277
  let c0_i32_281 : BitVec 32 := 0#32
  ![v346.toNat, 0]
def k0_off42 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v297 : BitVec 32 := Scalar.subi v8 c1_i32_236
  let c512_i32_256 : BitVec 32 := 512#32
  let v324 : BitVec 32 := Scalar.muli v297 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v301 : BitVec 32 := Scalar.addi v8 c1_i32_239
  let c3_i32_240 : BitVec 32 := 3#32
  let v302 : BitVec 1 := Scalar.cmpi .sle v301 c3_i32_240
  let v303 : BitVec 32 := Scalar.extui v302
  let c0_i32_241 : BitVec 32 := 0#32
  let v304 : BitVec 1 := Scalar.cmpi .ne v303 c0_i32_241
  v304

def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_254 : BitVec 32 := 0#32
  let v321 : BitVec 1 := Scalar.cmpi .sgt v8 c0_i32_254
  let v322 : BitVec 32 := Scalar.extui v321
  let c0_i32_255 : BitVec 32 := 0#32
  let v323 : BitVec 1 := Scalar.cmpi .ne v322 c0_i32_255
  v323

def k0_off43 (d0 : Dev nD) (c0_i32_277 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v301 : BitVec 32 := Scalar.addi v8 c1_i32_239
  let c512_i32_274 : BitVec 32 := 512#32
  let v342 : BitVec 32 := Scalar.muli v301 c512_i32_274
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_275 : BitVec 32 := 2#32
  let v343 : BitVec 32 := Scalar.muli v2 c2_i32_275
  let c128_i32_276 : BitVec 32 := 128#32
  let v344 : BitVec 32 := Scalar.muli v343 c128_i32_276
  let v345 : BitVec 32 := Scalar.addi v342 v344
  let v346 : BitVec 32 := Scalar.addi v345 c0_i32_277
  let c0_i32_281 : BitVec 32 := 0#32
  ![v346.toNat, 0]
def k0_off44 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v301 : BitVec 32 := Scalar.addi v8 c1_i32_239
  let c512_i32_256 : BitVec 32 := 512#32
  let v324 : BitVec 32 := Scalar.muli v301 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_242 : BitVec 32 := 2#32
  let v305 : BitVec 32 := Scalar.subi v8 c2_i32_242
  let c0_i32_243 : BitVec 32 := 0#32
  let v306 : BitVec 1 := Scalar.cmpi .sge v305 c0_i32_243
  let v307 : BitVec 32 := Scalar.extui v306
  let c0_i32_244 : BitVec 32 := 0#32
  let v308 : BitVec 1 := Scalar.cmpi .ne v307 c0_i32_244
  v308

def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_254 : BitVec 32 := 3#32
  let v321 : BitVec 1 := Scalar.cmpi .slt v8 c3_i32_254
  let v322 : BitVec 32 := Scalar.extui v321
  let c0_i32_255 : BitVec 32 := 0#32
  let v323 : BitVec 1 := Scalar.cmpi .ne v322 c0_i32_255
  v323

def k0_off45 (d0 : Dev nD) (c0_i32_277 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_242 : BitVec 32 := 2#32
  let v305 : BitVec 32 := Scalar.subi v8 c2_i32_242
  let c512_i32_274 : BitVec 32 := 512#32
  let v342 : BitVec 32 := Scalar.muli v305 c512_i32_274
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_275 : BitVec 32 := 2#32
  let v343 : BitVec 32 := Scalar.muli v2 c2_i32_275
  let c128_i32_276 : BitVec 32 := 128#32
  let v344 : BitVec 32 := Scalar.muli v343 c128_i32_276
  let v345 : BitVec 32 := Scalar.addi v342 v344
  let v346 : BitVec 32 := Scalar.addi v345 c0_i32_277
  let c0_i32_281 : BitVec 32 := 0#32
  ![v346.toNat, 0]
def k0_off46 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_242 : BitVec 32 := 2#32
  let v305 : BitVec 32 := Scalar.subi v8 c2_i32_242
  let c512_i32_256 : BitVec 32 := 512#32
  let v324 : BitVec 32 := Scalar.muli v305 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_245 : BitVec 32 := 2#32
  let v309 : BitVec 32 := Scalar.addi v8 c2_i32_245
  let c3_i32_246 : BitVec 32 := 3#32
  let v310 : BitVec 1 := Scalar.cmpi .sle v309 c3_i32_246
  let v311 : BitVec 32 := Scalar.extui v310
  let c0_i32_247 : BitVec 32 := 0#32
  let v312 : BitVec 1 := Scalar.cmpi .ne v311 c0_i32_247
  v312

def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_254 : BitVec 32 := 0#32
  let v321 : BitVec 1 := Scalar.cmpi .sgt v8 c0_i32_254
  let v322 : BitVec 32 := Scalar.extui v321
  let c0_i32_255 : BitVec 32 := 0#32
  let v323 : BitVec 1 := Scalar.cmpi .ne v322 c0_i32_255
  v323

def k0_off47 (d0 : Dev nD) (c0_i32_277 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_245 : BitVec 32 := 2#32
  let v309 : BitVec 32 := Scalar.addi v8 c2_i32_245
  let c512_i32_274 : BitVec 32 := 512#32
  let v342 : BitVec 32 := Scalar.muli v309 c512_i32_274
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_275 : BitVec 32 := 2#32
  let v343 : BitVec 32 := Scalar.muli v2 c2_i32_275
  let c128_i32_276 : BitVec 32 := 128#32
  let v344 : BitVec 32 := Scalar.muli v343 c128_i32_276
  let v345 : BitVec 32 := Scalar.addi v342 v344
  let v346 : BitVec 32 := Scalar.addi v345 c0_i32_277
  let c0_i32_281 : BitVec 32 := 0#32
  ![v346.toNat, 0]
def k0_off48 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_245 : BitVec 32 := 2#32
  let v309 : BitVec 32 := Scalar.addi v8 c2_i32_245
  let c512_i32_256 : BitVec 32 := 512#32
  let v324 : BitVec 32 := Scalar.muli v309 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v313 : BitVec 32 := Scalar.subi v8 c3_i32_248
  let c0_i32_249 : BitVec 32 := 0#32
  let v314 : BitVec 1 := Scalar.cmpi .sge v313 c0_i32_249
  let v315 : BitVec 32 := Scalar.extui v314
  let c0_i32_250 : BitVec 32 := 0#32
  let v316 : BitVec 1 := Scalar.cmpi .ne v315 c0_i32_250
  v316

def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_254 : BitVec 32 := 3#32
  let v321 : BitVec 1 := Scalar.cmpi .slt v8 c3_i32_254
  let v322 : BitVec 32 := Scalar.extui v321
  let c0_i32_255 : BitVec 32 := 0#32
  let v323 : BitVec 1 := Scalar.cmpi .ne v322 c0_i32_255
  v323

def k0_off49 (d0 : Dev nD) (c0_i32_276 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v313 : BitVec 32 := Scalar.subi v8 c3_i32_248
  let c512_i32_273 : BitVec 32 := 512#32
  let v342 : BitVec 32 := Scalar.muli v313 c512_i32_273
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_274 : BitVec 32 := 2#32
  let v343 : BitVec 32 := Scalar.muli v2 c2_i32_274
  let c128_i32_275 : BitVec 32 := 128#32
  let v344 : BitVec 32 := Scalar.muli v343 c128_i32_275
  let v345 : BitVec 32 := Scalar.addi v342 v344
  let v346 : BitVec 32 := Scalar.addi v345 c0_i32_276
  let c0_i32_280 : BitVec 32 := 0#32
  ![v346.toNat, 0]
def k0_off50 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_248 : BitVec 32 := 3#32
  let v313 : BitVec 32 := Scalar.subi v8 c3_i32_248
  let c512_i32_256 : BitVec 32 := 512#32
  let v324 : BitVec 32 := Scalar.muli v313 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_251 : BitVec 32 := 3#32
  let v317 : BitVec 32 := Scalar.addi v8 c3_i32_251
  let c3_i32_252 : BitVec 32 := 3#32
  let v318 : BitVec 1 := Scalar.cmpi .sle v317 c3_i32_252
  let v319 : BitVec 32 := Scalar.extui v318
  let c0_i32_253 : BitVec 32 := 0#32
  let v320 : BitVec 1 := Scalar.cmpi .ne v319 c0_i32_253
  v320

def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_254 : BitVec 32 := 0#32
  let v321 : BitVec 1 := Scalar.cmpi .sgt v8 c0_i32_254
  let v322 : BitVec 32 := Scalar.extui v321
  let c0_i32_255 : BitVec 32 := 0#32
  let v323 : BitVec 1 := Scalar.cmpi .ne v322 c0_i32_255
  v323

def k0_off51 (d0 : Dev nD) (c0_i32_276 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_251 : BitVec 32 := 3#32
  let v317 : BitVec 32 := Scalar.addi v8 c3_i32_251
  let c512_i32_273 : BitVec 32 := 512#32
  let v342 : BitVec 32 := Scalar.muli v317 c512_i32_273
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_274 : BitVec 32 := 2#32
  let v343 : BitVec 32 := Scalar.muli v2 c2_i32_274
  let c128_i32_275 : BitVec 32 := 128#32
  let v344 : BitVec 32 := Scalar.muli v343 c128_i32_275
  let v345 : BitVec 32 := Scalar.addi v342 v344
  let v346 : BitVec 32 := Scalar.addi v345 c0_i32_276
  let c0_i32_280 : BitVec 32 := 0#32
  ![v346.toNat, 0]
def k0_off52 (d0 : Dev nD) (c0_i32_259 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_251 : BitVec 32 := 3#32
  let v317 : BitVec 32 := Scalar.addi v8 c3_i32_251
  let c512_i32_256 : BitVec 32 := 512#32
  let v324 : BitVec 32 := Scalar.muli v317 c512_i32_256
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_257 : BitVec 32 := 2#32
  let v325 : BitVec 32 := Scalar.muli v2 c2_i32_257
  let c128_i32_258 : BitVec 32 := 128#32
  let v326 : BitVec 32 := Scalar.muli v325 c128_i32_258
  let v327 : BitVec 32 := Scalar.addi v324 v326
  let v328 : BitVec 32 := Scalar.addi v327 c0_i32_259
  let c0_i32_263 : BitVec 32 := 0#32
  ![v328.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | .hbm, ⟨11, _⟩ => ⟨S2048x1024, .bf16⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Tables.lean ====
/-
  The copies of the kernel, numbered. Every device issues at most 28 copies, each moving one block of
  128 rows: two to its `y` partner, two of its own blocks to its `x` partner, and for each of the two
  directions along `z` six along the line and six to the `x` partner. This file says which of them a
  device issues, to whom, on which semaphores, and which block each moves; and it reads the printed
  device words, conditions and offsets off that numbering.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Regions
public import Idealize.ShloMosaic.Lib.Rounds
public import Idealize.ShloMosaic.Lib.Batch
public import Idealize.ShloMosaic.Lib.Pipeline.Regions
public import Idealize.ShloMosaic.Lib.Pipeline.RegionTalk
public import Idealize.ShloMosaic.Lib.Pipeline.Kit
public import Idealize.ShloMosaic.Lib.Tactic

@[expose] public section

noncomputable section

namespace Cert.Embed

open Cert.KernelIdeal Cert.KernelIdeal.Gen
open Idealize.ShloMosaic Idealize.ShloMosaic.TcCoe
open Idealize.SL Idealize.SL.Sem

/-- The number of a copy. `0, 1`: the two halves of the gathered rows, to the `y` partner. `2, 3`: the
    device's own two blocks, to the `x` partner. `4 + 6 * side + 2 * d + j`: half `j` of the block that
    began `d` devices back on the line, one step further (`side` 0 upwards, 1 downwards).
    `16 + 6 * side + 2 * (d - 1) + j`: half `j` of the block that began `d` devices back, to the `x` partner. -/
abbrev Cp : Type := Fin 28

def yFlip (c : Dev nD) : Dev nD := ⟨if c.val / 4 % 2 = 0 then c.val + 4 else c.val - 4, by have := c.isLt; simp only [nD] at *; split <;> omega⟩
def xFlip (c : Dev nD) : Dev nD := ⟨if c.val / 8 = 0 then c.val + 8 else c.val - 8, by have := c.isLt; simp only [nD] at *; split <;> omega⟩
/-- The next device up the line, the last one's being the first. -/
def zUp (c : Dev nD) : Dev nD := ⟨if c.val % 4 = 3 then c.val - 3 else c.val + 1, by have := c.isLt; simp only [nD] at *; split <;> omega⟩
def zDown (c : Dev nD) : Dev nD := ⟨if c.val % 4 = 0 then c.val + 3 else c.val - 1, by have := c.isLt; simp only [nD] at *; split <;> omega⟩

/-- The direction of a copy: 0 to the `y` partner, 1 to the `x` partner, 2 up, 3 down. -/
def dir (p : Cp) : Fin 4 := if p.val < 2 then 0 else if p.val < 4 then 1 else if p.val < 10 then 2 else if p.val < 16 then 3 else 1

/-- The device in a direction, and the device one is in that direction of. -/
def towards (δ : Fin 4) (c : Dev nD) : Dev nD := match δ with | 0 => yFlip c | 1 => xFlip c | 2 => zUp c | 3 => zDown c
def from' (δ : Fin 4) (c : Dev nD) : Dev nD := match δ with | 0 => yFlip c | 1 => xFlip c | 2 => zDown c | 3 => zUp c

theorem from_towards (δ : Fin 4) (c : Dev nD) : from' δ (towards δ c) = c := by revert δ c; decide
theorem towards_from (δ : Fin 4) (c : Dev nD) : towards δ (from' δ c) = c := by revert δ c; decide

/-- Whether there is a neighbour in a direction. -/
def has (δ : Fin 4) (c : Dev nD) : Bool := match δ with | 0 => true | 1 => true | 2 => decide (c.val % 4 < 3) | 3 => decide (0 < c.val % 4)

/-- How many devices back along the line the block of a copy began. -/
def back (p : Cp) : ℕ := if p.val < 4 then 0 else if p.val < 16 then (p.val - 4) % 6 / 2 else (p.val - 16) % 6 / 2 + 1
/-- Whether the block came upwards (or downwards). -/
def upw (p : Cp) : Bool := if p.val < 16 then decide (p.val < 10) else decide (p.val < 22)

/-- Whether device `c` issues copy `p`. -/
def act (c : Dev nD) (p : Cp) : Bool :=
  has (dir p) c && (if upw p then decide (back p ≤ c.val % 4) else decide (c.val % 4 + back p ≤ 3))

abbrev peer (c : Dev nD) (p : Cp) : Dev nD := towards (dir p) c
abbrev src (c : Dev nD) (p : Cp) : Dev nD := from' (dir p) c
/-- Whether device `c` receives copy `p`, from `src c p`. -/
abbrev ract (c : Dev nD) (p : Cp) : Bool := act (src c p) p

/-- The block copy `p` of device `c` moves: blocks are numbered by the place on the line their rows
    belong to, then the place along `x`, then the half. -/
def blkOf (c : Dev nD) (p : Cp) : Fin 16 :=
  ⟨4 * ((if upw p then c.val + 4 - back p else c.val + back p) % 4) + 2 * (c.val / 8) + p.val % 2, by have := c.isLt; simp only [nD] at *; omega⟩

/-- The numbers of the semaphores a copy completes on, at its sender and at its receiver. -/
def sendN (p : Cp) : ℕ :=
  if p.val < 2 then 5 + p.val else if p.val < 4 then 7 + p.val
  else if p.val < 16 then (if back p = 0 then 13 + (p.val - 4) / 6 * 2 + p.val % 2 else 23 + p.val)
  else 25 + p.val
def recvN (p : Cp) : ℕ :=
  if p.val < 2 then 7 + p.val else if p.val < 4 then 9 + p.val else if p.val < 16 then 13 + p.val else 37 + p.val

theorem sendN_lt (p : Cp) : sendN p < 65 := by revert p; decide
theorem recvN_lt (p : Cp) : recvN p < 65 := by revert p; decide

def sendS (p : Cp) : DmaSem sig := ⟨sendN p, sendN_lt p⟩
def recvS (p : Cp) : DmaSem sig := ⟨recvN p, recvN_lt p⟩

theorem sendS_inj : ∀ p p' : Cp, sendS p = sendS p' → p = p' := by decide
theorem recvS_inj : ∀ p p' : Cp, recvS p = recvS p' → p = p' := by decide
theorem sendS_ne_recvS : ∀ p p' : Cp, sendS p ≠ recvS p' := by decide

/-- The level of a copy's arrival: copies one device's waits for may wait on each other only upwards. -/
def lvl (p : Cp) : ℕ := if p.val < 2 then 2 else 3 + back p

end Cert.Embed

end
-- ==== Proof.Facts.lean ====
/-
  The printed conditions, device words and block offsets, read off the numbering of the copies.
-/
module

public import proofs.«01_k».proof.Proof.Tables

@[expose] public section

set_option maxRecDepth 20000

noncomputable section

namespace Cert.Embed

open Cert.KernelIdeal Cert.KernelIdeal.Gen
open Idealize.ShloMosaic Idealize.ShloMosaic.TcCoe

theorem cond1_iff : ∀ c : Dev nD, k0_cond1 c = 1#1 ↔ has 3 c = true := by decide
theorem cond2_iff : ∀ c : Dev nD, k0_cond2 c = 1#1 ↔ has 2 c = true := by decide
theorem cond3_iff : ∀ c : Dev nD, k0_cond3 c = 1#1 ↔ act c 4 = true := by decide
theorem cond4_iff : ∀ c : Dev nD, k0_cond4 c = 1#1 ↔ act c 10 = true := by decide
theorem cond5_iff : ∀ c : Dev nD, k0_cond5 c = 1#1 ↔ act c 5 = true := by decide
theorem cond6_iff : ∀ c : Dev nD, k0_cond6 c = 1#1 ↔ act c 11 = true := by decide
theorem cond31_iff : ∀ c : Dev nD, k0_cond31 c = 1#1 ↔ act c 4 = true := by decide
theorem cond32_iff : ∀ c : Dev nD, k0_cond32 c = 1#1 ↔ act c 10 = true := by decide
theorem cond33_iff : ∀ c : Dev nD, k0_cond33 c = 1#1 ↔ act c 16 = true := by decide
theorem cond35_iff : ∀ c : Dev nD, k0_cond35 c = 1#1 ↔ act c 22 = true := by decide
theorem cond37_iff : ∀ c : Dev nD, k0_cond37 c = 1#1 ↔ act c 18 = true := by decide
theorem cond39_iff : ∀ c : Dev nD, k0_cond39 c = 1#1 ↔ act c 24 = true := by decide
theorem cond41_iff : ∀ c : Dev nD, k0_cond41 c = 1#1 ↔ act c 20 = true := by decide
theorem cond43_iff : ∀ c : Dev nD, k0_cond43 c = 1#1 ↔ act c 26 = true := by decide
theorem cond7_iff : ∀ c : Dev nD, k0_cond7 c = 1#1 ↔ ract c 4 = true := by decide
theorem cond10_iff : ∀ c : Dev nD, k0_cond10 c = 1#1 ↔ ract c 10 = true := by decide
theorem cond13_iff : ∀ c : Dev nD, k0_cond13 c = 1#1 ↔ ract c 6 = true := by decide
theorem cond16_iff : ∀ c : Dev nD, k0_cond16 c = 1#1 ↔ ract c 12 = true := by decide
theorem cond19_iff : ∀ c : Dev nD, k0_cond19 c = 1#1 ↔ ract c 16 = true := by decide
theorem cond20_iff : ∀ c : Dev nD, k0_cond20 c = 1#1 ↔ ract c 22 = true := by decide
theorem cond21_iff : ∀ c : Dev nD, k0_cond21 c = 1#1 ↔ ract c 8 = true := by decide
theorem cond24_iff : ∀ c : Dev nD, k0_cond24 c = 1#1 ↔ ract c 14 = true := by decide
theorem cond27_iff : ∀ c : Dev nD, k0_cond27 c = 1#1 ↔ ract c 18 = true := by decide
theorem cond28_iff : ∀ c : Dev nD, k0_cond28 c = 1#1 ↔ ract c 24 = true := by decide
theorem cond29_iff : ∀ c : Dev nD, k0_cond29 c = 1#1 ↔ ract c 20 = true := by decide
theorem cond30_iff : ∀ c : Dev nD, k0_cond30 c = 1#1 ↔ ract c 26 = true := by decide
theorem cond8_iff : ∀ c : Dev nD, ract c 4 = true → (k0_cond8 c = 1#1 ↔ act c 6 = true) := by decide
theorem cond9_iff : ∀ c : Dev nD, ract c 4 = true → (k0_cond9 c = 1#1 ↔ act c 7 = true) := by decide
theorem cond11_iff : ∀ c : Dev nD, ract c 10 = true → (k0_cond11 c = 1#1 ↔ act c 12 = true) := by decide
theorem cond12_iff : ∀ c : Dev nD, ract c 10 = true → (k0_cond12 c = 1#1 ↔ act c 13 = true) := by decide
theorem cond14_iff : ∀ c : Dev nD, ract c 6 = true → (k0_cond14 c = 1#1 ↔ act c 8 = true) := by decide
theorem cond15_iff : ∀ c : Dev nD, ract c 6 = true → (k0_cond15 c = 1#1 ↔ act c 9 = true) := by decide
theorem cond17_iff : ∀ c : Dev nD, ract c 12 = true → (k0_cond17 c = 1#1 ↔ act c 14 = true) := by decide
theorem cond18_iff : ∀ c : Dev nD, ract c 12 = true → (k0_cond18 c = 1#1 ↔ act c 15 = true) := by decide
theorem cond34_iff : ∀ c : Dev nD, act c 16 = true → (k0_cond34 c = 1#1 ↔ act c 6 = true) := by decide
theorem cond36_iff : ∀ c : Dev nD, act c 22 = true → (k0_cond36 c = 1#1 ↔ act c 12 = true) := by decide
theorem cond38_iff : ∀ c : Dev nD, act c 18 = true → (k0_cond38 c = 1#1 ↔ act c 8 = true) := by decide
theorem cond40_iff : ∀ c : Dev nD, act c 24 = true → (k0_cond40 c = 1#1 ↔ act c 14 = true) := by decide
theorem cond22_no : ∀ c : Dev nD, ract c 8 = true → ¬ k0_cond22 c = 1#1 := by decide
theorem cond23_no : ∀ c : Dev nD, ract c 8 = true → ¬ k0_cond23 c = 1#1 := by decide
theorem cond25_no : ∀ c : Dev nD, ract c 14 = true → ¬ k0_cond25 c = 1#1 := by decide
theorem cond26_no : ∀ c : Dev nD, ract c 14 = true → ¬ k0_cond26 c = 1#1 := by decide
theorem cond42_no : ∀ c : Dev nD, act c 20 = true → ¬ k0_cond42 c = 1#1 := by decide
theorem cond44_no : ∀ c : Dev nD, act c 26 = true → ¬ k0_cond44 c = 1#1 := by decide
theorem dev5_peer : ∀ c : Dev nD, act c 0 = true → k0_dev5 c = (peer c 0).val := by decide
theorem dev6_peer : ∀ c : Dev nD, act c 1 = true → k0_dev6 c = (peer c 1).val := by decide
theorem dev7_peer : ∀ c : Dev nD, act c 4 = true → k0_dev7 c = (peer c 4).val := by decide
theorem dev8_peer : ∀ c : Dev nD, act c 10 = true → k0_dev8 c = (peer c 10).val := by decide
theorem dev9_peer : ∀ c : Dev nD, act c 2 = true → k0_dev9 c = (peer c 2).val := by decide
theorem dev10_peer : ∀ c : Dev nD, act c 5 = true → k0_dev10 c = (peer c 5).val := by decide
theorem dev11_peer : ∀ c : Dev nD, act c 11 = true → k0_dev11 c = (peer c 11).val := by decide
theorem dev12_peer : ∀ c : Dev nD, act c 3 = true → k0_dev12 c = (peer c 3).val := by decide
theorem dev13_peer : ∀ c : Dev nD, act c 6 = true → k0_dev13 c = (peer c 6).val := by decide
theorem dev14_peer : ∀ c : Dev nD, act c 16 = true → k0_dev14 c = (peer c 16).val := by decide
theorem dev15_peer : ∀ c : Dev nD, act c 7 = true → k0_dev15 c = (peer c 7).val := by decide
theorem dev16_peer : ∀ c : Dev nD, act c 17 = true → k0_dev16 c = (peer c 17).val := by decide
theorem dev17_peer : ∀ c : Dev nD, act c 12 = true → k0_dev17 c = (peer c 12).val := by decide
theorem dev18_peer : ∀ c : Dev nD, act c 22 = true → k0_dev18 c = (peer c 22).val := by decide
theorem dev19_peer : ∀ c : Dev nD, act c 13 = true → k0_dev19 c = (peer c 13).val := by decide
theorem dev20_peer : ∀ c : Dev nD, act c 23 = true → k0_dev20 c = (peer c 23).val := by decide
theorem dev21_peer : ∀ c : Dev nD, act c 8 = true → k0_dev21 c = (peer c 8).val := by decide
theorem dev22_peer : ∀ c : Dev nD, act c 18 = true → k0_dev22 c = (peer c 18).val := by decide
theorem dev23_peer : ∀ c : Dev nD, act c 9 = true → k0_dev23 c = (peer c 9).val := by decide
theorem dev24_peer : ∀ c : Dev nD, act c 19 = true → k0_dev24 c = (peer c 19).val := by decide
theorem dev25_peer : ∀ c : Dev nD, act c 14 = true → k0_dev25 c = (peer c 14).val := by decide
theorem dev26_peer : ∀ c : Dev nD, act c 24 = true → k0_dev26 c = (peer c 24).val := by decide
theorem dev27_peer : ∀ c : Dev nD, act c 15 = true → k0_dev27 c = (peer c 15).val := by decide
theorem dev28_peer : ∀ c : Dev nD, act c 25 = true → k0_dev28 c = (peer c 25).val := by decide
theorem dev30_peer : ∀ c : Dev nD, act c 20 = true → k0_dev30 c = (peer c 20).val := by decide
theorem dev32_peer : ∀ c : Dev nD, act c 21 = true → k0_dev32 c = (peer c 21).val := by decide
theorem dev34_peer : ∀ c : Dev nD, act c 26 = true → k0_dev34 c = (peer c 26).val := by decide
theorem dev36_peer : ∀ c : Dev nD, act c 27 = true → k0_dev36 c = (peer c 27).val := by decide
theorem dev1_to : ∀ c : Dev nD, has 0 c = true → k0_dev1 c = (towards 0 c).val := by decide
theorem dev2_to : ∀ c : Dev nD, has 1 c = true → k0_dev2 c = (towards 1 c).val := by decide
theorem dev3_to : ∀ c : Dev nD, has 3 c = true → k0_dev3 c = (towards 3 c).val := by decide
theorem dev4_to : ∀ c : Dev nD, has 2 c = true → k0_dev4 c = (towards 2 c).val := by decide
theorem off9__blk : ∀ c : Dev nD, act c 4 = true → k0_off9 c  = ![128 * (blkOf c 4).val, 0] := by decide
theorem off10__blk : ∀ c : Dev nD, act c 10 = true → k0_off10 c  = ![128 * (blkOf c 10).val, 0] := by decide
theorem off11_0_blk : ∀ c : Dev nD, act c 2 = true → k0_off11 c 0#32 = ![128 * (blkOf c 2).val, 0] := by decide
theorem off12__blk : ∀ c : Dev nD, act c 5 = true → k0_off12 c  = ![128 * (blkOf c 5).val, 0] := by decide
theorem off13__blk : ∀ c : Dev nD, act c 11 = true → k0_off13 c  = ![128 * (blkOf c 11).val, 0] := by decide
theorem off11_128_blk : ∀ c : Dev nD, act c 3 = true → k0_off11 c 128#32 = ![128 * (blkOf c 3).val, 0] := by decide
theorem off14_0_blk : ∀ c : Dev nD, act c 16 = true → k0_off14 c 0#32 = ![128 * (blkOf c 16).val, 0] := by decide
theorem off15__blk : ∀ c : Dev nD, act c 6 = true → k0_off15 c  = ![128 * (blkOf c 6).val, 0] := by decide
theorem off16__blk : ∀ c : Dev nD, act c 7 = true → k0_off16 c  = ![128 * (blkOf c 7).val, 0] := by decide
theorem off14_128_blk : ∀ c : Dev nD, act c 17 = true → k0_off14 c 128#32 = ![128 * (blkOf c 17).val, 0] := by decide
theorem off17_0_blk : ∀ c : Dev nD, act c 22 = true → k0_off17 c 0#32 = ![128 * (blkOf c 22).val, 0] := by decide
theorem off18__blk : ∀ c : Dev nD, act c 12 = true → k0_off18 c  = ![128 * (blkOf c 12).val, 0] := by decide
theorem off19__blk : ∀ c : Dev nD, act c 13 = true → k0_off19 c  = ![128 * (blkOf c 13).val, 0] := by decide
theorem off17_128_blk : ∀ c : Dev nD, act c 23 = true → k0_off17 c 128#32 = ![128 * (blkOf c 23).val, 0] := by decide
theorem off21_0_blk : ∀ c : Dev nD, act c 18 = true → k0_off21 c 0#32 = ![128 * (blkOf c 18).val, 0] := by decide
theorem off22__blk : ∀ c : Dev nD, act c 8 = true → k0_off22 c  = ![128 * (blkOf c 8).val, 0] := by decide
theorem off23__blk : ∀ c : Dev nD, act c 9 = true → k0_off23 c  = ![128 * (blkOf c 9).val, 0] := by decide
theorem off21_128_blk : ∀ c : Dev nD, act c 19 = true → k0_off21 c 128#32 = ![128 * (blkOf c 19).val, 0] := by decide
theorem off24_0_blk : ∀ c : Dev nD, act c 24 = true → k0_off24 c 0#32 = ![128 * (blkOf c 24).val, 0] := by decide
theorem off25__blk : ∀ c : Dev nD, act c 14 = true → k0_off25 c  = ![128 * (blkOf c 14).val, 0] := by decide
theorem off26__blk : ∀ c : Dev nD, act c 15 = true → k0_off26 c  = ![128 * (blkOf c 15).val, 0] := by decide
theorem off24_128_blk : ∀ c : Dev nD, act c 25 = true → k0_off24 c 128#32 = ![128 * (blkOf c 25).val, 0] := by decide
theorem off29_0_blk : ∀ c : Dev nD, act c 20 = true → k0_off29 c 0#32 = ![128 * (blkOf c 20).val, 0] := by decide
theorem off29_128_blk : ∀ c : Dev nD, act c 21 = true → k0_off29 c 128#32 = ![128 * (blkOf c 21).val, 0] := by decide
theorem off32_0_blk : ∀ c : Dev nD, act c 26 = true → k0_off32 c 0#32 = ![128 * (blkOf c 26).val, 0] := by decide
theorem off32_128_blk : ∀ c : Dev nD, act c 27 = true → k0_off32 c 128#32 = ![128 * (blkOf c 27).val, 0] := by decide
theorem off8_0_blk : ∀ c : Dev nD, act c 2 = true → k0_off8 c 0#32 = ![128 * (blkOf c 2).val, 0] := by decide
theorem off8_1_blk : ∀ c : Dev nD, act c 3 = true → k0_off8 c 1#32 = ![128 * (blkOf c 3).val, 0] := by decide
end Cert.Embed

end
-- ==== Proof.Contents.lean ====
/-
  What the buffers hold. Every device gathers 256 rows of its half of the embedding (zeroth row where the id
  is not its own), rounds them, exchanges them with its `y` partner and keeps, row by row, its own where the
  mask is positive and its partner's elsewhere; the result is the blocks of all devices of its plane.
-/
module

public import proofs.«01_k».proof.Proof.Facts

@[expose] public section

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The library's copy, the protocol's, and the counters the gathers' batches count with. -/
abbrev UR' : Type := URounds (GSem nD τ sig) (Fin 4)
abbrev UU : Type := UR sig nD τ × (UR' × Counters)

local notation "𝕄" => MT nD τ sig Unit (Elt F) ℕ UU ℕ

abbrev EP : Emb (UR sig nD τ) (MT nD τ sig Unit (Elt F) ℕ UU ℕ) := embL
def ER : Emb UR' (MT nD τ sig Unit (Elt F) ℕ UU ℕ) :=
  ((Emb.inl : Emb UR' (UR' × Counters)).trans (Emb.inr : Emb (UR' × Counters) UU)).trans
    (uEmb (nD := nD) (sig := sig) (Ix := Unit) (Val := Elt F) (Name := ℕ) (U := UU) (Lvl := ℕ)).toEmb
instance : (ER (F := F)).LandsIn upEmb := by unfold ER; infer_instance

/-! ## Blocks -/

theorem blk_inb (b : Fin 16) : ∀ a, (![128 * b.val, 0] : Fin 2 → ℕ) a + S128x1024.size a ≤ S2048x1024.size a := by
  revert b; decide
theorem hf_inb (k : Fin 2) : ∀ a, (![128 * k.val, 0] : Fin 2 → ℕ) a + S128x1024.size a ≤ S256x1024.size a := by
  revert k; decide
theorem mk_inb (b : Fin 16) : ∀ a, (![128 * b.val, 0] : Fin 2 → ℕ) a + S128x1.size a ≤ S2048x1.size a := by
  revert b; decide
theorem st_inb (k : Fin 2) : ∀ a, (![k.val, 0, 0] : Fin 3 → ℕ) a + S1x128x1024.size a ≤ S2x128x1024.size a := by
  revert k; decide

/-- Block `b` of the result, and half `k` of the gathered rows and of the partner's. -/
abbrev blkM (b : Fin 16) : Memref sig .tc .vmem S128x1024 .bf16 :=
  (Memref.whole cc0_stg2_0).slice (Rect.unit (s := S2048x1024) ![128 * b.val, 0] S128x1024.size (blk_inb b)) (fun _ => rfl)
abbrev partM (k : Fin 2) : Memref sig .tc .vmem S128x1024 .bf16 :=
  (Memref.whole cc0_scratch0).slice (Rect.unit (s := S256x1024) ![128 * k.val, 0] S128x1024.size (hf_inb k)) (fun _ => rfl)
abbrev yM (k : Fin 2) : Memref sig .tc .vmem S128x1024 .bf16 :=
  (Memref.whole cc0_scratch1).slice (Rect.unit (s := S256x1024) ![128 * k.val, 0] S128x1024.size (hf_inb k)) (fun _ => rfl)

/-- What every copy between devices adds to its semaphores. -/
def N : ℕ := (blkM 0).view.dmaCredit
theorem N_pos : 0 < N := View.dmaCredit_pos _ (by decide)
theorem credit_blk (b : Fin 16) : (blkM b).view.dmaCredit = N := rfl
theorem credit_part (k : Fin 2) : (partM k).view.dmaCredit = N := rfl
theorem credit_y (k : Fin 2) : (yM k).view.dmaCredit = N := rfl

variable (m : (ℓ : Loc nD τ sig) → Buf (Elt F) ℓ)

/-! ## Contents -/

/-- The row within its block, and the block a row is in. -/
def rowIn {n : ℕ} (i : (⟨2, ![n, 1024]⟩ : Shape).Idx) : S128x1024.Idx := fun a => match a with
  | ⟨0, _⟩ => (⟨(i 0).val % 128, Nat.mod_lt _ (by decide)⟩ : Fin 128)
  | ⟨1, _⟩ => (⟨(i 1).val, (i 1).isLt⟩ : Fin 1024)

/-- The ids a device looks up, their mask, and its half of the embedding. -/
abbrev idsv (c : Dev nD) : S2048.Idx → Elt F .i32 := V3 m c main_v13
abbrev maskv (c : Dev nD) : S2048x1.Idx → Elt F .f32 := V3 m c main_v15
abbrev embv (c : Dev nD) : S16384x1024.Idx → Elt F .f32 := V3 m c main_arg1

/-- The row of the ids that row `r` of half `k` of device `c` looks up. -/
def idAt (c : Dev nD) (k : Fin 2) (r : Fin 128) : S2048.Idx := fun a => match a with
  | ⟨0, _⟩ => (⟨512 * (c.val % 4) + 256 * (c.val / 8) + 128 * k.val + r.val, by have := c.isLt; simp only [nD] at this; omega⟩ : Fin 2048)
/-- The row of the embedding it names (the last one for a word that names none). -/
def rowAt (c : Dev nD) (k : Fin 2) (r : Fin 128) : Fin 16384 :=
  ⟨min (idsv m c (idAt c k r)).toNat 16383, by omega⟩
/-- The gathered rows. -/
def gv (c : Dev nD) : S2x128x1024.Idx → Elt F .f32 := fun i =>
  embv m c (fun a => match a with
    | ⟨0, _⟩ => rowAt m c ⟨(i 0).val, (i 0).isLt⟩ ⟨(i 1).val, (i 1).isLt⟩
    | ⟨1, _⟩ => (⟨(i 2).val, (i 2).isLt⟩ : Fin 1024))

/-- Half `k` of them, rounded. -/
def half (c : Dev nD) (k : Fin 2) : Vec F S128x1024 .bf16 :=
  k0_pay1 (F := F) fun i => gv m c ((Rect.unit (s := S2x128x1024) ![k.val, 0, 0] S1x128x1024.size (st_inb k)).emb i)
def partv (c : Dev nD) : S256x1024.Idx → Elt F .bf16 := fun i =>
  half m c ⟨(i 0).val / 128, Nat.div_lt_of_lt_mul (i 0).isLt⟩ (rowIn i)

/-- The device whose rows block `b` of device `c`'s result is. -/
def owner (c : Dev nD) (b : Fin 16) : Dev nD :=
  ⟨8 * (b.val / 2 % 2) + 4 * (c.val / 4 % 2) + b.val / 4, by have := b.isLt; simp only [nD]; omega⟩
/-- The mask of half `k` of device `c`. -/
def maskRows (c : Dev nD) (k : Fin 2) : Vec F S128x1 .f32 := fun i =>
  maskv m c ((Rect.unit (s := S2048x1) ![128 * (blkOf c ⟨2 + k.val, by omega⟩).val, 0] S128x1.size (mk_inb _)).emb i)
/-- Half `k` of the rows of device `c`, own and partner's combined. -/
def comb (c : Dev nD) (k : Fin 2) : Vec F S128x1024 .bf16 :=
  k0_pay3 (F := F) (maskRows m c k) (half m c k) (half m (yFlip c) k)
def outv (c : Dev nD) : S2048x1024.Idx → Elt F .bf16 := fun i =>
  comb m (owner c ⟨(i 0).val / 128, Nat.div_lt_of_lt_mul (i 0).isLt⟩)
    ⟨(i 0).val / 128 % 2, Nat.mod_lt _ (by decide)⟩ (rowIn i)

theorem owner_blkOf : ∀ (c : Dev nD) (k : Fin 2), owner c (blkOf c ⟨2 + k.val, by omega⟩) = c := by decide
theorem owner_flip (c : Dev nD) : ∀ (p : Cp), 2 ≤ p.val → ∀ b, owner (peer c p) b = owner c b := by
  revert c; decide +kernel
theorem outv_peer (c : Dev nD) (p : Cp) (h : 2 ≤ p.val) : outv m (peer c p) = outv m c := by
  funext i; unfold outv; rw [owner_flip c p h]

/-! ## Reading and writing a block -/

theorem rowIn_emb {n : ℕ} {o : ℕ} (ho : o % 128 = 0) (inb : ∀ a, (![o, 0] : Fin 2 → ℕ) a + S128x1024.size a ≤ (⟨2, ![n, 1024]⟩ : Shape).size a)
    (x : S128x1024.Idx) : rowIn ((Rect.unit (s := ⟨2, ![n, 1024]⟩) ![o, 0] S128x1024.size inb).emb x) = x := by
  have h0 : (((Rect.unit (s := ⟨2, ![n, 1024]⟩) ![o, 0] S128x1024.size inb).emb x) 0).val = o + 1 * (x 0).val := rfl
  have h1 : (((Rect.unit (s := ⟨2, ![n, 1024]⟩) ![o, 0] S128x1024.size inb).emb x) 1).val = 0 + 1 * (x 1).val := rfl
  have hx : (x 0).val < 128 := (x 0).isLt
  funext a
  match a with
  | ⟨0, _⟩ => exact Fin.ext ((congrArg (· % 128) h0).trans (by show (o + 1 * (x 0).val) % 128 = (x 0).val; omega))
  | ⟨1, _⟩ => exact Fin.ext (h1.trans (by omega : 0 + 1 * (x 1).val = (x 1).val))

theorem read_out (c : Dev nD) (b : Fin 16) :
    (blkM b).view.read (Elt F) (outv m c) = comb m (owner c b) ⟨b.val % 2, Nat.mod_lt _ (by decide)⟩ := by
  funext x
  show outv m c ((Rect.unit (s := S2048x1024) ![128 * b.val, 0] S128x1024.size (blk_inb b)).emb x) = _
  have h0 : (((Rect.unit (s := S2048x1024) ![128 * b.val, 0] S128x1024.size (blk_inb b)).emb x) 0).val = 128 * b.val + 1 * (x 0).val := rfl
  have hx : (x 0).val < 128 := (x 0).isLt
  unfold outv
  have e : (⟨(((Rect.unit (s := S2048x1024) ![128 * b.val, 0] S128x1024.size (blk_inb b)).emb x) 0).val / 128,
      Nat.div_lt_of_lt_mul (Fin.isLt _)⟩ : Fin 16) = b := Fin.ext (by show _ / 128 = b.val; rw [h0]; omega)
  have e2 : (⟨(((Rect.unit (s := S2048x1024) ![128 * b.val, 0] S128x1024.size (blk_inb b)).emb x) 0).val / 128 % 2,
      Nat.mod_lt _ (by decide)⟩ : Fin 2) = ⟨b.val % 2, Nat.mod_lt _ (by decide)⟩ := Fin.ext (by show _ / 128 % 2 = b.val % 2; rw [h0]; omega)
  rw [e, e2]
  exact congrArg (comb m _ _) (rowIn_emb (by omega) _ x)
theorem read_part (c : Dev nD) (k : Fin 2) : (partM k).view.read (Elt F) (partv m c) = half m c k := by
  funext x
  show partv m c ((Rect.unit (s := S256x1024) ![128 * k.val, 0] S128x1024.size (hf_inb k)).emb x) = _
  have h0 : (((Rect.unit (s := S256x1024) ![128 * k.val, 0] S128x1024.size (hf_inb k)).emb x) 0).val = 128 * k.val + 1 * (x 0).val := rfl
  have hx : (x 0).val < 128 := (x 0).isLt
  have e : (⟨(((Rect.unit (s := S256x1024) ![128 * k.val, 0] S128x1024.size (hf_inb k)).emb x) 0).val / 128,
      Nat.div_lt_of_lt_mul (Fin.isLt _)⟩ : Fin 2) = k := Fin.ext (by show _ / 128 = k.val; rw [h0]; omega)
  unfold partv
  rw [e]
  exact congrArg (half m _ _) (rowIn_emb (by omega) _ x)
theorem read_y (c : Dev nD) (k : Fin 2) : (yM k).view.read (Elt F) (partv m c) = half m c k := read_part m c k

/-- A view written with what it reads off `g` holds `g` on its elements. -/
theorem pts_write {sp : Space} {s : Shape} {e : EltTy} (c : Thread nD τ) (v : View sig c.2.kind sp s e)
    (q : PosShare TreeShare) (fd g : v.ty.Contents (Elt F)) (w : s.Idx → Elt F e) (hw : w = v.read (Elt F) g) :
    (v.loc c ↦[v.set]{q} (v.write (Elt F) fd w Finset.univ) : sProp 𝕄) = v.loc c ↦[v.set]{q} g := by
  subst hw
  refine pointsTo_congr fun i hi => ?_
  rw [View.write_read_eq_piecewise]
  exact Finset.piecewise_eq_of_mem _ _ _ hi

end Cert.Embed

end
-- ==== Proof.Schedule.lean ====
/-
  The protocol between the devices: which semaphore is signalled by whom and how much, and what each signal
  or copy hands over. A device signals the barrier semaphore of every neighbour once, with the places its
  neighbour's copies land in; a copy hands its source share back to its sender and the block it carries,
  at its contents, to its receiver.
-/
module

public import proofs.«01_k».proof.Proof.Contents

@[expose] public section

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev barS : Sem sig := barrier0
abbrev barCell (c : Dev nD) : GSem nD τ sig := ((c : Thread nD τ), .reg barS)
abbrev sendCell (c : Dev nD) (p : Cp) : GSem nD τ sig := ((c : Thread nD τ), .dma (sendS p))
abbrev recvCell (c : Dev nD) (p : Cp) : GSem nD τ sig := ((c : Thread nD τ), .dma (recvS p))

/-- The copy a semaphore completes, at its sender and at its receiver. -/
def sendOf (s : DmaSem sig) : Option Cp := (List.finRange 28).find? fun p => decide (sendS p = s)
def recvOf (s : DmaSem sig) : Option Cp := (List.finRange 28).find? fun p => decide (recvS p = s)
theorem sendOf_send : ∀ p : Cp, sendOf (sendS p) = some p := by decide +kernel
theorem sendOf_recv : ∀ p : Cp, sendOf (recvS p) = none := by decide +kernel
theorem recvOf_recv : ∀ p : Cp, recvOf (recvS p) = some p := by decide +kernel
theorem recvOf_send : ∀ p : Cp, recvOf (sendS p) = none := by decide +kernel

/-! ## What is handed over -/

/-- A proposition held under a condition, nothing otherwise. -/
def cif (b : Bool) (P : sProp 𝕄) : sProp 𝕄 := if b = true then P else iprop(emp)
theorem cif_true {b : Bool} (h : b = true) (P : sProp 𝕄) : cif b P = P := if_pos h
theorem cif_false {b : Bool} (h : b = false) (P : sProp 𝕄) : cif b P = iprop(emp) := if_neg (by simp [h])
instance {b : Bool} {P : sProp 𝕄} [BI.Storable upEmb P] : BI.Storable (upEmb : UEmb _ 𝕄) (cif b P) := by
  unfold cif; split <;> infer_instance

/-- Which half a copy to the `y` partner carries. -/
def hf (p : Cp) : Fin 2 := ⟨p.val % 2, Nat.mod_lt _ (by decide)⟩

/-- The share of its source a copy takes: the blocks a device computes go to three neighbours, those it
    receives along the line to two. -/
def shr (p : Cp) : PosShare TreeShare :=
  if p.val < 2 then fullShare.left
  else if p.val < 4 then fullShare.right.right
  else if p.val < 16 then (if back p = 0 ∧ 10 ≤ p.val then fullShare.right.left else fullShare.left)
  else fullShare.right

def bPts (c : Dev nD) (b : Fin 16) (q : PosShare TreeShare) (f : S2048x1024.Idx → Elt F .bf16) : sProp 𝕄 :=
  (blkM b).view.loc (c : Thread nD τ) ↦[(blkM b).view.set]{q} f
def pPts (c : Dev nD) (k : Fin 2) (q : PosShare TreeShare) (f : S256x1024.Idx → Elt F .bf16) : sProp 𝕄 :=
  (partM k).view.loc (c : Thread nD τ) ↦[(partM k).view.set]{q} f
def yPts (c : Dev nD) (k : Fin 2) (q : PosShare TreeShare) (f : S256x1024.Idx → Elt F .bf16) : sProp 𝕄 :=
  (yM k).view.loc (c : Thread nD τ) ↦[(yM k).view.set]{q} f

instance (c : Dev nD) (b : Fin 16) (q : PosShare TreeShare) (f : S2048x1024.Idx → Elt F .bf16) :
    BI.Storable (upEmb : UEmb _ 𝕄) (bPts c b q f) := by unfold bPts; infer_instance
instance (c : Dev nD) (b : Fin 2) (q : PosShare TreeShare) (f : S256x1024.Idx → Elt F .bf16) :
    BI.Storable (upEmb : UEmb _ 𝕄) (pPts c b q f) := by unfold pPts; infer_instance
instance (c : Dev nD) (b : Fin 2) (q : PosShare TreeShare) (f : S256x1024.Idx → Elt F .bf16) :
    BI.Storable (upEmb : UEmb _ 𝕄) (yPts c b q f) := by unfold yPts; infer_instance

variable (m : (ℓ : Loc nD τ sig) → Buf (Elt F) ℓ)

/-- What copy `p` of device `c` reads. -/
def srcPts (c : Dev nD) (p : Cp) : sProp 𝕄 :=
  if p.val < 2 then pPts c (hf p) (shr p) (partv m c) else bPts c (blkOf c p) (shr p) (outv m c)
/-- What device `c` has after copy `p` arrived. -/
def gotPts (c : Dev nD) (p : Cp) : sProp 𝕄 :=
  if p.val < 2 then yPts c (hf p) fullShare (partv m (yFlip c)) else bPts c (blkOf (src c p) p) fullShare (outv m c)
/-- Where copy `p` arrives at device `c`. -/
def slot (c : Dev nD) (p : Cp) : sProp 𝕄 :=
  if p.val < 2 then iprop(∃ f, yPts (F := F) c (hf p) fullShare f) else iprop(∃ f, bPts (F := F) c (blkOf (src c p) p) fullShare f)
/-- What device `c` needs of its peer to issue copy `p`. -/
def landing (c : Dev nD) (p : Cp) : sProp 𝕄 :=
  cif (act c p) iprop(slot (F := F) (peer c p) p ∗ reached ER (recvCell (peer c p) p) 0)

instance (c : Dev nD) (p : Cp) : BI.Storable (upEmb : UEmb _ 𝕄) (srcPts m c p) := by unfold srcPts; split <;> infer_instance
instance (c : Dev nD) (p : Cp) : BI.Storable (upEmb : UEmb _ 𝕄) (gotPts m c p) := by unfold gotPts; split <;> infer_instance
instance (c : Dev nD) (p : Cp) : BI.Storable (upEmb : UEmb _ 𝕄) (slot (F := F) c p) := by unfold slot; split <;> infer_instance
instance (c : Dev nD) (p : Cp) : BI.Storable (upEmb : UEmb _ 𝕄) (landing (F := F) c p) := by unfold landing; infer_instance

/-- What the signal from direction `δ` hands device `c`. -/
def barPay (c : Dev nD) (δ : Fin 4) : sProp 𝕄 := bigSep (Finset.univ.filter fun p : Cp => dir p = δ) fun p => landing (F := F) c p
instance (c : Dev nD) (δ : Fin 4) : BI.Storable (upEmb : UEmb _ 𝕄) (barPay (F := F) c δ) := by unfold barPay; infer_instance

/-! ## The schedule -/

def dutiesOf (c : Dev nD) : SemLoc sig → Finset (Fin 4)
  | .reg s => if s = barS then Finset.univ.filter fun δ => has δ c = true else ∅
  | .dma s => match sendOf s with
    | some p => if act c p = true then {0} else ∅
    | none => match recvOf s with
      | some p => if ract c p = true then {0} else ∅
      | none => ∅
def amountOf : SemLoc sig → ℕ
  | .reg _ => 1
  | .dma _ => N
def payOf (c : Dev nD) (δ : Fin 4) : SemLoc sig → sProp 𝕄
  | .reg _ => barPay c δ
  | .dma s => match sendOf s with
    | some p => srcPts m c p
    | none => match recvOf s with
      | some p => gotPts m c p
      | none => iprop(emp)

def Rd : Rounds.Schedule (GSem nD τ sig) (Fin 4) 𝕄 where
  duties g r := if r = 0 ∧ g.1.2 = .tc then dutiesOf g.1.1 g.2 else ∅
  unitless _ := False
  amount g _ _ := amountOf g.2
  payload g _ δ := payOf m g.1.1 δ g.2
  amount_pos g _ _ _ := by
    show 0 < amountOf g.2
    unfold amountOf
    split
    · exact Nat.one_pos
    · exact N_pos

instance Rd_storable (g : GSem nD τ sig) (r : ℕ) (δ : Fin 4) : BI.Storable (upEmb : UEmb _ 𝕄) ((Rd m).payload g r δ) := by
  show BI.Storable upEmb (payOf m g.1.1 δ g.2)
  unfold payOf
  (repeat' split) <;> infer_instance

section Tables
variable (c : Dev nD) (p : Cp)

theorem duties_bar : (Rd m).duties (barCell c) 0 = Finset.univ.filter fun δ => has δ c = true := by
  dsimp only [Rd]
  rw [if_pos ⟨rfl, rfl⟩]
  dsimp only [dutiesOf]
  rw [if_pos rfl]
theorem duties_send : (Rd m).duties (sendCell c p) 0 = if act c p = true then {0} else ∅ := by
  dsimp only [Rd]
  rw [if_pos ⟨rfl, rfl⟩]
  show (match sendOf (sendS p) with | some p => _ | none => _) = _
  rw [sendOf_send]
theorem duties_recv : (Rd m).duties (recvCell c p) 0 = if ract c p = true then {0} else ∅ := by
  dsimp only [Rd]
  rw [if_pos ⟨rfl, rfl⟩]
  show (match sendOf (recvS p) with | some p => _ | none => _) = _
  rw [sendOf_recv]
  show (match recvOf (recvS p) with | some p => _ | none => _) = _
  rw [recvOf_recv]
theorem duties_later (g : GSem nD τ sig) : ∀ r, 1 ≤ r → (Rd m).duties g r = ∅ := fun r hr => by
  dsimp only [Rd]
  exact if_neg fun h => by omega

theorem payload_bar (δ : Fin 4) : (Rd m).payload (barCell c) 0 δ = barPay c δ := rfl
theorem payload_send (δ : Fin 4) : (Rd m).payload (sendCell c p) 0 δ = srcPts m c p := by
  show (match sendOf (sendS p) with | some p => _ | none => _) = _
  rw [sendOf_send]
theorem payload_recv (δ : Fin 4) : (Rd m).payload (recvCell c p) 0 δ = gotPts m c p := by
  show (match sendOf (recvS p) with | some p => _ | none => _) = _
  rw [sendOf_recv]
  show (match recvOf (recvS p) with | some p => _ | none => _) = _
  rw [recvOf_recv]

theorem expect_send (h : act c p = true) : (Rd m).expect (sendCell c p) 0 = N := by
  unfold Schedule.expect Schedule.amountOf; rw [duties_send, if_pos h, Finset.sum_singleton]; rfl
theorem expect_recv (h : ract c p = true) : (Rd m).expect (recvCell c p) 0 = N := by
  unfold Schedule.expect Schedule.amountOf; rw [duties_recv, if_pos h, Finset.sum_singleton]; rfl

theorem amt1_eq : ∀ c : Dev nD, (k0_amt1 c).toNat = (Finset.univ.filter fun δ : Fin 4 => has δ c = true).card := by decide
theorem expect_bar : (Rd m).expect (barCell c) 0 = (k0_amt1 c).toNat := by
  unfold Schedule.expect Schedule.amountOf
  rw [duties_bar, amt1_eq]
  show (∑ _ ∈ _, 1) = _
  simp

end Tables

/-! ## Levels, and what a device owes -/

def L (g : GSem nD τ sig) : Finset Unit := if g.1.2 = .tc then {()} else ∅
def lev (s : SemLoc sig) : ℕ := match s with
  | .reg _ => 1
  | .dma s => match recvOf s with
    | some p => lvl p
    | none => 0
def lv (g : GSem nD τ sig) (_ : Unit) : ℕ := lev g.2

theorem L_tc (c : Dev nD) (sm : SemLoc sig) : L ((c : Thread nD τ), sm) = {()} := if_pos rfl
theorem L_of_ne (g : GSem nD τ sig) (h : g.1.2 ≠ .tc) : L g = ∅ := if_neg h

/-- What a device owes: a signal in a direction, or the arrival of a copy. -/
inductive Due where
  | bar (δ : Fin 4)
  | cp (p : Cp)
  deriving DecidableEq

def Due.cell (c : Dev nD) : Due → GSem nD τ sig
  | .bar δ => barCell (towards δ c)
  | .cp p => recvCell (peer c p) p
def Due.on (c : Dev nD) : Due → Bool
  | .bar δ => has δ c
  | .cp p => act c p
def Due.amt : Due → ℕ
  | .bar _ => 1
  | .cp _ => N
def Due.lvl : Due → ℕ
  | .bar _ => 1
  | .cp p => Embed.lvl p

def dueOf (c : Dev nD) (d : Due) : CellTallies nD τ sig Unit := if d.on c = true then tallyAt (d.cell c) () d.amt else 0
def owing (c : Dev nD) (l : List Due) : CellTallies nD τ sig Unit := (l.map (dueOf c)).sum

theorem owing_cons (c : Dev nD) (d : Due) (l : List Due) (h : d.on c = true) :
    owing c (d :: l) = owing c l + tallyAt (d.cell c) () d.amt := by
  show dueOf c d + owing c l = _
  rw [dueOf, if_pos h, add_comm]
theorem owing_skip (c : Dev nD) (d : Due) (l : List Due) (h : d.on c = false) : owing c (d :: l) = owing c l := by
  show dueOf c d + owing c l = _
  rw [dueOf, if_neg (by simp [h]), zero_add]

theorem lev_due (c : Dev nD) (d : Due) : lev (d.cell c).2 = d.lvl := by
  cases d with
  | bar δ => rfl
  | cp p => show (match recvOf (recvS p) with | some p => Embed.lvl p | none => 0) = _; rw [recvOf_recv]; rfl
theorem lev_recv (p : Cp) : lev (.dma (recvS p)) = lvl p := by
  show (match recvOf (recvS p) with | some p => Embed.lvl p | none => 0) = _; rw [recvOf_recv]

theorem owing_pos (c : Dev nD) (l : List Due) (g : GSem nD τ sig) (u : Unit) (h : 0 < owing c l g u) :
    ∃ d ∈ l, g = d.cell c := by
  induction l with
  | nil => exact absurd h (Nat.lt_irrefl 0)
  | cons d l ih =>
    by_cases hg : g = d.cell c
    · exact ⟨d, List.mem_cons_self .., hg⟩
    · have h' : 0 < owing c l g u := by
        cases hd : d.on c with
        | false => rw [owing_skip c d l hd] at h; exact h
        | true =>
          rw [owing_cons c d l hd] at h
          have h0 : (tallyAt (d.cell c) () d.amt : CellTallies nD τ sig Unit) g u = 0 := by
            rw [tallyAt_apply, if_neg fun e => hg e.1]
          have : owing c l g u + (tallyAt (d.cell c) () d.amt : CellTallies nD τ sig Unit) g u = owing c l g u := by rw [h0, Nat.add_zero]
          exact this ▸ h
      obtain ⟨d', hd', e⟩ := ih h'
      exact ⟨d', List.mem_cons_of_mem _ hd', e⟩

/-- A device may wait on a cell whose level is below those of everything it owes. -/
theorem mayWait (c : Dev nD) (s : SemLoc sig) (l : List Due) (h : ∀ d ∈ l, lev s < d.lvl) :
    (levAts L lv : sProp 𝕄) ⊢ MayWait (c : Thread nD τ) s () (owing c l) :=
  MayOwe.of_cut (L := L) (lev := lv) (lev s) (fun p hp => by rw [Finset.mem_singleton.mp hp, L_tc]; exact Finset.mem_singleton_self _)
    (fun g u hg => by
      obtain ⟨d, -, rfl⟩ := owing_pos c l g u hg
      cases d <;> (rw [Due.cell, L_tc]; exact Finset.mem_singleton_self _))
    (fun p hp => by rw [Finset.mem_singleton.mp hp]; exact le_refl _)
    (fun g u hg => by
      obtain ⟨d, hd, rfl⟩ := owing_pos c l g u hg
      show _ < lev (d.cell c).2
      rw [lev_due]; exact h d hd)

/-- Everything a device owes at launch, in the order it pays. -/
def dues : List Due := [.bar 0, .bar 1, .bar 3, .bar 2, .cp 0, .cp 1, .cp 4, .cp 10, .cp 2, .cp 5, .cp 11, .cp 3,
  .cp 6, .cp 16, .cp 7, .cp 17, .cp 12, .cp 22, .cp 13, .cp 23, .cp 8, .cp 18, .cp 9, .cp 19,
  .cp 14, .cp 24, .cp 15, .cp 25, .cp 20, .cp 21, .cp 26, .cp 27]

end Cert.Embed

end
-- ==== Proof.State.lean ====
/-
  Where a device stands in the protocol, as one proposition: for every copy how far its sending and its
  receiving are, and what is still owed. Each effect on a semaphore is a step from one such state to another.
-/
module

public import proofs.«01_k».proof.Proof.Schedule

@[expose] public section

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells and their invariants -/

def cellsOf (c : Dev nD) : Finset (GSem nD τ sig) :=
  insert (barCell c) (Finset.univ.image (sendCell c) ∪ Finset.univ.image (recvCell c))
def cells : Finset (GSem nD τ sig) := Finset.univ.biUnion cellsOf

theorem bar_mem (c : Dev nD) : barCell c ∈ cells :=
  Finset.mem_biUnion.mpr ⟨c, Finset.mem_univ _, Finset.mem_insert_self _ _⟩
theorem send_mem (c : Dev nD) (p : Cp) : sendCell c p ∈ cells :=
  Finset.mem_biUnion.mpr ⟨c, Finset.mem_univ _, Finset.mem_insert_of_mem (Finset.mem_union_left _ (Finset.mem_image_of_mem _ (Finset.mem_univ p)))⟩
theorem recv_mem (c : Dev nD) (p : Cp) : recvCell c p ∈ cells :=
  Finset.mem_biUnion.mpr ⟨c, Finset.mem_univ _, Finset.mem_insert_of_mem (Finset.mem_union_right _ (Finset.mem_image_of_mem _ (Finset.mem_univ p)))⟩

/-- Names for the cells' invariants, and the cells that have one: all those of the protocol. -/
structure Names where
  nm : GSem nD τ sig → ℕ
  S : Finset (GSem nD τ sig)
  sub : cells ⊆ S

variable (m : (ℓ : Loc nD τ sig) → Buf (Elt F) ℓ) (κ : Names)

def invs : sProp 𝕄 := bigSep κ.S fun g => cellInv ER (Rd m) (κ.nm g) g
instance : BI.Persistent (invs m κ) := by unfold invs; infer_instance
theorem invs_at (g : GSem nD τ sig) (h : g ∈ cells) : (invs m κ : sProp 𝕄) ⊢ cellInv ER (Rd m) (κ.nm g) g := bigSep_elim (κ.sub h)

/-! ## States -/

/-- The copy that brings the block copy `p` forwards. -/
def prev (p : Cp) : Cp := if p.val < 6 then p else if p.val < 16 then ⟨p.val - 2, by omega⟩ else ⟨p.val - 12, by omega⟩
/-- Whether a device has the block copy `p` moves (at some time). -/
def hasSrc (c : Dev nD) (p : Cp) : Bool := if p.val < 16 ∧ back p = 0 then true else ract c (prev p)
theorem hasSrc_of_act : ∀ (c : Dev nD) (p : Cp), act c p = true → hasSrc c p = true := by decide +kernel

/-- What stays with device `c` of a block received along the line: the share no copy takes. -/
def keep (c : Dev nD) (p : Cp) : sProp 𝕄 :=
  if 4 ≤ p.val ∧ p.val < 16 then (if back p < 2 then iprop(emp) else bPts c (blkOf (src c p) p) fullShare.left (outv m c))
  else gotPts m c p

def toks (c : Dev nD) (p : Cp) : sProp 𝕄 :=
  iprop(atPos ER (sendCell c p) 0 ∅ 0 ∗ reached ER (sendCell c p) 0
    ∗ cif (act c p) iprop(dutyTok ER (sendCell c p) 0 0 ∗ dutyTok ER (recvCell (peer c p) p) 0 0) ∗ landing (F := F) c p)

/-- Sending copy `p`: 0 its source not there yet, 1 ready, 2 under way, 3 done. -/
def sendSt (c : Dev nD) (p : Cp) : ℕ → sProp 𝕄
  | 0 => toks c p
  | 1 => iprop(toks c p ∗ cif (hasSrc c p) (srcPts m c p))
  | 2 => iprop(atPos ER (sendCell c p) 0 ∅ 0 ∗ if act c p = true then cred (tallyAt (sendCell c p) () N) else cif (hasSrc c p) (srcPts m c p))
  | _ => iprop(atPos ER (sendCell c p) (if act c p = true then 1 else 0) ∅ 0 ∗ cif (hasSrc c p) (srcPts m c p))
/-- Receiving copy `p`: 0 before, 1 after. -/
def recvSt (c : Dev nD) (p : Cp) : ℕ → sProp 𝕄
  | 0 => iprop(atPos ER (recvCell c p) 0 ∅ 0 ∗ cif (ract c p) (cred (tallyAt (recvCell c p) () N)))
  | _ => iprop(atPos ER (recvCell c p) (if ract c p = true then 1 else 0) ∅ 0 ∗ cif (ract c p) (keep m c p))

def Ow (c : Dev nD) (l : List Due) : sProp 𝕄 := iprop(∃ W, owes (c : Thread nD τ) (owing c l) W)

def Sends (c : Dev nD) (a : Cp → ℕ) : sProp 𝕄 := bigSep Finset.univ fun p => sendSt m c p (a p)
def Recvs (c : Dev nD) (b : Cp → ℕ) : sProp 𝕄 := bigSep Finset.univ fun p => recvSt m c p (b p)

/-- Device `c` between two effects of its body: the sending and receiving states, what it owes, and whatever else it holds. -/
def G (c : Dev nD) (a b : Cp → ℕ) (l : List Due) (X : sProp 𝕄) : sProp 𝕄 :=
  iprop(invs m κ ∗ levAts L lv ∗ Sends m c a ∗ Recvs m c b ∗ Ow c l ∗ X)

abbrev put (a : Cp → ℕ) (p : Cp) (n : ℕ) : Cp → ℕ := Function.update a p n

theorem sendSt_zero (c : Dev nD) (p : Cp) : sendSt m c p 0 = toks c p := rfl
theorem sendSt_one (c : Dev nD) (p : Cp) : sendSt m c p 1 = iprop(toks c p ∗ cif (hasSrc c p) (srcPts m c p)) := rfl
theorem sendSt_two (c : Dev nD) (p : Cp) : sendSt m c p 2 = iprop(atPos ER (sendCell c p) 0 ∅ 0
    ∗ if act c p = true then cred (tallyAt (sendCell c p) () N) else cif (hasSrc c p) (srcPts m c p)) := rfl
theorem sendSt_three (c : Dev nD) (p : Cp) : sendSt m c p 3
    = iprop(atPos ER (sendCell c p) (if act c p = true then 1 else 0) ∅ 0 ∗ cif (hasSrc c p) (srcPts m c p)) := rfl
theorem recvSt_zero (c : Dev nD) (p : Cp) : recvSt m c p 0
    = iprop(atPos ER (recvCell c p) 0 ∅ 0 ∗ cif (ract c p) (cred (tallyAt (recvCell c p) () N))) := rfl
theorem recvSt_one (c : Dev nD) (p : Cp) : recvSt m c p 1
    = iprop(atPos ER (recvCell c p) (if ract c p = true then 1 else 0) ∅ 0 ∗ cif (ract c p) (keep m c p)) := rfl

theorem Sends_at (c : Dev nD) (a : Cp → ℕ) (p : Cp) (n n' : ℕ) (h : a p = n) :
    Sends m c a ⊢ iprop(sendSt m c p n ∗ (sendSt m c p n' -∗ Sends m c (put a p n'))) := by
  unfold Sends
  rw [bigSep_univ_at _ p, h]
  iintro ⟨H, Hr⟩
  isplitl [H]; · iexact H
  iintro H
  rw [bigSep_univ_at _ p]
  isplitl [H]
  · rw [put, Function.update_self]; iexact H
  rw [bigSep_congr (Φ := fun i => sendSt m c i (put a p n' i)) (Ψ := fun i => sendSt m c i (a i))
    fun i hi => by rw [put, Function.update_of_ne (Finset.ne_of_mem_erase hi)]]
  iexact Hr
theorem Recvs_at (c : Dev nD) (a : Cp → ℕ) (p : Cp) (n n' : ℕ) (h : a p = n) :
    Recvs m c a ⊢ iprop(recvSt m c p n ∗ (recvSt m c p n' -∗ Recvs m c (put a p n'))) := by
  unfold Recvs
  rw [bigSep_univ_at _ p, h]
  iintro ⟨H, Hr⟩
  isplitl [H]; · iexact H
  iintro H
  rw [bigSep_univ_at _ p]
  isplitl [H]
  · rw [put, Function.update_self]; iexact H
  rw [bigSep_congr (Φ := fun i => recvSt m c i (put a p n' i)) (Ψ := fun i => recvSt m c i (a i))
    fun i hi => by rw [put, Function.update_of_ne (Finset.ne_of_mem_erase hi)]]
  iexact Hr

theorem ready (c : Dev nD) (p : Cp) (h : act c p = true) : sendSt m c p 1
    = iprop((atPos ER (sendCell c p) 0 ∅ 0 ∗ reached ER (sendCell c p) 0
      ∗ (dutyTok ER (sendCell c p) 0 0 ∗ dutyTok ER (recvCell (peer c p) p) 0 0)
      ∗ slot (F := F) (peer c p) p ∗ reached ER (recvCell (peer c p) p) 0) ∗ srcPts m c p) := by
  rw [sendSt_one]; unfold toks landing
  rw [cif_true (hasSrc_of_act c p h), cif_true h, cif_true h]
theorem under_way (c : Dev nD) (p : Cp) (h : act c p = true) : sendSt m c p 2
    = iprop(atPos ER (sendCell c p) 0 ∅ 0 ∗ cred (tallyAt (sendCell c p) () N)) := by rw [sendSt_two, if_pos h]

/-! ## Steps -/

variable {m} {κ} {c : Dev nD} {a b : Cp → ℕ} {l : List Due}

theorem slice_blk {b : Fin 16} {off : Fin 2 → ℕ} (h : off = ![128 * b.val, 0]) (inb : ∀ a, off a + S128x1024.size a ≤ S2048x1024.size a) :
    (Memref.whole cc0_stg2_0).slice (Rect.unit (s := S2048x1024) off S128x1024.size inb) (fun _ => rfl) = blkM b := by
  subst h; rfl

/-- The rule of a copy between devices at the cells of copy `p`, for any source whose share is what the sender
    gets back and any destination that holds what the receiver gets. -/
theorem wp_cp (p : Cp) (h : act c p = true) {sM : Memref sig .tc .vmem S128x1024 .bf16} {dM : Memref sig .tc .vmem S128x1024 .bf16}
    {hsc : dM.view.ref.isScScratch = false} {hsrc : sM.view.WordExact} {hdst : dM.view.WordExact}
    {hsem : DmaTarget.Typed .vmem (.dma (recvS p)) (.remote (peer c p : Thread nD τ) dM (.dma (sendS p)) hsc)}
    {α : Type} {Q : α → sProp 𝕄} {k : PUnit → Prog (TpuEff nD τ sig (Elt F) Λ₀ .tc) α}
    {q : PosShare TreeShare} {fs : Buf (Elt F) (sM.view.loc (c : Thread nD τ))} {fd g : Buf (Elt F) (dM.view.loc (peer c p : Thread nD τ))}
    {W : Waits sig Unit} (hN : dM.view.dmaCredit = N)
    (hp1 : (sM.view.loc (c : Thread nD τ) ↦[sM.view.set]{q} fs) ⊢ srcPts m c p)
    (hp2 : (dM.view.loc (peer c p : Thread nD τ) ↦[dM.view.set]{fullShare} g) ⊢ gotPts m (peer c p) p)
    (hw : sM.view.read (Elt F) fs = dM.view.read (Elt F) g) :
    iprop(cellInv ER (Rd m) (κ.nm (sendCell c p)) (sendCell c p) ∗ cellInv ER (Rd m) (κ.nm (recvCell (peer c p) p)) (recvCell (peer c p) p)
        ∗ (sM.view.loc (c : Thread nD τ) ↦[sM.view.set]{q} fs) ∗ (dM.view.loc (peer c p : Thread nD τ) ↦[dM.view.set]{fullShare} fd)
        ∗ owes (c : Thread nD τ) (owing c (.cp p :: l)) W
        ∗ dutyTok ER (sendCell c p) 0 0 ∗ reached ER (sendCell c p) 0
        ∗ dutyTok ER (recvCell (peer c p) p) 0 0 ∗ reached ER (recvCell (peer c p) p) 0)
      ⊢ iprop(((cred (tallyAt (sendCell c p) () N) ∗ owes (c : Thread nD τ) (owing c l) W) -∗ (wp frame (wpE (defs₀ (F := F)) 𝒱₀ (c : Thread nD τ) none) Set.univ) (k ⟨⟩) Q)
          -∗ (wp frame (wpE (defs₀ (F := F)) 𝒱₀ (c : Thread nD τ) none) Set.univ) (.op (.enqueueDma sM (.remote (peer c p : Thread nD τ) dM (.dma (sendS p)) hsc) (.dma (recvS p)) hsrc hdst hsem) k) Q) := by
  have hd1 : (0 : Fin 4) ∈ (Rd m).duties (sendCell c p) 0 := by rw [duties_send, if_pos h]; exact Finset.mem_singleton_self _
  have hd2 : (0 : Fin 4) ∈ (Rd m).duties (recvCell (peer c p) p) 0 := by
    rw [duties_recv, ract, src, from_towards, if_pos h]; exact Finset.mem_singleton_self _
  have hpay1 : (sM.view.loc (c : Thread nD τ) ↦[sM.view.set]{q} fs) ⊢ (Rd m).payload (sendCell c p) 0 0 := by
    rw [payload_send]; exact hp1
  have hpay2 : (dM.view.loc (peer c p : Thread nD τ) ↦[dM.view.set]{fullShare} (dM.view.write (Elt F) fd (sM.view.read (Elt F) fs) Finset.univ))
      ⊢ (Rd m).payload (recvCell (peer c p) p) 0 0 := by
    rw [payload_recv, pts_write (peer c p : Thread nD τ) dM.view fullShare fd g _ hw]; exact hp2
  exact Rounds.wp_send_pointsTo 𝒱₀ ER (Rd m) (c : Thread nD τ) none (κ₁ := κ.nm (sendCell c p)) (κ₂ := κ.nm (recvCell (peer c p) p))
    (r₁ := 0) (r₂ := 0) (d₁ := 0) (d₂ := 0) (fd := fd) hd1 hd2 () () N hN rfl rfl (owing c l) (owing_cons c (.cp p) l h) (W := W) hpay1 hpay2

/-- Issuing copy `p`. -/
theorem step_cp {X : sProp 𝕄} (p : Cp) (ha : a p = 1) (h : act c p = true) {n : Dev nD} (hn : n.val = (peer c p).val)
    {sM dM : Memref sig .tc .vmem S128x1024 .bf16} {ss rs : DmaSem sig} (hss : ss = sendS p) (hrs : rs = recvS p)
    {hsc : dM.view.ref.isScScratch = false} {hsrc : sM.view.WordExact} {hdst : dM.view.WordExact}
    {hsem : DmaTarget.Typed .vmem (.dma rs) (.remote (n : Thread nD τ) dM (.dma ss) hsc)}
    {α : Type} {Q : α → sProp 𝕄} {k : PUnit → Prog (TpuEff nD τ sig (Elt F) Λ₀ .tc) α}
    {q : PosShare TreeShare} {fs : Buf (Elt F) (sM.view.loc (c : Thread nD τ))} {g : Buf (Elt F) (dM.view.loc (peer c p : Thread nD τ))}
    (hN : dM.view.dmaCredit = N)
    (hp1 : srcPts m c p = (sM.view.loc (c : Thread nD τ) ↦[sM.view.set]{q} fs))
    (hp0 : slot (F := F) (peer c p) p = iprop(∃ f, dM.view.loc (peer c p : Thread nD τ) ↦[dM.view.set]{fullShare} f))
    (hp2 : gotPts m (peer c p) p = (dM.view.loc (peer c p : Thread nD τ) ↦[dM.view.set]{fullShare} g))
    (hw : sM.view.read (Elt F) fs = dM.view.read (Elt F) g)
    (hk : G m κ c (put a p 2) b l X ⊢ (wp frame (wpE (defs₀ (F := F)) 𝒱₀ (c : Thread nD τ) none) Set.univ) (k ⟨⟩) Q) :
    G m κ c a b (.cp p :: l) X ⊢ (wp frame (wpE (defs₀ (F := F)) 𝒱₀ (c : Thread nD τ) none) Set.univ) (.op (.enqueueDma sM (.remote (n : Thread nD τ) dM (.dma ss) hsc) (.dma rs) hsrc hdst hsem) k) Q := by
  obtain rfl : n = peer c p := Fin.ext hn
  subst hss hrs
  have h1 : (sM.view.loc (c : Thread nD τ) ↦[sM.view.set]{q} fs) ⊢ srcPts m c p := by rw [hp1]
  have h2 : (dM.view.loc (peer c p : Thread nD τ) ↦[dM.view.set]{fullShare} g) ⊢ gotPts m (peer c p) p := by rw [hp2]
  unfold G
  iintro ⟨#HI, #Hlev, HS, HR, HO, HX⟩
  ihave ⟨Hp, HS⟩ := (Sends_at m c a p 1 2 ha) $$ HS
  ihave Hp := (Entails.of_eq (ready m c p h)) $$ Hp
  icases Hp with ⟨⟨Hat, #Hr, ⟨Ht1, Ht2⟩, Hd, #Hr2⟩, Hsrc⟩
  ihave Hd := (Entails.of_eq hp0) $$ Hd
  icases Hd with ⟨%fd, Hd⟩
  ihave Hsrc := (Entails.of_eq hp1) $$ Hsrc
  unfold Ow
  icases HO with ⟨%W, HO⟩
  iapply (wp_cp (m := m) (κ := κ) (l := l) p h (sM := sM) (dM := dM) (hsc := hsc) (hsrc := hsrc) (hdst := hdst) (hsem := hsem) (k := k) (Q := Q) (q := q) (fs := fs) (fd := fd) (g := g) (W := W) hN h1 h2 hw) $$ [HO Ht1 Ht2 Hd Hsrc]
  · isplitr; · iapply (invs_at m κ _ (send_mem c p)); iexact HI
    isplitr; · iapply (invs_at m κ _ (recv_mem (peer c p) p)); iexact HI
    isplitl [Hsrc]; · iexact Hsrc
    isplitl [Hd]; · iexact Hd
    isplitl [HO]; · iexact HO
    isplitl [Ht1]; · iexact Ht1
    isplitr; · iexact Hr
    isplitl [Ht2]; · iexact Ht2
    iexact Hr2
  iintro ⟨Hc, HO⟩
  iapply hk
  unfold G Ow
  isplitr; · iexact HI
  isplitr; · iexact Hlev
  isplitl [HS Hat Hc]
  · iapply HS
    iapply (Entails.of_eq (under_way m c p h).symm)
    isplitl [Hat]; · iexact Hat
    iexact Hc
  isplitl [HR]; · iexact HR
  isplitl [HO]; · iexists W; iexact HO
  iexact HX

end Cert.Embed

end
-- ==== Proof.Steps.lean ====
/-
  The effects of the body on semaphores, each as a step between states: issuing a copy, waiting for its
  arrival, waiting for it to have left; and the same steps of a device that does not take part in a copy,
  where nothing happens.
-/
module

public import proofs.«01_k».proof.Proof.State

@[expose] public section

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD} {a b : Cp → ℕ} {l : List Due}

/-! ## Issuing -/

theorem src_blk (p : Cp) (hp : 2 ≤ p.val) : srcPts m c p
    = ((blkM (blkOf c p)).view.loc (c : Thread nD τ) ↦[(blkM (blkOf c p)).view.set]{shr p} outv m c) := by
  rw [srcPts, if_neg (by omega)]; rfl
theorem slot_blk (p : Cp) (hp : 2 ≤ p.val) : slot (F := F) (peer c p) p
    = iprop(∃ f, (blkM (blkOf c p)).view.loc (peer c p : Thread nD τ) ↦[(blkM (blkOf c p)).view.set]{fullShare} f) := by
  rw [slot, if_neg (by omega), src, from_towards]; rfl
theorem got_blk (p : Cp) (hp : 2 ≤ p.val) : gotPts m (peer c p) p
    = ((blkM (blkOf c p)).view.loc (peer c p : Thread nD τ) ↦[(blkM (blkOf c p)).view.set]{fullShare} outv m (peer c p)) := by
  rw [gotPts, if_neg (by omega), src, from_towards]; rfl
theorem src_part (p : Cp) (hp : p.val < 2) : srcPts m c p
    = ((partM (hf p)).view.loc (c : Thread nD τ) ↦[(partM (hf p)).view.set]{shr p} partv m c) := by
  rw [srcPts, if_pos hp]; rfl
theorem slot_part (p : Cp) (hp : p.val < 2) : slot (F := F) (peer c p) p
    = iprop(∃ f, (yM (hf p)).view.loc (peer c p : Thread nD τ) ↦[(yM (hf p)).view.set]{fullShare} f) := by
  rw [slot, if_pos hp]; rfl
theorem flip_flip (p : Cp) (hp : p.val < 2) : yFlip (peer c p) = c := by
  have hd : dir p = 0 := by rw [dir, if_pos hp]
  unfold peer; rw [hd]; exact from_towards 0 c
theorem got_part (p : Cp) (hp : p.val < 2) : gotPts m (peer c p) p
    = ((yM (hf p)).view.loc (peer c p : Thread nD τ) ↦[(yM (hf p)).view.set]{fullShare} partv m c) := by
  rw [gotPts, if_pos hp, flip_flip p hp]; rfl

section
variable {n : Dev nD} {sM dM : Memref sig .tc .vmem S128x1024 .bf16} {ss rs : DmaSem sig}
  {hsc : dM.view.ref.isScScratch = false} {hsrc : sM.view.WordExact} {hdst : dM.view.WordExact}
  {hsem : DmaTarget.Typed .vmem (.dma rs) (.remote (n : Thread nD τ) dM (.dma ss) hsc)}
  {α : Type}

/-- A device issues the copy of a block. -/
theorem step_blk {Q : α → sProp 𝕄} {k : PUnit → Prog (TpuEff nD τ sig (Elt F) Λ₀ .tc) α} {X : sProp 𝕄}
    (p : Cp) (hp : 2 ≤ p.val) (ha : a p = 1) (h : act c p = true) (hn : n.val = (peer c p).val)
    (hs : sM = blkM (blkOf c p)) (hd : dM = blkM (blkOf c p)) (hss : ss = sendS p) (hrs : rs = recvS p)
    (hk : G m κ c (put a p 2) b l X ⊢ (wp frame (wpE (defs₀ (F := F)) 𝒱₀ (c : Thread nD τ) none) Set.univ) (k ⟨⟩) Q) :
    G m κ c a b (.cp p :: l) X ⊢ (wp frame (wpE (defs₀ (F := F)) 𝒱₀ (c : Thread nD τ) none) Set.univ) (.op (.enqueueDma sM (.remote (n : Thread nD τ) dM (.dma ss) hsc) (.dma rs) hsrc hdst hsem) k) Q := by
  subst hs hd
  exact step_cp p ha h hn hss hrs rfl (src_blk p hp) (slot_blk p hp) (got_blk p hp) (by rw [outv_peer m c p hp]) hk

/-- A device issues the copy of half its gathered rows. -/
theorem step_part {Q : α → sProp 𝕄} {k : PUnit → Prog (TpuEff nD τ sig (Elt F) Λ₀ .tc) α} {X : sProp 𝕄}
    (p : Cp) (hp : p.val < 2) (ha : a p = 1) (h : act c p = true) (hn : n.val = (peer c p).val)
    (hs : sM = partM (hf p)) (hd : dM = yM (hf p)) (hss : ss = sendS p) (hrs : rs = recvS p)
    (hk : G m κ c (put a p 2) b l X ⊢ (wp frame (wpE (defs₀ (F := F)) 𝒱₀ (c : Thread nD τ) none) Set.univ) (k ⟨⟩) Q) :
    G m κ c a b (.cp p :: l) X ⊢ (wp frame (wpE (defs₀ (F := F)) 𝒱₀ (c : Thread nD τ) none) Set.univ) (.op (.enqueueDma sM (.remote (n : Thread nD τ) dM (.dma ss) hsc) (.dma rs) hsrc hdst hsem) k) Q := by
  subst hs hd
  exact step_cp p ha h hn hss hrs rfl (src_part p hp) (slot_part p hp) (got_part p hp)
    ((read_part m c (hf p)).trans (read_y m c (hf p)).symm) hk
end

/-! ## Waiting -/

section
variable {sp sp' : Space} {s s' : Shape} {e e' : EltTy} {sm : DmaSem sig}
  {sM : Memref sig .tc sp' s' e'} {κ' : Kind} {dM : Memref sig κ' sp s e} {hsrc : sM.view.WordExact} {hdst : dM.view.WordExact} {α : Type}

/-- The rule of a wait for the one copy a cell counts. -/
theorem wp_arr {Q : α → sProp 𝕄} {k : PUnit → Prog (TpuEff nD τ sig (Elt F) Λ₀ .tc) α}
    (hg : ((c : Thread nD τ), SemLoc.dma sm) ∈ cells) (he : (Rd m).expect ((c : Thread nD τ), SemLoc.dma sm) 0 = N)
    (hN : dM.view.dmaCredit = N) (hl : ∀ d ∈ l, lev (.dma sm) < d.lvl) :
    iprop(invs m κ ∗ levAts L lv ∗ cred (tallyAt ((c : Thread nD τ), SemLoc.dma sm) () N) ∗ Ow (F := F) c l
        ∗ atPos ER ((c : Thread nD τ), SemLoc.dma sm) 0 ∅ 0)
      ⊢ iprop(((Ow (F := F) c l ∗ atPos ER ((c : Thread nD τ), SemLoc.dma sm) 1 ∅ 0
            ∗ bigSep ((Rd m).duties ((c : Thread nD τ), SemLoc.dma sm) 0 \ ∅) fun d => (Rd m).payload ((c : Thread nD τ), SemLoc.dma sm) 0 d)
          -∗ (wp frame (wpE (defs₀ (F := F)) 𝒱₀ (c : Thread nD τ) none) Set.univ) (k ⟨⟩) Q)
        -∗ (wp frame (wpE (defs₀ (F := F)) 𝒱₀ (c : Thread nD τ) none) Set.univ) (.op (.waitDma2 sm sM dM hsrc hdst) k) Q) := by
  have hw : ∀ K : PUnit → sProp 𝕄, wpE (defs₀ (F := F)) 𝒱₀ (c : Thread nD τ) none Set.univ (.waitDma2 sm sM dM hsrc hdst) K
      = waitSpec (c : Thread nD τ) Set.univ (.dma sm) N K := fun K => by
    rw [← hN]; exact wpE_waitDma2_eq 𝒱₀ (c : Thread nD τ) none Set.univ K
  unfold Ow
  iintro ⟨#HI, #Hlev, Hc, ⟨%W, HO⟩, Hat⟩ Hk
  iapply (Rounds.wp_wait_rest_token 𝒱₀ ER (Rd m) (c : Thread nD τ) none (κ := κ.nm ((c : Thread nD τ), SemLoc.dma sm))
    hw (Set.mem_univ _) () (O := owing c l) (W := W) (R := 0) (m := 0) (T := ∅)
    ((Nat.zero_add _).trans he.symm)) $$ [Hc HO Hat]
  · isplitr; · iapply (invs_at m κ _ hg); iexact HI
    isplitl [Hc]; · iexact Hc
    isplitl [HO]; · iexact HO
    isplitr; · iapply (mayWait c (.dma sm) l hl); iexact Hlev
    iexact Hat
  iintro ⟨HO, Hat, -, Hpay⟩
  iapply Hk
  isplitl [HO]; · iexists _; iexact HO
  isplitl [Hat]; · iexact Hat
  iexact Hpay

theorem rest_send (p : Cp) (h : act c p = true) :
    (bigSep ((Rd m).duties (sendCell c p) 0 \ ∅) fun d => (Rd m).payload (sendCell c p) 0 d) = srcPts m c p := by
  rw [duties_send, if_pos h, Finset.sdiff_empty, bigSep_singleton, payload_send]
theorem rest_recv (p : Cp) (h : ract c p = true) :
    (bigSep ((Rd m).duties (recvCell c p) 0 \ ∅) fun d => (Rd m).payload (recvCell c p) 0 d) = gotPts m c p := by
  rw [duties_recv, if_pos h, Finset.sdiff_empty, bigSep_singleton, payload_recv]
theorem left (c : Dev nD) (p : Cp) (h : act c p = true) : sendSt m c p 3
    = iprop(atPos ER (sendCell c p) 1 ∅ 0 ∗ srcPts m c p) := by
  rw [sendSt_three, if_pos h, cif_true (hasSrc_of_act c p h)]
theorem due (c : Dev nD) (p : Cp) (h : ract c p = true) : recvSt m c p 0
    = iprop(atPos ER (recvCell c p) 0 ∅ 0 ∗ cred (tallyAt (recvCell c p) () N)) := by
  rw [recvSt_zero, cif_true h]
theorem kept (c : Dev nD) (p : Cp) (h : ract c p = true) : recvSt m c p 1
    = iprop(atPos ER (recvCell c p) 1 ∅ 0 ∗ keep m c p) := by
  rw [recvSt_one, if_pos h, cif_true h]

/-- A device waits until its copy has left: its source share is back. -/
theorem step_left {Q : α → sProp 𝕄} {k : PUnit → Prog (TpuEff nD τ sig (Elt F) Λ₀ .tc) α} {X : sProp 𝕄}
    (p : Cp) (ha : a p = 2) (h : act c p = true) (hs : sm = sendS p) (hN : dM.view.dmaCredit = N)
    (hk : G m κ c (put a p 3) b [] X ⊢ (wp frame (wpE (defs₀ (F := F)) 𝒱₀ (c : Thread nD τ) none) Set.univ) (k ⟨⟩) Q) :
    G m κ c a b [] X ⊢ (wp frame (wpE (defs₀ (F := F)) 𝒱₀ (c : Thread nD τ) none) Set.univ) (.op (.waitDma2 sm sM dM hsrc hdst) k) Q := by
  subst hs
  unfold G
  iintro ⟨#HI, #Hlev, HS, HR, HO, HX⟩
  ihave ⟨Hp, HS⟩ := (Sends_at m c a p 2 3 ha) $$ HS
  ihave ⟨Hat, Hc⟩ := (Entails.of_eq (under_way m c p h)) $$ Hp
  iapply (wp_arr (m := m) (κ := κ) (l := []) (send_mem c p) (expect_send m c p h) hN (fun d hd => absurd hd (List.not_mem_nil))) $$ [Hat Hc HO]
  · isplitr; · iexact HI
    isplitr; · iexact Hlev
    isplitl [Hc]; · iexact Hc
    isplitl [HO]; · iexact HO
    iexact Hat
  iintro ⟨HO, Hat, Hp⟩
  ihave Hp := (Entails.of_eq (rest_send p h)) $$ Hp
  iapply hk
  unfold G
  isplitr; · iexact HI
  isplitr; · iexact Hlev
  isplitl [HS Hat Hp]
  · iapply HS
    iapply (Entails.of_eq (left c p h).symm)
    isplitl [Hat]; · iexact Hat
    iexact Hp
  isplitl [HR]; · iexact HR
  isplitl [HO]; · iexact HO
  iexact HX

/-- A device waits for a copy that no other of its copies brings forwards. -/
theorem step_arr {Q : α → sProp 𝕄} {k : PUnit → Prog (TpuEff nD τ sig (Elt F) Λ₀ .tc) α} {X : sProp 𝕄}
    (p : Cp) (hz : ¬ (4 ≤ p.val ∧ p.val < 16)) (hb : b p = 0) (h : ract c p = true) (hs : sm = recvS p) (hN : dM.view.dmaCredit = N)
    (hl : ∀ d ∈ l, lvl p < d.lvl)
    (hk : G m κ c a (put b p 1) l X ⊢ (wp frame (wpE (defs₀ (F := F)) 𝒱₀ (c : Thread nD τ) none) Set.univ) (k ⟨⟩) Q) :
    G m κ c a b l X ⊢ (wp frame (wpE (defs₀ (F := F)) 𝒱₀ (c : Thread nD τ) none) Set.univ) (.op (.waitDma2 sm sM dM hsrc hdst) k) Q := by
  subst hs
  have e : keep m c p = gotPts m c p := if_neg hz
  unfold G
  iintro ⟨#HI, #Hlev, HS, HR, HO, HX⟩
  ihave ⟨Hp, HR⟩ := (Recvs_at m c b p 0 1 hb) $$ HR
  ihave ⟨Hat, Hc⟩ := (Entails.of_eq (due c p h)) $$ Hp
  iapply (wp_arr (m := m) (κ := κ) (l := l) (recv_mem c p) (expect_recv m c p h) hN (by rw [lev_recv]; exact hl)) $$ [Hat Hc HO]
  · isplitr; · iexact HI
    isplitr; · iexact Hlev
    isplitl [Hc]; · iexact Hc
    isplitl [HO]; · iexact HO
    iexact Hat
  iintro ⟨HO, Hat, Hp⟩
  ihave Hp := (Entails.of_eq ((rest_recv p h).trans e.symm)) $$ Hp
  iapply hk
  unfold G
  isplitr; · iexact HI
  isplitr; · iexact Hlev
  isplitl [HS]; · iexact HS
  isplitl [HR Hat Hp]
  · iapply HR
    iapply (Entails.of_eq (kept c p h).symm)
    isplitl [Hat]; · iexact Hat
    iexact Hp
  isplitl [HO]; · iexact HO
  iexact HX
end

/-! ## Handing a received block on -/

theorem blk_on1 : ∀ (c : Dev nD) (p : Cp), 4 ≤ p.val ∧ p.val < 16 → ract c p = true → (q : Cp) → q.val = p.val + 12 → blkOf c q = blkOf (src c p) p := by
  decide +kernel
theorem blk_on2 : ∀ (c : Dev nD) (p : Cp), 4 ≤ p.val ∧ p.val < 16 → back p < 2 → ract c p = true → (q : Cp) → q.val = p.val + 2 → blkOf c q = blkOf (src c p) p := by
  decide +kernel
theorem hasSrc_on1 : ∀ (c : Dev nD) (p : Cp), 4 ≤ p.val ∧ p.val < 16 → (q : Cp) → q.val = p.val + 12 → hasSrc c q = ract c p := by
  decide +kernel
theorem hasSrc_on2 : ∀ (c : Dev nD) (p : Cp), 4 ≤ p.val ∧ p.val < 16 → back p < 2 → (q : Cp) → q.val = p.val + 2 → hasSrc c q = ract c p := by
  decide +kernel
theorem shr_on1 : ∀ (p : Cp), 16 ≤ p.val → shr p = fullShare.right := fun p h => by
  rw [shr, if_neg (by omega), if_neg (by omega), if_neg (by omega)]
theorem shr_on2 : ∀ (p : Cp), 6 ≤ p.val ∧ p.val < 16 → back p ≠ 0 → shr p = fullShare.left := fun p h hb => by
  rw [shr, if_neg (by omega), if_neg (by omega), if_pos h.2, if_neg (fun e => hb e.1)]
theorem back_on : ∀ (p q : Cp), 4 ≤ p.val ∧ p.val < 16 → back p < 2 → q.val = p.val + 2 → back q ≠ 0 ∧ 6 ≤ q.val ∧ q.val < 16 := by
  decide +kernel

theorem bPts_split (c : Dev nD) (b : Fin 16) (q : PosShare TreeShare) (f : S2048x1024.Idx → Elt F .bf16) :
    bPts c b q f = iprop(bPts c b q.left f ∗ bPts c b q.right f) := by
  unfold bPts
  have h := pointsTo_share (nD := nD) (τ := τ) (sig := sig) (Ix := Unit) (Val := Elt F) (Name := ℕ) (U := UU) (Lvl := ℕ)
    (ℓ := (blkM b).view.loc (c : Thread nD τ)) (I := (blkM b).view.set) (f := f) (PosShare.mem_left_op_right q)
  exact BI.Entails.antisymm h.1 h.2
theorem pPts_split (c : Dev nD) (b : Fin 2) (q : PosShare TreeShare) (f : S256x1024.Idx → Elt F .bf16) :
    pPts c b q f = iprop(pPts c b q.left f ∗ pPts c b q.right f) := by
  unfold pPts
  have h := pointsTo_share (nD := nD) (τ := τ) (sig := sig) (Ix := Unit) (Val := Elt F) (Name := ℕ) (U := UU) (Lvl := ℕ)
    (ℓ := (partM b).view.loc (c : Thread nD τ)) (I := (partM b).view.set) (f := f) (PosShare.mem_left_op_right q)
  exact BI.Entails.antisymm h.1 h.2

/-- The source of a copy, put in its place. -/
theorem arm (q : Cp) (ha : a q = 0) : iprop(Sends m c a ∗ cif (hasSrc c q) (srcPts m c q)) ⊢ Sends m c (put a q 1) := by
  iintro ⟨HS, Hq⟩
  ihave ⟨Hp, HS⟩ := (Sends_at m c a q 0 1 ha) $$ HS
  iapply HS
  iapply (Entails.of_eq (sendSt_one m c q).symm)
  isplitl [Hp]; · iapply (Entails.of_eq (sendSt_zero m c q)); iexact Hp
  iexact Hq

/-- A block received on its way along the line, taken apart for the two copies that bring it forwards. -/
theorem apart_mid (p q₂ q₁ : Cp) (hz : 4 ≤ p.val ∧ p.val < 16) (hm : back p < 2) (h2 : q₂.val = p.val + 2) (h1 : q₁.val = p.val + 12) :
    cif (ract c p) (gotPts m c p) ⊢ iprop(cif (ract c p) (keep m c p) ∗ cif (hasSrc c q₂) (srcPts m c q₂) ∗ cif (hasSrc c q₁) (srcPts m c q₁)) := by
  rw [hasSrc_on1 c p hz q₁ h1, hasSrc_on2 c p hz hm q₂ h2]
  cases h : ract c p with
  | false =>
    rw [cif_false rfl, cif_false rfl, cif_false rfl, cif_false rfl]
    iintro H; isplitr; · iempintro
    isplitr <;> iempintro
  | true =>
    obtain ⟨hb, hq⟩ := back_on p q₂ hz hm h2
    rw [cif_true rfl, cif_true rfl, cif_true rfl, cif_true rfl, keep, if_pos hz, if_pos hm, gotPts, if_neg (by omega),
      srcPts, if_neg (by omega), srcPts, if_neg (by omega), blk_on1 c p hz h q₁ h1, blk_on2 c p hz hm h q₂ h2,
      shr_on1 q₁ (by omega), shr_on2 q₂ hq hb, bPts_split c _ fullShare]
    iintro H; isplitr; · iempintro
    iexact H
/-- The same for a block at its last device: one copy. -/
theorem apart_end (p q₁ : Cp) (hz : 4 ≤ p.val ∧ p.val < 16) (hm : ¬ back p < 2) (h1 : q₁.val = p.val + 12) :
    cif (ract c p) (gotPts m c p) ⊢ iprop(cif (ract c p) (keep m c p) ∗ cif (hasSrc c q₁) (srcPts m c q₁)) := by
  rw [hasSrc_on1 c p hz q₁ h1]
  cases h : ract c p with
  | false =>
    rw [cif_false rfl, cif_false rfl, cif_false rfl]
    iintro H; isplitr <;> iempintro
  | true =>
    rw [cif_true rfl, cif_true rfl, cif_true rfl, keep, if_pos hz, if_neg hm, gotPts, if_neg (by omega),
      srcPts, if_neg (by omega), blk_on1 c p hz h q₁ h1, shr_on1 q₁ (by omega), bPts_split c _ fullShare]

section
variable {sp sp' : Space} {s s' : Shape} {e e' : EltTy} {sm : DmaSem sig}
  {sM : Memref sig .tc sp' s' e'} {κ' : Kind} {dM : Memref sig κ' sp s e} {hsrc : sM.view.WordExact} {hdst : dM.view.WordExact} {α : Type}

/-- A device waits for a block on its way along the line. -/
theorem step_mid {Q : α → sProp 𝕄} {k : PUnit → Prog (TpuEff nD τ sig (Elt F) Λ₀ .tc) α} {X : sProp 𝕄}
    (p q₂ q₁ : Cp) (hz : 4 ≤ p.val ∧ p.val < 16) (hm : back p < 2) (h2 : q₂.val = p.val + 2) (h1 : q₁.val = p.val + 12)
    (hb : b p = 0) (ha2 : a q₂ = 0) (ha1 : put a q₂ 1 q₁ = 0) (h : ract c p = true) (hs : sm = recvS p) (hN : dM.view.dmaCredit = N)
    (hl : ∀ d ∈ l, lvl p < d.lvl)
    (hk : G m κ c (put (put a q₂ 1) q₁ 1) (put b p 1) l X ⊢ (wp frame (wpE (defs₀ (F := F)) 𝒱₀ (c : Thread nD τ) none) Set.univ) (k ⟨⟩) Q) :
    G m κ c a b l X ⊢ (wp frame (wpE (defs₀ (F := F)) 𝒱₀ (c : Thread nD τ) none) Set.univ) (.op (.waitDma2 sm sM dM hsrc hdst) k) Q := by
  subst hs
  unfold G
  iintro ⟨#HI, #Hlev, HS, HR, HO, HX⟩
  ihave ⟨Hp, HR⟩ := (Recvs_at m c b p 0 1 hb) $$ HR
  ihave ⟨Hat, Hc⟩ := (Entails.of_eq (due c p h)) $$ Hp
  iapply (wp_arr (m := m) (κ := κ) (l := l) (recv_mem c p) (expect_recv m c p h) hN (by rw [lev_recv]; exact hl)) $$ [Hat Hc HO]
  · isplitr; · iexact HI
    isplitr; · iexact Hlev
    isplitl [Hc]; · iexact Hc
    isplitl [HO]; · iexact HO
    iexact Hat
  iintro ⟨HO, Hat, Hp⟩
  ihave Hp := (Entails.of_eq ((rest_recv p h).trans (cif_true h _).symm)) $$ Hp
  ihave ⟨Hkp, H2, H1⟩ := (apart_mid p q₂ q₁ hz hm h2 h1) $$ Hp
  ihave Hkp := (Entails.of_eq (cif_true h _)) $$ Hkp
  ihave HS := (arm q₂ ha2) $$ [HS H2]
  · isplitl [HS]; · iexact HS
    iexact H2
  ihave HS := (arm q₁ ha1) $$ [HS H1]
  · isplitl [HS]; · iexact HS
    iexact H1
  iapply hk
  unfold G
  isplitr; · iexact HI
  isplitr; · iexact Hlev
  isplitl [HS]; · iexact HS
  isplitl [HR Hat Hkp]
  · iapply HR
    iapply (Entails.of_eq (kept c p h).symm)
    isplitl [Hat]; · iexact Hat
    iexact Hkp
  isplitl [HO]; · iexact HO
  iexact HX

/-- A device waits for a block that goes no further along the line. -/
theorem step_end {Q : α → sProp 𝕄} {k : PUnit → Prog (TpuEff nD τ sig (Elt F) Λ₀ .tc) α} {X : sProp 𝕄}
    (p q₁ : Cp) (hz : 4 ≤ p.val ∧ p.val < 16) (hm : ¬ back p < 2) (h1 : q₁.val = p.val + 12)
    (hb : b p = 0) (ha1 : a q₁ = 0) (h : ract c p = true) (hs : sm = recvS p) (hN : dM.view.dmaCredit = N)
    (hl : ∀ d ∈ l, lvl p < d.lvl)
    (hk : G m κ c (put a q₁ 1) (put b p 1) l X ⊢ (wp frame (wpE (defs₀ (F := F)) 𝒱₀ (c : Thread nD τ) none) Set.univ) (k ⟨⟩) Q) :
    G m κ c a b l X ⊢ (wp frame (wpE (defs₀ (F := F)) 𝒱₀ (c : Thread nD τ) none) Set.univ) (.op (.waitDma2 sm sM dM hsrc hdst) k) Q := by
  subst hs
  unfold G
  iintro ⟨#HI, #Hlev, HS, HR, HO, HX⟩
  ihave ⟨Hp, HR⟩ := (Recvs_at m c b p 0 1 hb) $$ HR
  ihave ⟨Hat, Hc⟩ := (Entails.of_eq (due c p h)) $$ Hp
  iapply (wp_arr (m := m) (κ := κ) (l := l) (recv_mem c p) (expect_recv m c p h) hN (by rw [lev_recv]; exact hl)) $$ [Hat Hc HO]
  · isplitr; · iexact HI
    isplitr; · iexact Hlev
    isplitl [Hc]; · iexact Hc
    isplitl [HO]; · iexact HO
    iexact Hat
  iintro ⟨HO, Hat, Hp⟩
  ihave Hp := (Entails.of_eq ((rest_recv p h).trans (cif_true h _).symm)) $$ Hp
  ihave ⟨Hkp, H1⟩ := (apart_end p q₁ hz hm h1) $$ Hp
  ihave Hkp := (Entails.of_eq (cif_true h _)) $$ Hkp
  ihave HS := (arm q₁ ha1) $$ [HS H1]
  · isplitl [HS]; · iexact HS
    iexact H1
  iapply hk
  unfold G
  isplitr; · iexact HI
  isplitr; · iexact Hlev
  isplitl [HS]; · iexact HS
  isplitl [HR Hat Hkp]
  · iapply HR
    iapply (Entails.of_eq (kept c p h).symm)
    isplitl [Hat]; · iexact Hat
    iexact Hkp
  isplitl [HO]; · iexact HO
  iexact HX
end

/-! ## Where a device does not take part -/

theorem skip_cp {X R : sProp 𝕄} (p : Cp) (ha : a p = 1) (h : act c p = false)
    (hk : G m κ c (put a p 2) b l X ⊢ R) : G m κ c a b (.cp p :: l) X ⊢ R := by
  have key : G m κ c a b (.cp p :: l) X ⊢ G m κ c (put a p 2) b l X := by
    unfold G Ow
    rw [owing_skip c (.cp p) l h]
    iintro ⟨HI, Hlev, HS, Hr⟩
    isplitl [HI]; · iexact HI
    isplitl [Hlev]; · iexact Hlev
    isplitl [HS]
    · ihave ⟨Hp, HS⟩ := (Sends_at m c a p 1 2 ha) $$ HS
      iapply HS
      have e : sendSt m c p 1 ⊢ sendSt m c p 2 := by
        rw [sendSt_one, sendSt_two, if_neg (by simp [h])]; unfold toks
        iintro ⟨⟨Hat, -⟩, Hs⟩
        isplitl [Hat]; · iexact Hat
        iexact Hs
      iapply e; iexact Hp
    iexact Hr
  exact key.trans hk
theorem skip_left {X R : sProp 𝕄} (p : Cp) (ha : a p = 2) (h : act c p = false)
    (hk : G m κ c (put a p 3) b l X ⊢ R) : G m κ c a b l X ⊢ R := by
  have key : G m κ c a b l X ⊢ G m κ c (put a p 3) b l X := by
    unfold G
    iintro ⟨HI, Hlev, HS, Hr⟩
    isplitl [HI]; · iexact HI
    isplitl [Hlev]; · iexact Hlev
    isplitl [HS]
    · ihave ⟨Hp, HS⟩ := (Sends_at m c a p 2 3 ha) $$ HS
      iapply HS
      have e : sendSt m c p 2 ⊢ sendSt m c p 3 := by
        rw [sendSt_two, sendSt_three, if_neg (by simp [h]), if_neg (by simp [h])]
      iapply e; iexact Hp
    iexact Hr
  exact key.trans hk
theorem skip_arr' {p : Cp} (hb : b p = 0) (h : ract c p = false) : Recvs m c b ⊢ Recvs m c (put b p 1) := by
  iintro HR
  ihave ⟨Hp, HR⟩ := (Recvs_at m c b p 0 1 hb) $$ HR
  iapply HR
  have e : recvSt m c p 0 ⊢ recvSt m c p 1 := by
    rw [recvSt_zero, recvSt_one, if_neg (by simp [h]), cif_false h, cif_false h]
  iapply e; iexact Hp
theorem skip_arr {X R : sProp 𝕄} (p : Cp) (hb : b p = 0) (h : ract c p = false)
    (hk : G m κ c a (put b p 1) l X ⊢ R) : G m κ c a b l X ⊢ R := by
  have key : G m κ c a b l X ⊢ G m κ c a (put b p 1) l X := by
    unfold G
    iintro ⟨HI, Hlev, HS, HR, Hr⟩
    isplitl [HI]; · iexact HI
    isplitl [Hlev]; · iexact Hlev
    isplitl [HS]; · iexact HS
    isplitl [HR]; · iapply (skip_arr' hb h); iexact HR
    iexact Hr
  exact key.trans hk
theorem skip_arm {X R : sProp 𝕄} (q : Cp) (ha : a q = 0) (h : hasSrc c q = false)
    (hk : G m κ c (put a q 1) b l X ⊢ R) : G m κ c a b l X ⊢ R := by
  have key : G m κ c a b l X ⊢ G m κ c (put a q 1) b l X := by
    unfold G
    iintro ⟨HI, Hlev, HS, Hr⟩
    isplitl [HI]; · iexact HI
    isplitl [Hlev]; · iexact Hlev
    isplitl [HS]
    · iapply (arm q ha)
      isplitl [HS]; · iexact HS
      rw [cif_false h]; iempintro
    iexact Hr
  exact key.trans hk
theorem skip_mid {X R : sProp 𝕄} (p q₂ q₁ : Cp) (hz : 4 ≤ p.val ∧ p.val < 16) (hm : back p < 2) (h2 : q₂.val = p.val + 2) (h1 : q₁.val = p.val + 12)
    (hb : b p = 0) (ha2 : a q₂ = 0) (ha1 : put a q₂ 1 q₁ = 0) (h : ract c p = false)
    (hk : G m κ c (put (put a q₂ 1) q₁ 1) (put b p 1) l X ⊢ R) : G m κ c a b l X ⊢ R :=
  skip_arr p hb h (skip_arm q₂ ha2 ((hasSrc_on2 c p hz hm q₂ h2).trans h) (skip_arm q₁ ha1 ((hasSrc_on1 c p hz q₁ h1).trans h) hk))
theorem skip_end {X R : sProp 𝕄} (p q₁ : Cp) (hz : 4 ≤ p.val ∧ p.val < 16) (h1 : q₁.val = p.val + 12)
    (hb : b p = 0) (ha1 : a q₁ = 0) (h : ract c p = false)
    (hk : G m κ c (put a q₁ 1) (put b p 1) l X ⊢ R) : G m κ c a b l X ⊢ R :=
  skip_arr p hb h (skip_arm q₁ ha1 ((hasSrc_on1 c p hz q₁ h1).trans h) hk)

/-! ## Conditional blocks -/

/-- A block that runs under a condition, then the rest. -/
theorem step_if {α : Type} {Q : α → sProp 𝕄} {k : PUnit → Prog (TpuEff nD τ sig (Elt F) Λ₀ .tc) α} {P R : sProp 𝕄}
    {q : Prop} {dq : Decidable q} {A : q → Prog (TpuEff nD τ sig (Elt F) Λ₀ .tc) PUnit}
    (hf : ¬ q → P ⊢ R) (ht : ∀ h : q, P ⊢ (wp frame (wpE (defs₀ (F := F)) 𝒱₀ (c : Thread nD τ) none) Set.univ) (A h) fun _ => R) (hk : R ⊢ (wp frame (wpE (defs₀ (F := F)) 𝒱₀ (c : Thread nD τ) none) Set.univ) (k ⟨⟩) Q) :
    P ⊢ (wp frame (wpE (defs₀ (F := F)) 𝒱₀ (c : Thread nD τ) none) Set.univ) ((if h : q then A h else .ret ⟨⟩) >>= k) Q := by
  rw [wp_bind]
  by_cases h : q
  · rw [dif_pos h]; exact (ht h).trans (wp_mono _ _ _ fun _ => hk)
  · rw [dif_neg h, wp_ret]; exact ((hf h).trans hk).trans fupd_intro
/-- The same where the rest `T` is written in both branches. -/
theorem step_if2 {α : Type} {Q : α → sProp 𝕄} {T : Prog (TpuEff nD τ sig (Elt F) Λ₀ .tc) α} {P R : sProp 𝕄}
    {q : Prop} {dq : Decidable q} {A : q → Prog (TpuEff nD τ sig (Elt F) Λ₀ .tc) α}
    (hf : ¬ q → P ⊢ R) (ht : ∀ h : q, (R ⊢ (wp frame (wpE (defs₀ (F := F)) 𝒱₀ (c : Thread nD τ) none) Set.univ) T Q) → P ⊢ (wp frame (wpE (defs₀ (F := F)) 𝒱₀ (c : Thread nD τ) none) Set.univ) (A h) Q) (hT : R ⊢ (wp frame (wpE (defs₀ (F := F)) 𝒱₀ (c : Thread nD τ) none) Set.univ) T Q) :
    P ⊢ (wp frame (wpE (defs₀ (F := F)) 𝒱₀ (c : Thread nD τ) none) Set.univ) (if h : q then A h else T) Q := by
  by_cases h : q
  · rw [dif_pos h]; exact ht h hT
  · rw [dif_neg h]; exact (hf h).trans hT
theorem step_ret {P : sProp 𝕄} : P ⊢ (wp frame (wpE (defs₀ (F := F)) 𝒱₀ (c : Thread nD τ) none) Set.univ) (.ret PUnit.unit) fun _ => P := by
  rw [wp_ret]; exact fupd_intro
theorem step_fin {α β : Type} {Q : α → sProp 𝕄} {k : β → Prog (TpuEff nD τ sig (Elt F) Λ₀ .tc) α} {r : β} {P : sProp 𝕄}
    (hk : P ⊢ (wp frame (wpE (defs₀ (F := F)) 𝒱₀ (c : Thread nD τ) none) Set.univ) (k r) Q) : P ⊢ (wp frame (wpE (defs₀ (F := F)) 𝒱₀ (c : Thread nD τ) none) Set.univ) (.ret r) fun r => (wp frame (wpE (defs₀ (F := F)) 𝒱₀ (c : Thread nD τ) none) Set.univ) (k r) Q := by
  rw [wp_ret]; exact hk.trans fupd_intro

end Cert.Embed

end
-- ==== Proof.Seams.lean ====
/-
  How far every copy is at the seams of the body, and which conditions imply which.
-/
module

public import proofs.«01_k».proof.Proof.Steps

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

theorem ract4_true_act16_true : ∀ c : Dev nD, ract c 4 = true → act c 16 = true := by decide
theorem ract4_true_ract5_true : ∀ c : Dev nD, ract c 4 = true → ract c 5 = true := by decide
theorem ract4_true_act17_true : ∀ c : Dev nD, ract c 4 = true → act c 17 = true := by decide
theorem ract4_false_act6_false : ∀ c : Dev nD, ract c 4 = false → act c 6 = false := by decide
theorem ract4_false_act16_false : ∀ c : Dev nD, ract c 4 = false → act c 16 = false := by decide
theorem ract4_false_ract5_false : ∀ c : Dev nD, ract c 4 = false → ract c 5 = false := by decide
theorem ract4_false_act7_false : ∀ c : Dev nD, ract c 4 = false → act c 7 = false := by decide
theorem ract4_false_act17_false : ∀ c : Dev nD, ract c 4 = false → act c 17 = false := by decide
theorem ract10_true_act22_true : ∀ c : Dev nD, ract c 10 = true → act c 22 = true := by decide
theorem ract10_true_ract11_true : ∀ c : Dev nD, ract c 10 = true → ract c 11 = true := by decide
theorem ract10_true_act23_true : ∀ c : Dev nD, ract c 10 = true → act c 23 = true := by decide
theorem ract10_false_act12_false : ∀ c : Dev nD, ract c 10 = false → act c 12 = false := by decide
theorem ract10_false_act22_false : ∀ c : Dev nD, ract c 10 = false → act c 22 = false := by decide
theorem ract10_false_ract11_false : ∀ c : Dev nD, ract c 10 = false → ract c 11 = false := by decide
theorem ract10_false_act13_false : ∀ c : Dev nD, ract c 10 = false → act c 13 = false := by decide
theorem ract10_false_act23_false : ∀ c : Dev nD, ract c 10 = false → act c 23 = false := by decide
theorem ract2_all : ∀ c : Dev nD, ract c 2 = true := by decide
theorem ract3_all : ∀ c : Dev nD, ract c 3 = true := by decide
theorem ract6_true_act18_true : ∀ c : Dev nD, ract c 6 = true → act c 18 = true := by decide
theorem ract6_true_ract7_true : ∀ c : Dev nD, ract c 6 = true → ract c 7 = true := by decide
theorem ract6_true_act19_true : ∀ c : Dev nD, ract c 6 = true → act c 19 = true := by decide
theorem ract6_false_act8_false : ∀ c : Dev nD, ract c 6 = false → act c 8 = false := by decide
theorem ract6_false_act18_false : ∀ c : Dev nD, ract c 6 = false → act c 18 = false := by decide
theorem ract6_false_ract7_false : ∀ c : Dev nD, ract c 6 = false → ract c 7 = false := by decide
theorem ract6_false_act9_false : ∀ c : Dev nD, ract c 6 = false → act c 9 = false := by decide
theorem ract6_false_act19_false : ∀ c : Dev nD, ract c 6 = false → act c 19 = false := by decide
theorem ract12_true_act24_true : ∀ c : Dev nD, ract c 12 = true → act c 24 = true := by decide
theorem ract12_true_ract13_true : ∀ c : Dev nD, ract c 12 = true → ract c 13 = true := by decide
theorem ract12_true_act25_true : ∀ c : Dev nD, ract c 12 = true → act c 25 = true := by decide
theorem ract12_false_act14_false : ∀ c : Dev nD, ract c 12 = false → act c 14 = false := by decide
theorem ract12_false_act24_false : ∀ c : Dev nD, ract c 12 = false → act c 24 = false := by decide
theorem ract12_false_ract13_false : ∀ c : Dev nD, ract c 12 = false → ract c 13 = false := by decide
theorem ract12_false_act15_false : ∀ c : Dev nD, ract c 12 = false → act c 15 = false := by decide
theorem ract12_false_act25_false : ∀ c : Dev nD, ract c 12 = false → act c 25 = false := by decide
theorem ract16_true_ract17_true : ∀ c : Dev nD, ract c 16 = true → ract c 17 = true := by decide
theorem ract16_false_ract17_false : ∀ c : Dev nD, ract c 16 = false → ract c 17 = false := by decide
theorem ract22_true_ract23_true : ∀ c : Dev nD, ract c 22 = true → ract c 23 = true := by decide
theorem ract22_false_ract23_false : ∀ c : Dev nD, ract c 22 = false → ract c 23 = false := by decide
theorem ract8_true_act20_true : ∀ c : Dev nD, ract c 8 = true → act c 20 = true := by decide
theorem ract8_true_ract9_true : ∀ c : Dev nD, ract c 8 = true → ract c 9 = true := by decide
theorem ract8_true_act21_true : ∀ c : Dev nD, ract c 8 = true → act c 21 = true := by decide
theorem ract8_false_act20_false : ∀ c : Dev nD, ract c 8 = false → act c 20 = false := by decide
theorem ract8_false_ract9_false : ∀ c : Dev nD, ract c 8 = false → ract c 9 = false := by decide
theorem ract8_false_act21_false : ∀ c : Dev nD, ract c 8 = false → act c 21 = false := by decide
theorem ract14_true_act26_true : ∀ c : Dev nD, ract c 14 = true → act c 26 = true := by decide
theorem ract14_true_ract15_true : ∀ c : Dev nD, ract c 14 = true → ract c 15 = true := by decide
theorem ract14_true_act27_true : ∀ c : Dev nD, ract c 14 = true → act c 27 = true := by decide
theorem ract14_false_act26_false : ∀ c : Dev nD, ract c 14 = false → act c 26 = false := by decide
theorem ract14_false_ract15_false : ∀ c : Dev nD, ract c 14 = false → ract c 15 = false := by decide
theorem ract14_false_act27_false : ∀ c : Dev nD, ract c 14 = false → act c 27 = false := by decide
theorem ract18_true_ract19_true : ∀ c : Dev nD, ract c 18 = true → ract c 19 = true := by decide
theorem ract18_false_ract19_false : ∀ c : Dev nD, ract c 18 = false → ract c 19 = false := by decide
theorem ract24_true_ract25_true : ∀ c : Dev nD, ract c 24 = true → ract c 25 = true := by decide
theorem ract24_false_ract25_false : ∀ c : Dev nD, ract c 24 = false → ract c 25 = false := by decide
theorem ract20_true_ract21_true : ∀ c : Dev nD, ract c 20 = true → ract c 21 = true := by decide
theorem ract20_false_ract21_false : ∀ c : Dev nD, ract c 20 = false → ract c 21 = false := by decide
theorem ract26_true_ract27_true : ∀ c : Dev nD, ract c 26 = true → ract c 27 = true := by decide
theorem ract26_false_ract27_false : ∀ c : Dev nD, ract c 26 = false → ract c 27 = false := by decide
theorem act0_all : ∀ c : Dev nD, act c 0 = true := by decide
theorem act2_all : ∀ c : Dev nD, act c 2 = true := by decide
theorem act1_all : ∀ c : Dev nD, act c 1 = true := by decide
theorem act3_all : ∀ c : Dev nD, act c 3 = true := by decide
theorem act4_true_act5_true : ∀ c : Dev nD, act c 4 = true → act c 5 = true := by decide
theorem act4_false_act5_false : ∀ c : Dev nD, act c 4 = false → act c 5 = false := by decide
theorem act10_true_act11_true : ∀ c : Dev nD, act c 10 = true → act c 11 = true := by decide
theorem act10_false_act11_false : ∀ c : Dev nD, act c 10 = false → act c 11 = false := by decide
theorem act6_true_act7_true : ∀ c : Dev nD, act c 6 = true → act c 7 = true := by decide
theorem act6_false_act7_false : ∀ c : Dev nD, act c 6 = false → act c 7 = false := by decide
theorem act16_true_act17_true : ∀ c : Dev nD, act c 16 = true → act c 17 = true := by decide
theorem act16_false_act6_false : ∀ c : Dev nD, act c 16 = false → act c 6 = false := by decide
theorem act16_false_act7_false : ∀ c : Dev nD, act c 16 = false → act c 7 = false := by decide
theorem act16_false_act17_false : ∀ c : Dev nD, act c 16 = false → act c 17 = false := by decide
theorem act12_true_act13_true : ∀ c : Dev nD, act c 12 = true → act c 13 = true := by decide
theorem act12_false_act13_false : ∀ c : Dev nD, act c 12 = false → act c 13 = false := by decide
theorem act22_true_act23_true : ∀ c : Dev nD, act c 22 = true → act c 23 = true := by decide
theorem act22_false_act12_false : ∀ c : Dev nD, act c 22 = false → act c 12 = false := by decide
theorem act22_false_act13_false : ∀ c : Dev nD, act c 22 = false → act c 13 = false := by decide
theorem act22_false_act23_false : ∀ c : Dev nD, act c 22 = false → act c 23 = false := by decide
theorem act8_true_act9_true : ∀ c : Dev nD, act c 8 = true → act c 9 = true := by decide
theorem act8_false_act9_false : ∀ c : Dev nD, act c 8 = false → act c 9 = false := by decide
theorem act18_true_act19_true : ∀ c : Dev nD, act c 18 = true → act c 19 = true := by decide
theorem act18_false_act8_false : ∀ c : Dev nD, act c 18 = false → act c 8 = false := by decide
theorem act18_false_act9_false : ∀ c : Dev nD, act c 18 = false → act c 9 = false := by decide
theorem act18_false_act19_false : ∀ c : Dev nD, act c 18 = false → act c 19 = false := by decide
theorem act14_true_act15_true : ∀ c : Dev nD, act c 14 = true → act c 15 = true := by decide
theorem act14_false_act15_false : ∀ c : Dev nD, act c 14 = false → act c 15 = false := by decide
theorem act24_true_act25_true : ∀ c : Dev nD, act c 24 = true → act c 25 = true := by decide
theorem act24_false_act14_false : ∀ c : Dev nD, act c 24 = false → act c 14 = false := by decide
theorem act24_false_act15_false : ∀ c : Dev nD, act c 24 = false → act c 15 = false := by decide
theorem act24_false_act25_false : ∀ c : Dev nD, act c 24 = false → act c 25 = false := by decide
theorem act20_true_act21_true : ∀ c : Dev nD, act c 20 = true → act c 21 = true := by decide
theorem act20_false_act21_false : ∀ c : Dev nD, act c 20 = false → act c 21 = false := by decide
theorem act26_true_act27_true : ∀ c : Dev nD, act c 26 = true → act c 27 = true := by decide
theorem act26_false_act27_false : ∀ c : Dev nD, act c 26 = false → act c 27 = false := by decide

def a25 : Cp → ℕ := fun p => [2, 2, 2, 2, 2, 2, 0, 0, 0, 0, 2, 2, 0, 0, 0, 0, 0, 0, 0, 0, 0, 0, 0, 0, 0, 0, 0, 0].getD p.val 0
def b25 : Cp → ℕ := fun p => [1, 1, 0, 0, 0, 0, 0, 0, 0, 0, 0, 0, 0, 0, 0, 0, 0, 0, 0, 0, 0, 0, 0, 0, 0, 0, 0, 0].getD p.val 0
def a26 : Cp → ℕ := fun p => [2, 2, 2, 2, 2, 2, 2, 2, 0, 0, 2, 2, 2, 2, 0, 0, 2, 2, 0, 0, 0, 0, 2, 2, 0, 0, 0, 0].getD p.val 0
def b26 : Cp → ℕ := fun p => [1, 1, 1, 0, 1, 1, 0, 0, 0, 0, 1, 1, 0, 0, 0, 0, 0, 0, 0, 0, 0, 0, 0, 0, 0, 0, 0, 0].getD p.val 0
def a27 : Cp → ℕ := fun p => [2, 2, 2, 2, 2, 2, 2, 2, 2, 2, 2, 2, 2, 2, 2, 2, 2, 2, 2, 2, 2, 2, 2, 2, 2, 2, 0, 0].getD p.val 0
def b27 : Cp → ℕ := fun p => [1, 1, 1, 1, 1, 1, 1, 1, 1, 1, 1, 1, 1, 1, 0, 0, 1, 1, 0, 0, 0, 0, 1, 1, 0, 0, 0, 0].getD p.val 0
def a28 : Cp → ℕ := fun p => [3, 2, 2, 2, 2, 2, 2, 2, 2, 2, 2, 2, 2, 2, 2, 2, 2, 2, 2, 2, 2, 2, 2, 2, 2, 2, 2, 2].getD p.val 0
def b28 : Cp → ℕ := fun p => [1, 1, 1, 1, 1, 1, 1, 1, 1, 1, 1, 1, 1, 1, 1, 1, 1, 1, 1, 1, 1, 1, 1, 1, 1, 1, 1, 1].getD p.val 0
def a29 : Cp → ℕ := fun p => [3, 3, 3, 3, 3, 3, 3, 3, 2, 2, 3, 3, 2, 2, 2, 2, 3, 3, 2, 2, 2, 2, 2, 2, 2, 2, 2, 2].getD p.val 0
def b29 : Cp → ℕ := fun p => [1, 1, 1, 1, 1, 1, 1, 1, 1, 1, 1, 1, 1, 1, 1, 1, 1, 1, 1, 1, 1, 1, 1, 1, 1, 1, 1, 1].getD p.val 0

theorem conv {a a' b b' : Cp → ℕ} {l : List Due} {X R : sProp 𝕄} (ha : ∀ p, a p = a' p) (hb : ∀ p, b p = b' p) (hk : G m κ c a' b' l X ⊢ R) : G m κ c a b l X ⊢ R := by
  obtain rfl := funext ha
  obtain rfl := funext hb
  exact hk

end Cert.Embed

end
-- ==== Proof.Barrier.lean ====
/-
  The barrier: a device hands each of its neighbours the places its copies may land in, and takes theirs.
-/
module

public import proofs.«01_k».proof.Proof.Seams

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

/-- The direction from which the other end sees a signal. -/
def opp (δ : Fin 4) : Fin 4 := match δ with | 0 => 0 | 1 => 1 | 2 => 3 | 3 => 2
theorem has_opp : ∀ (c : Dev nD) (δ : Fin 4), has δ c = true → has (opp δ) (towards δ c) = true := by decide

/-- What a device signals its neighbour in a direction with. -/
def sg (c : Dev nD) (δ : Fin 4) : sProp 𝕄 :=
  cif (has δ c) iprop(dutyTok ER (barCell (towards δ c)) 0 (opp δ) ∗ reached ER (barCell (towards δ c)) 0 ∗ barPay (F := F) (towards δ c) (opp δ))

/-- Before the barrier. -/
def G0 (m : (ℓ : Loc nD τ sig) → Buf (Elt F) ℓ) (κ : Names) (c : Dev nD) (l : List Due) (Y : sProp 𝕄) : sProp 𝕄 :=
  iprop(invs m κ ∗ levAts L lv ∗ Ow c l ∗ Y)

theorem step_signal {α : Type} {Q : α → sProp 𝕄} {k : PUnit → Prog (TpuEff nD τ sig (Elt F) Λ₀ .tc) α} {l : List Due} {Y : sProp 𝕄}
    (δ : Fin 4) (h : has δ c = true) {n : Dev nD} (hn : n.val = (towards δ c).val) {s : Sem sig} (hs : s = barS) {i : ℤ} (hi : i = ((1 : ℕ) : ℤ))
    (hk : G0 m κ c l Y ⊢ (wp frame (wpE (defs₀ (F := F)) 𝒱₀ (c : Thread nD τ) none) Set.univ) (k ⟨⟩) Q) :
    G0 m κ c (.bar δ :: l) iprop(sg c δ ∗ Y) ⊢ (wp frame (wpE (defs₀ (F := F)) 𝒱₀ (c : Thread nD τ) none) Set.univ) (.op (.semSignal (n, .tc) s i) k) Q := by
  obtain rfl : n = towards δ c := Fin.ext hn
  subst hs hi
  unfold G0 sg Ow
  rw [cif_true h]
  iintro ⟨#HI, #Hlev, ⟨%W, HO⟩, ⟨Ht, Hr, Hp⟩, HY⟩
  iapply (Rounds.wp_signal 𝒱₀ ER (Rd m) (c : Thread nD τ) none (dst := (towards δ c : Thread nD τ)) (κ := κ.nm (barCell (towards δ c))) (sem := barS) (r := 0)
      (d := opp δ) (k' := 1) (k := k) (Q := Q) (by rw [show (((towards δ c : Dev nD) : Thread nD τ), SemLoc.reg barS) = barCell (towards δ c) from rfl, duties_bar]; exact Finset.mem_filter.mpr ⟨Finset.mem_univ _, has_opp c δ h⟩)
      rfl () (owing c l) (owing_cons c (.bar δ) l h) (W := W)) $$ [HO Ht Hr Hp]
  · isplitr; · iapply (invs_at m κ _ (bar_mem (towards δ c))); iexact HI
    isplitl [HO]; · iexact HO
    isplitl [Ht]; · iexact Ht
    isplitl [Hp]; · iapply (Entails.of_eq (payload_bar m (towards δ c) (opp δ)).symm); iexact Hp
    iexact Hr
  iintro HO
  iapply hk
  unfold G0 Ow
  isplitr; · iexact HI
  isplitr; · iexact Hlev
  isplitl [HO]; · iexists W; iexact HO
  iexact HY
theorem skip_signal {l : List Due} {Y R : sProp 𝕄} (δ : Fin 4) (h : has δ c = false) (hk : G0 m κ c l Y ⊢ R) :
    G0 m κ c (.bar δ :: l) iprop(sg c δ ∗ Y) ⊢ R := by
  have key : G0 m κ c (.bar δ :: l) iprop(sg c δ ∗ Y) ⊢ G0 m κ c l Y := by
    unfold G0 sg Ow
    rw [owing_skip c (.bar δ) l h, cif_false h]
    iintro ⟨HI, Hlev, HO, -, HY⟩
    isplitl [HI]; · iexact HI
    isplitl [Hlev]; · iexact Hlev
    isplitl [HO]; · iexact HO
    iexact HY
  exact key.trans hk

theorem barPay_no : ∀ (c : Dev nD) (p : Cp), has (dir p) c = false → act c p = false := by decide +kernel
theorem pays_all : (bigSep ((Rd m).duties (barCell c) 0 \ ∅) fun d => (Rd m).payload (barCell c) 0 d)
    ⊢ bigSep Finset.univ fun p : Cp => landing (F := F) c p := by
  rw [duties_bar, Finset.sdiff_empty, bigSep_filter]
  have h1 : (bigSep Finset.univ fun δ : Fin 4 => if has δ c = true then (Rd m).payload (barCell c) 0 δ else iprop(emp))
      ⊢ bigSep Finset.univ fun δ : Fin 4 => barPay (F := F) c δ := bigSep_mono fun δ _ => by
    by_cases h : has δ c = true
    · rw [if_pos h]; exact Entails.of_eq (payload_bar m c δ)
    · rw [if_neg h]; unfold barPay
      rw [bigSep_congr (Φ := fun p => landing (F := F) c p) (Ψ := fun _ => iprop(emp)) fun p hp => by
        unfold landing
        exact cif_false (barPay_no c p (by rw [(Finset.mem_filter.mp hp).2]; simpa using h)) _]
      exact Entails.of_eq (bigSep_emp_const _).symm
  have h2 : (bigSep Finset.univ fun δ : Fin 4 => barPay (F := F) c δ) ⊢ bigSep (Finset.univ.biUnion fun δ : Fin 4 => Finset.univ.filter fun p : Cp => dir p = δ)
      fun p : Cp => landing (F := F) c p := by unfold barPay; exact bigSep_biUnion _ _
  have h3 : (Finset.univ.biUnion fun δ : Fin 4 => Finset.univ.filter fun p : Cp => dir p = δ) = Finset.univ := by decide
  rw [h3] at h2
  exact BI.Entails.trans h1 h2

/-- What a device has of its copies before it is told where they may land. -/
def ptoks (c : Dev nD) (p : Cp) : sProp 𝕄 :=
  iprop(atPos ER (sendCell c p) 0 ∅ 0 ∗ reached ER (sendCell c p) 0
    ∗ cif (act c p) iprop(dutyTok ER (sendCell c p) 0 0 ∗ dutyTok ER (recvCell (peer c p) p) 0 0))
theorem sends_start : iprop((bigSep Finset.univ fun p => ptoks (F := F) c p) ∗ bigSep Finset.univ fun p : Cp => landing (F := F) c p) ⊢ Sends m c (fun _ => 0) := by
  unfold Sends
  rw [← bigSep_sep']
  have key : ∀ p : Cp, iprop(ptoks (F := F) c p ∗ landing (F := F) c p) ⊢ sendSt m c p 0 := fun p => by
   rw [sendSt_zero]; unfold ptoks toks
   iintro ⟨⟨H1, H2, H3⟩, H4⟩
   isplitl [H1]; · iexact H1
   isplitl [H2]; · iexact H2
   isplitl [H3]; · iexact H3
   iexact H4
  exact bigSep_mono fun p _ => key p

/-- The barrier's wait. -/
theorem step_barrier {α : Type} {Q : α → sProp 𝕄} {k : PUnit → Prog (TpuEff nD τ sig (Elt F) Λ₀ .tc) α} {l : List Due} {b : Cp → ℕ} {X : sProp 𝕄}
    {s : Sem sig} (hs : s = barS) {i : ℤ} (hi : i = ((k0_amt1 c).toNat : ℤ)) (hl : ∀ d ∈ l, 1 < d.lvl)
    (hk : G m κ c (fun _ => 0) b l iprop(atPos ER (barCell c) 1 ∅ 0 ∗ X) ⊢ (wp frame (wpE (defs₀ (F := F)) 𝒱₀ (c : Thread nD τ) none) Set.univ) (k ⟨⟩) Q) :
    G0 m κ c l iprop((atPos ER (barCell c) 0 ∅ 0 ∗ cred (tallyAt (barCell c) () (k0_amt1 c).toNat) ∗ bigSep Finset.univ fun p => ptoks c p) ∗ Recvs m c b ∗ X)
      ⊢ (wp frame (wpE (defs₀ (F := F)) 𝒱₀ (c : Thread nD τ) none) Set.univ) (.op (.semWait s i) k) Q := by
  subst hs hi
  unfold G0 Ow
  iintro ⟨#HI, #Hlev, ⟨%W, HO⟩, ⟨Hat, Hc, Hp⟩, HR, HX⟩
  iapply (Rounds.wp_wait_rest_token 𝒱₀ ER (Rd m) (c : Thread nD τ) none (κ := κ.nm (barCell c)) (k := k) (Q := Q)
      (wpE_semWait_eq 𝒱₀ (c : Thread nD τ) none Set.univ) (Set.mem_univ _) () (O := owing c l) (W := W) (R := 0) (m := 0) (T := ∅)
      ((Nat.zero_add _).trans (expect_bar m c).symm)) $$ [Hc HO Hat]
  · isplitr; · iapply (invs_at m κ _ (bar_mem c)); iexact HI
    isplitl [Hc]; · iexact Hc
    isplitl [HO]; · iexact HO
    isplitr; · iapply (mayWait c (.reg barS) l hl); iexact Hlev
    iexact Hat
  iintro ⟨HO, Hat, -, Hpay⟩
  ihave Hpay := (pays_all (m := m) (c := c)) $$ Hpay
  iapply hk
  unfold G Ow
  isplitr; · iexact HI
  isplitr; · iexact Hlev
  isplitl [Hp Hpay]
  · iapply (sends_start (m := m) (c := c))
    isplitl [Hp]; · iexact Hp
    iexact Hpay
  isplitl [HR]; · iexact HR
  isplitl [HO]; · iexists _; iexact HO
  isplitl [Hat]; · iexact Hat
  iexact HX

end Cert.Embed

end
-- ==== Proof.Host.lean ====
/-
  The values the host's operations hand the kernel: the ids a device looks up in its own half, and their mask.
-/
module

public import proofs.«01_k».proof.Proof.Seams

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

/-- The first row of a device's half of the embedding, as the host computes it. -/
def baseW (c : Dev nD) : BitVec 32 :=
  muli (id (Host.remui (Host.divui (constantI S_ 32 (Dev.word c)) (constantI S_ 32 4#32)) (constantI S_ 32 2#32))) (constantI S_ 32 16384#32) (fun a => a.elim0)
theorem baseW_eq : ∀ c : Dev nD, baseW c = BitVec.ofNat 32 (16384 * (c.val / 4 % 2)) := by decide

/-- The ids as launched. -/
def arg0v (m : (ℓ : Loc nD τ sig) → Buf (Elt F) ℓ) (c : Dev nD) : S2048.Idx → BitVec 32 := m ((c : Thread nD τ).loc main_arg0)
/-- The ids less the first row of a device's half, -/
def localIds (m : (ℓ : Loc nD τ sig) → Buf (Elt F) ℓ) (c : Dev nD) : S2048.Idx → BitVec 32 := fun i =>
  arg0v m c i - baseW c
/-- and which of them are in it. -/
def inHalf (m : (ℓ : Loc nD τ sig) → Buf (Elt F) ℓ) (c : Dev nD) : S2048.Idx → BitVec 1 :=
  andi (cmpi .sge (localIds m c) (fun _ => 0#32)) (cmpi .slt (localIds m c) (fun _ => 16384#32))

theorem V1_v7 (m : (ℓ : Loc nD τ sig) → Buf (Elt F) ℓ) (c : Dev nD) : V1 m c main_v7 = localIds m c := by
  show StableHlo.after (hostOps0 c) (V0 m c) (Proc.devRef .tc main_v7) = _
  after_results
  rfl
theorem V1_v12 (m : (ℓ : Loc nD τ sig) → Buf (Elt F) ℓ) (c : Dev nD) : V1 m c main_v12 = inHalf m c := by
  show StableHlo.after (hostOps0 c) (V0 m c) (Proc.devRef .tc main_v12) = _
  after_results
  rfl
theorem V1_c4 (m : (ℓ : Loc nD τ sig) → Buf (Elt F) ℓ) (c : Dev nD) : V1 m c main_c_4 = fun _ => 0#32 := by
  show StableHlo.after (hostOps0 c) (V0 m c) (Proc.devRef .tc main_c_4) = _
  after_results
  rfl
theorem V2_v13 (m : (ℓ : Loc nD τ sig) → Buf (Elt F) ℓ) (c : Dev nD) :
    V2 m c main_v13 = select (inHalf m c) (localIds m c) (fun _ => 0#32) := by
  show StableHlo.after hostOps0_1 (V1 m c) (Proc.devRef .tc main_v13) = _
  have h : (fun _ => 0#32 : S2048.Idx → BitVec 32) = broadcastInDim S2048 ![] bcast_S_S2048 (V1 m c main_c_4 : S_.Idx → BitVec 32) := by
    rw [V1_c4]; rfl
  rw [← V1_v7, ← V1_v12, h]
  generalize V1 m c = W
  after_results
  rfl
theorem V2_v12 (m : (ℓ : Loc nD τ sig) → Buf (Elt F) ℓ) (c : Dev nD) : V2 m c main_v12 = inHalf m c :=
  (V2_of m c main_v12 (by decide)).trans (V1_v12 m c)
/-- The ids the kernel reads: the local ids, zero where the id is not in the device's half. -/
theorem idsv_eq (m : (ℓ : Loc nD τ sig) → Buf (Elt F) ℓ) (c : Dev nD) (i : S2048.Idx) :
    idsv m c i = if inHalf m c i = 1#1 then localIds m c i else 0#32 := by
  have h : idsv m c = select (inHalf m c) (localIds m c) (fun _ => 0#32) :=
    (V3_of m c main_v13 (by decide)).trans (V2_v13 m c)
  rw [h]
  rfl
/-- The mask the kernel reads. -/
theorem maskv_eq (m : (ℓ : Loc nD τ sig) → Buf (Elt F) ℓ) (c : Dev nD) :
    maskv m c = broadcastInDim S2048x1 ![0] bcast_S2048_S2048x1_0 (uitofp .f32 (inHalf m c)) := by
  show StableHlo.after hostOps0_2 (V2 m c) (Proc.devRef .tc main_v15) = _
  rw [← V2_v12]
  generalize V2 m c = W
  after_results
theorem embv_eq (m : (ℓ : Loc nD τ sig) → Buf (Elt F) ℓ) (c : Dev nD) : embv m c = m ((c : Thread nD τ).loc main_arg1) :=
  (V3_of m c main_arg1 (by decide)).trans <| (V2_of m c main_arg1 (by decide)).trans <|
    (V1_of m c main_arg1 (by decide)).trans rfl
/-- Each id the kernel reads is a row of the device's half. -/
theorem idsv_lt (m : (ℓ : Loc nD τ sig) → Buf (Elt F) ℓ) (c : Dev nD) (i : S2048.Idx) :
    (idsv m c i).toNat < 16384 := by
  rw [idsv_eq]
  split
  · next h =>
    have h' : BitVec.ofBool ((0#32 : BitVec 32).sle (localIds m c i)) &&& BitVec.ofBool ((localIds m c i).slt 16384#32) = 1#1 := h
    generalize localIds m c i = w at h' ⊢
    by_cases h1 : (0#32 : BitVec 32).sle w <;> by_cases h2 : w.slt 16384#32 <;> simp [h1, h2] at h'
    rw [BitVec.sle_iff_toInt_le] at h1
    rw [BitVec.slt_iff_toInt_lt] at h2
    have e1 : (0#32 : BitVec 32).toInt = 0 := rfl
    have e2 : (16384#32 : BitVec 32).toInt = 16384 := rfl
    rw [e1] at h1
    rw [e2] at h2
    rw [BitVec.toInt_eq_toNat_cond] at h1 h2
    have := w.isLt
    split at h1 <;> omega
  · decide

end Cert.Embed

end
-- ==== Proof.Rows.lean ====
/-
  The gather of a device's rows: every row of a half is copied from the embedding by a transfer of its own, the transfers counted together.
-/
module

public import proofs.«01_k».proof.Proof.Host
public import Idealize.ShloMosaic.Lib.ShareLeaves
public import Idealize.ShloMosaic.Lib.Batch

@[expose] public section

set_option maxRecDepth 65536
set_option maxHeartbeats 2000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

/-! ## The rows -/

theorem drow_inb (k : Fin 2) (t : Fin 128) : ∀ a, (![k.val, t.val, 0] : Fin 3 → ℕ) a + S1x1x1024.size a ≤ S2x128x1024.size a := by
  have hk := k.isLt; have ht := t.isLt
  intro a
  match a with
  | ⟨0, _⟩ => show k.val + 1 ≤ 2; omega
  | ⟨1, _⟩ => show t.val + 1 ≤ 128; omega
  | ⟨2, _⟩ => show 0 + 1024 ≤ 1024; omega
theorem srow_inb (r : Fin 16384) : ∀ a, (![r.val, 0] : Fin 2 → ℕ) a + S1x1024.size a ≤ S16384x1024.size a := by
  have hr := r.isLt
  intro a
  match a with
  | ⟨0, _⟩ => show r.val + 1 ≤ 16384; omega
  | ⟨1, _⟩ => show 0 + 1024 ≤ 1024; omega

/-- Row `t` of half `k` of the gathered rows, and row `r` of the embedding. -/
abbrev dstM (k : Fin 2) (t : Fin 128) : Memref sig .tc .vmem S1024 .f32 :=
  ((Memref.whole cc0_scratch2).slice (Rect.unit (s := S2x128x1024) ![k.val, t.val, 0] S1x1x1024.size (drow_inb k t)) (fun _ => rfl)).squeeze S1024 squeezes_S1x1x1024_S1024
abbrev srcM (r : Fin 16384) : Memref sig .tc .hbm S1024 .f32 :=
  ((Memref.whole main_arg1).slice (Rect.unit (s := S16384x1024) ![r.val, 0] S1x1024.size (srow_inb r)) (fun _ => rfl)).squeeze S1024 squeezes_S1x1024_S1024

theorem slice_drow {k : Fin 2} {t : Fin 128} {o : Fin 3 → ℕ} (h : o = ![k.val, t.val, 0]) (inb : ∀ a, o a + S1x1x1024.size a ≤ S2x128x1024.size a) :
    ((Memref.whole cc0_scratch2).slice (Rect.unit (s := S2x128x1024) o S1x1x1024.size inb) (fun _ => rfl)).squeeze S1024 squeezes_S1x1x1024_S1024 = dstM k t := by
  subst h; rfl
theorem slice_srow {r : Fin 16384} {o : Fin 2 → ℕ} (h : o = ![r.val, 0]) (inb : ∀ a, o a + S1x1024.size a ≤ S16384x1024.size a) :
    ((Memref.whole main_arg1).slice (Rect.unit (s := S16384x1024) o S1x1024.size inb) (fun _ => rfl)).squeeze S1024 squeezes_S1x1024_S1024 = srcM r := by
  subst h; rfl

/-- What the copy of a row adds to its semaphore. -/
def NR : ℕ := (dstM 0 0).view.dmaCredit
theorem NR_pos : 0 < NR := View.dmaCredit_pos _ (by decide)
theorem credit_row (k : Fin 2) (t : Fin 128) : (dstM k t).view.dmaCredit = NR := rfl

theorem dst_set (k : Fin 2) (t : Fin 128) : (dstM k t).view.set = (Rect.unit (s := S2x128x1024) ![k.val, t.val, 0] S1x1x1024.size (drow_inb k t)).set := by
  show (((View.whole cc0_scratch2).slice _).reshape S1024 _).set = _
  rw [View.set_reshape, View.set_slice_whole]
theorem mem_dst (k : Fin 2) (t : Fin 128) (i : S2x128x1024.Idx) : i ∈ (dstM k t).view.set ↔ (i 0).val = k.val ∧ (i 1).val = t.val := by
  rw [dst_set, Rect.mem_set_unit]
  constructor
  · intro h
    have h0 : k.val ≤ (i 0).val ∧ (i 0).val < k.val + 1 := h 0
    have h1 : t.val ≤ (i 1).val ∧ (i 1).val < t.val + 1 := h 1
    omega
  · rintro ⟨h0, h1⟩ a
    have h2 : (i 2).val < 1024 := (i 2).isLt
    match a with
    | ⟨0, _⟩ => exact (⟨by omega, by omega⟩ : k.val ≤ (i 0).val ∧ (i 0).val < k.val + 1)
    | ⟨1, _⟩ => exact (⟨by omega, by omega⟩ : t.val ≤ (i 1).val ∧ (i 1).val < t.val + 1)
    | ⟨2, _⟩ => exact (⟨by omega, by omega⟩ : 0 ≤ (i 2).val ∧ (i 2).val < 0 + 1024)

theorem dst_emb (k : Fin 2) (t : Fin 128) (z : S1024.Idx) : (dstM k t).view.emb z =
    (fun a => match a with | ⟨0, _⟩ => (⟨k.val, k.isLt⟩ : Fin 2) | ⟨1, _⟩ => (⟨t.val, t.isLt⟩ : Fin 128) | ⟨2, _⟩ => (⟨(z 0).val, (z 0).isLt⟩ : Fin 1024) : S2x128x1024.Idx) := by
  show (((View.whole cc0_scratch2).slice _).reshape S1024 _).emb z = _
  rw [View.emb_reshape, View.emb_slice, View.emb_whole]
  have e : Shape.reshapeEquiv (s := S1x1x1024) (s' := S1024) rfl z =
      (fun a => match a with | ⟨0, _⟩ => (⟨0, by decide⟩ : Fin 1) | ⟨1, _⟩ => (⟨0, by decide⟩ : Fin 1) | ⟨2, _⟩ => (⟨(z 0).val, (z 0).isLt⟩ : Fin 1024)) := by
    apply Shape.reshapeEquiv_eq_of_rowMajor
    rw [Shape.rowMajor_val_three, Shape.rowMajor_val_one]
    show ((0 * 1 + 0) * 1024 + (z 0).val : ℕ) = (z 0).val
    omega
  show (Rect.unit (s := S2x128x1024) ![k.val, t.val, 0] S1x1x1024.size (drow_inb k t)).emb (Shape.reshapeEquiv (s := S1x1x1024) (s' := S1024) rfl z) = _
  rw [e]
  funext a
  match a with
  | ⟨0, _⟩ => exact Fin.ext (show k.val + 1 * 0 = k.val by omega)
  | ⟨1, _⟩ => exact Fin.ext (show t.val + 1 * 0 = t.val by omega)
  | ⟨2, _⟩ => exact Fin.ext (show 0 + 1 * (z 0).val = (z 0).val by omega)
theorem src_emb (r : Fin 16384) (z : S1024.Idx) : (srcM r).view.emb z =
    (fun a => match a with | ⟨0, _⟩ => (⟨r.val, r.isLt⟩ : Fin 16384) | ⟨1, _⟩ => (⟨(z 0).val, (z 0).isLt⟩ : Fin 1024) : S16384x1024.Idx) := by
  show (((View.whole main_arg1).slice _).reshape S1024 _).emb z = _
  rw [View.emb_reshape, View.emb_slice, View.emb_whole]
  have e : Shape.reshapeEquiv (s := S1x1024) (s' := S1024) rfl z =
      (fun a => match a with | ⟨0, _⟩ => (⟨0, by decide⟩ : Fin 1) | ⟨1, _⟩ => (⟨(z 0).val, (z 0).isLt⟩ : Fin 1024)) := by
    apply Shape.reshapeEquiv_eq_of_rowMajor
    rw [Shape.rowMajor_val_two, Shape.rowMajor_val_one]
    show (0 * 1024 + (z 0).val : ℕ) = (z 0).val
    omega
  show (Rect.unit (s := S16384x1024) ![r.val, 0] S1x1024.size (srow_inb r)).emb (Shape.reshapeEquiv (s := S1x1024) (s' := S1024) rfl z) = _
  rw [e]
  funext a
  match a with
  | ⟨0, _⟩ => exact Fin.ext (show r.val + 1 * 0 = r.val by omega)
  | ⟨1, _⟩ => exact Fin.ext (show 0 + 1 * (z 0).val = (z 0).val by omega)

theorem read_row (m : (ℓ : Loc nD τ sig) → Buf (Elt F) ℓ) (c : Dev nD) (k : Fin 2) (t : Fin 128) :
    (srcM (rowAt m c k t)).view.read (Elt F) (embv m c) = (dstM k t).view.read (Elt F) (gv m c) := by
  funext z
  show embv m c ((srcM (rowAt m c k t)).view.emb z) = gv m c ((dstM k t).view.emb z)
  rw [src_emb, dst_emb]
  unfold gv
  congr 1

/-! ## What a device holds of them -/

def stRow (c : Dev nD) (k : Fin 2) (t : Fin 128) (f : S2x128x1024.Idx → Elt F .f32) : sProp 𝕄 :=
  (dstM k t).view.loc (c : Thread nD τ) ↦[(dstM k t).view.set]{fullShare} f
/-- The share of the embedding row `t`'s transfer reads through. -/
theorem two7 : 128 = 2 ^ 7 := by decide
def lf (t : Fin 128) : PosShare TreeShare := ShareLeaves.leaf 7 fullShare (finCongr two7 t)
def embRow (m : (ℓ : Loc nD τ sig) → Buf (Elt F) ℓ) (c : Dev nD) (k : Fin 2) (t : Fin 128) : sProp 𝕄 :=
  (srcM (rowAt m c k t)).view.loc (c : Thread nD τ) ↦[(srcM (rowAt m c k t)).view.set]{lf t} (embv m c)
def embRest (m : (ℓ : Loc nD τ sig) → Buf (Elt F) ℓ) (c : Dev nD) (k : Fin 2) (t : Fin 128) : sProp 𝕄 :=
  (srcM (rowAt m c k t)).view.loc (c : Thread nD τ) ↦[Finset.univ \ (srcM (rowAt m c k t)).view.set]{lf t} (embv m c)
/-- The embedding, whole; a half of the gathered rows; the ids. -/
def embP (m : (ℓ : Loc nD τ sig) → Buf (Elt F) ℓ) (c : Dev nD) : sProp 𝕄 :=
  (c : Thread nD τ).loc main_arg1 ↦[Finset.univ]{fullShare} (embv m c)
abbrev stM (k : Fin 2) : Rect S2x128x1024 := Rect.unit (s := S2x128x1024) ![k.val, 0, 0] S1x128x1024.size (st_inb k)
def stHalf (c : Dev nD) (k : Fin 2) (f : S2x128x1024.Idx → Elt F .f32) : sProp 𝕄 :=
  (c : Thread nD τ).loc cc0_scratch2 ↦[(stM k).set]{fullShare} f
def idsP (m : (ℓ : Loc nD τ sig) → Buf (Elt F) ℓ) (c : Dev nD) : sProp 𝕄 :=
  (c : Thread nD τ).loc cc0_stg0_0 ↦[Finset.univ]{fullShare} (idsv m c)
/-- What row `t`'s transfer hands back: the row as gathered, and its share of the embedding. -/
def deliv (m : (ℓ : Loc nD τ sig) → Buf (Elt F) ℓ) (c : Dev nD) (k : Fin 2) (t : Fin 128) : sProp 𝕄 :=
  iprop(stRow c k t (gv m c) ∗ embRow m c k t)
instance (m : (ℓ : Loc nD τ sig) → Buf (Elt F) ℓ) (c : Dev nD) (k : Fin 2) (t : Fin 128) :
    BI.Storable (upEmb : UEmb _ 𝕄) (deliv m c k t) := by unfold deliv stRow embRow; infer_instance
/-- The semaphore the transfers of a half signal. -/
def gS (k : Fin 2) : DmaSem sig := ⟨3 + k.val, by have := k.isLt; simp only [sig]; omega⟩
def Bat (m : (ℓ : Loc nD τ sig) → Buf (Elt F) ℓ) (c : Dev nD) (k : Fin 2) (j u : ℕ) : sProp 𝕄 :=
  Transfers.Batch (countersEmb (U := UU)) (c : Thread nD τ) (.dma (gS k)) () NR (deliv m c k) j u
def toGo (m : (ℓ : Loc nD τ sig) → Buf (Elt F) ℓ) (c : Dev nD) (k : Fin 2) (f : S2x128x1024.Idx → Elt F .f32) (j : ℕ) : sProp 𝕄 :=
  bigSep (Transfers.pending (n := 128) j) fun t => iprop(embRow m c k t ∗ stRow c k t f)

theorem half_rows (c : Dev nD) (k : Fin 2) (f : S2x128x1024.Idx → Elt F .f32) :
    stHalf c k f = bigSep Finset.univ fun t : Fin 128 => stRow (F := F) c k t f := by
  have hs : (stM k).set = (Finset.univ : Finset (Fin 128)).biUnion fun t => (dstM k t).view.set := by
    ext i
    rw [Finset.mem_biUnion, Rect.mem_set_unit]
    constructor
    · intro h
      have h0 : k.val ≤ (i 0).val ∧ (i 0).val < k.val + 1 := h 0
      exact ⟨⟨(i 1).val, (i 1).isLt⟩, Finset.mem_univ _, (mem_dst k _ i).mpr ⟨by omega, rfl⟩⟩
    · rintro ⟨t, -, ht⟩ a
      have h := (mem_dst k t i).mp ht
      have h1 : (i 1).val < 128 := (i 1).isLt
      have h2 : (i 2).val < 1024 := (i 2).isLt
      match a with
      | ⟨0, _⟩ => exact (⟨by omega, by omega⟩ : k.val ≤ (i 0).val ∧ (i 0).val < k.val + 1)
      | ⟨1, _⟩ => exact (⟨by omega, by omega⟩ : 0 ≤ (i 1).val ∧ (i 1).val < 0 + 128)
      | ⟨2, _⟩ => exact (⟨by omega, by omega⟩ : 0 ≤ (i 2).val ∧ (i 2).val < 0 + 1024)
  unfold stHalf stRow
  rw [hs]
  exact pointsTo_biUnion _ _ fun t _ t' _ hne => Finset.disjoint_left.mpr fun i h h' => hne (Fin.ext
    (((mem_dst k t i).mp h).2.symm.trans ((mem_dst k t' i).mp h').2))

theorem emb_rows (m : (ℓ : Loc nD τ sig) → Buf (Elt F) ℓ) (c : Dev nD) (k : Fin 2) :
    embP m c = iprop((bigSep Finset.univ fun t : Fin 128 => embRow m c k t) ∗ bigSep Finset.univ fun t : Fin 128 => embRest m c k t) := by
  have h0 : embP m c = bigSep Finset.univ fun t : Fin 128 => ((c : Thread nD τ).loc main_arg1 ↦[Finset.univ]{lf t} (embv m c) : sProp 𝕄) := by
    unfold embP lf
    rw [ShareLeaves.pointsTo_leaves _ _ 7, bigSep_univ_equiv (finCongr two7)]
  rw [← bigSep_sep', h0]
  refine bigSep_congr (s := Finset.univ) fun t _ => ?_
  have h := pointsTo_split_subset (nD := nD) (τ := τ) (sig := sig) (Ix := Unit) (Val := Elt F) (Name := ℕ) (U := UU) (Lvl := ℕ)
    (ℓ := (c : Thread nD τ).loc main_arg1) (q := lf t) (f := embv m c) (Finset.subset_univ (srcM (rowAt m c k t)).view.set)
  exact BI.Entails.antisymm h.1 h.2

end Cert.Embed

end
-- ==== Proof.Gather.lean ====
/-
  The gather of a device's rows: every row of a half is copied from the embedding by a transfer of its own, the transfers counted together.
-/
module

public import proofs.«01_k».proof.Proof.Rows

@[expose] public section

set_option maxRecDepth 65536
set_option maxHeartbeats 2000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

/-! ## Steps -/

section
variable {α : Type} {m : (ℓ : Loc nD τ sig) → Buf (Elt F) ℓ} {κ : Names} {c : Dev nD} {a b : Cp → ℕ} {l : List Due}

theorem lev_gS : ∀ k : Fin 2, lev (.dma (gS k)) = 0 := by decide

theorem step_assume {Q : α → sProp 𝕄} {X : sProp 𝕄} {P : Prop} {d : Decidable P} {k : PLift P → Prog (TpuEff nD τ sig (Elt F) Λ₀ .tc) α}
    (h : P) (hk : X ⊢ (wp frame (wpE (defs₀ (F := F)) 𝒱₀ (c : Thread nD τ) none) Set.univ) (k ⟨h⟩) Q) : X ⊢ (wp frame (wpE (defs₀ (F := F)) 𝒱₀ (c : Thread nD τ) none) Set.univ) (.op (.assume P d) k) Q :=
  hk.trans (wp_assume 𝒱₀ (c : Thread nD τ) none Set.univ h)

theorem load_word {Q : Elt F .i32 → sProp 𝕄} (c : Dev nD) (f : S2048.Idx → Elt F .i32) (j : S2048.Idx) {o : Fin 1 → ℕ} {inb : ∀ a, o a + S1.size a ≤ S2048.size a}
    {h1 : (Rect.unit (s := S2048) o S1.size inb).shape.numel = 1} {hp : EltTy.packing .i32 = 1}
    (he : ∀ x : (Rect.unit (s := S2048) o S1.size inb).shape.Idx, (Rect.unit (s := S2048) o S1.size inb).emb x = j) :
    ((c : Thread nD τ).loc cc0_stg0_0 ↦[Finset.univ]{fullShare} f)
      ⊢ iprop((((c : Thread nD τ).loc cc0_stg0_0 ↦[Finset.univ]{fullShare} f) -∗ Q (f j))
        -∗ (wp frame (wpE (defs₀ (F := F)) 𝒱₀ (c : Thread nD τ) none) Set.univ) (smemLoad (Memref.whole cc0_stg0_0) (Rect.unit (s := S2048) o S1.size inb) h1 hp) Q) := by
  have hv : ∀ x : (Rect.unit (s := S2048) o S1.size inb).shape.Idx,
      ((Memref.whole cc0_stg0_0).access (Rect.unit (s := S2048) o S1.size inb)).read (Elt F) f x = f j := fun x => by
    show f ((Rect.unit (s := S2048) o S1.size inb).emb x) = _
    rw [he]
  have load : ((c : Thread nD τ).loc cc0_stg0_0 ↦[Finset.univ]{fullShare} f)
      ⊢ iprop((((c : Thread nD τ).loc cc0_stg0_0 ↦[Finset.univ]{fullShare} f) -∗ (wp frame (wpE (defs₀ (F := F)) 𝒱₀ (c : Thread nD τ) none) Set.univ) (.ret (((Memref.whole cc0_stg0_0).access (Rect.unit (s := S2048) o S1.size inb)).read (Elt F) f (Shape.Idx.first (h1.symm ▸ Nat.one_pos)))) Q)
        -∗ (wp frame (wpE (defs₀ (F := F)) 𝒱₀ (c : Thread nD τ) none) Set.univ) (smemLoad (Memref.whole cc0_stg0_0) (Rect.unit (s := S2048) o S1.size inb) h1 hp) Q) :=
    wp_smemLoadElt (defs := defs₀ (F := F)) 𝒱₀ (c : Thread nD τ) none Set.univ (m := Memref.whole cc0_stg0_0)
      (r := Rect.unit (s := S2048) o S1.size inb) (hw := View.loads_smem_one hp h1) (k := .ret)
      (f := f) (S := Finset.univ) (q := fullShare) (Finset.subset_univ _)
  rw [hv, wp_ret] at load
  iintro H K
  iapply load $$ [H]
  · iexact H
  iintro H
  iapply fupd_intro
  iapply K
  iexact H

/-- The load of the id a row looks up. -/
theorem step_id {Q : Elt F .i32 → sProp 𝕄} {X : sProp 𝕄} (k : Fin 2) (t : Fin 128) {o : Fin 1 → ℕ} {inb : ∀ a, o a + S1.size a ≤ S2048.size a}
    {h1 : (Rect.unit (s := S2048) o S1.size inb).shape.numel = 1} {hp : EltTy.packing .i32 = 1}
    (ho : o 0 = 512 * (c.val % 4) + 256 * (c.val / 8) + 128 * k.val + t.val)
    (hk : G m κ c a b l iprop(idsP m c ∗ X) ⊢ Q (idsv m c (idAt c k t))) :
    G m κ c a b l iprop(idsP m c ∗ X) ⊢ (wp frame (wpE (defs₀ (F := F)) 𝒱₀ (c : Thread nD τ) none) Set.univ) (smemLoad (Memref.whole cc0_stg0_0) (Rect.unit (s := S2048) o S1.size inb) h1 hp) Q := by
  have he : ∀ x : (Rect.unit (s := S2048) o S1.size inb).shape.Idx, (Rect.unit (s := S2048) o S1.size inb).emb x = idAt c k t := fun x => by
    funext a
    match a with
    | ⟨0, _⟩ =>
      have hx : (x 0).val < 1 := (x 0).isLt
      exact Fin.ext (show o 0 + 1 * (x 0).val = 512 * (c.val % 4) + 256 * (c.val / 8) + 128 * k.val + t.val by omega)
  unfold G idsP at hk ⊢
  iintro ⟨Hi, Hl, Hs, Hr, Ho, Hids, HX⟩
  iapply (load_word c (idsv m c) (idAt c k t) he (Q := Q)) $$ [Hids]
  · iexact Hids
  iintro Hids
  iapply hk
  isplitl [Hi]; · iexact Hi
  isplitl [Hl]; · iexact Hl
  isplitl [Hs]; · iexact Hs
  isplitl [Hr]; · iexact Hr
  isplitl [Ho]; · iexact Ho
  isplitl [Hids]; · iexact Hids
  iexact HX

/-- Row `t`'s transfer is issued. -/
theorem step_row {Q : α → sProp 𝕄} {X : sProp 𝕄} {k' : PUnit → Prog (TpuEff nD τ sig (Elt F) Λ₀ .tc) α} (k : Fin 2) (t : Fin 128)
    {f : S2x128x1024.Idx → Elt F .f32}
    {sM : Memref sig .tc .hbm S1024 .f32} {dM : Memref sig .tc .vmem S1024 .f32} {s : DmaSem sig}
    {hsrc : sM.view.WordExact} {hdst : dM.view.WordExact} {hsem : DmaTarget.Typed (nD := nD) .hbm (.dma s) (DmaTarget.here (p := (Proc.tc : Proc τ)) dM)}
    (hs : sM = srcM (rowAt m c k t)) (hd : dM = dstM k t) (hss : s = gS k)
    (hk : G m κ c a b l iprop(Bat m c k (t.val + 1) 0 ∗ toGo m c k f (t.val + 1) ∗ X) ⊢ (wp frame (wpE (defs₀ (F := F)) 𝒱₀ (c : Thread nD τ) none) Set.univ) (k' ⟨⟩) Q) :
    G m κ c a b l iprop(Bat m c k t.val 0 ∗ toGo m c k f t.val ∗ X) ⊢ (wp frame (wpE (defs₀ (F := F)) 𝒱₀ (c : Thread nD τ) none) Set.univ) (.op (.enqueueDma sM (.here dM) (.dma s) hsrc hdst hsem) k') Q := by
  subst hs hd hss
  have hD : iprop(((dstM k t).view.loc (c : Thread nD τ) ↦[(dstM k t).view.set]{fullShare} ((dstM k t).view.write (Elt F) f (ReadAs.same.apply ((srcM (rowAt m c k t)).view.read (Elt F) (embv m c))) Finset.univ))
      ∗ ((srcM (rowAt m c k t)).view.loc (c : Thread nD τ) ↦[(srcM (rowAt m c k t)).view.set]{lf t} (embv m c))) ⊢ deliv m c k ⟨t.val, t.isLt⟩ :=
    sep_mono_left (Entails.of_eq (pts_write (c : Thread nD τ) (dstM k t).view fullShare f (gv m c) _ (read_row m c k t)))
  have issue : iprop(embRow m c k t ∗ stRow c k t f ∗ Bat m c k t.val 0)
      ⊢ iprop((Bat m c k (t.val + 1) 0 -∗ (wp frame (wpE (defs₀ (F := F)) 𝒱₀ (c : Thread nD τ) none) Set.univ) (k' ⟨⟩) Q) -∗ (wp frame (wpE (defs₀ (F := F)) 𝒱₀ (c : Thread nD τ) none) Set.univ) (.op (.enqueueDma (srcM (rowAt m c k t)) (.here (dstM k t)) (.dma (gS k)) hsrc hdst hsem) k') Q) :=
    Transfers.wp_dmaBatch (defs := defs₀ (F := F)) (c := (c : Thread nD τ)) (countersEmb (U := UU)) 𝒱₀ none (src := srcM (rowAt m c k t)) (dst := dstM k t) (sm := .dma (gS k))
      (fs := embv m c) (fd := f) (Sd := (dstM k t).view.set) (q := lf t) (D := deliv m c k) (j := t.val) (u := 0) () NR (credit_row k t) (Finset.Subset.refl _) t.isLt (Nat.zero_le _) hD
  unfold G at hk ⊢
  iintro ⟨Hi, Hl, Hs, Hr, Ho, HB, Hg, HX⟩
  unfold toGo at hk ⊢
  ihave Hg := (Entails.of_eq (Transfers.bigSep_pending_step (n := 128) (fun t => iprop(embRow m c k t ∗ stRow c k t f)) t.val t.isLt)) $$ Hg
  icases Hg with ⟨⟨He, Hd⟩, Hg⟩
  iapply issue $$ [HB He Hd]
  · isplitl [He]; · iexact He
    isplitl [Hd]; · iexact Hd
    iexact HB
  iintro HB
  iapply hk
  isplitl [Hi]; · iexact Hi
  isplitl [Hl]; · iexact Hl
  isplitl [Hs]; · iexact Hs
  isplitl [Hr]; · iexact Hr
  isplitl [Ho]; · iexact Ho
  isplitl [HB]; · iexact HB
  isplitl [Hg]; · iexact Hg
  iexact HX

/-- One of the waits for a half's rows. -/
theorem step_rowwait {Q : α → sProp 𝕄} {X : sProp 𝕄} {k' : PUnit → Prog (TpuEff nD τ sig (Elt F) Λ₀ .tc) α} (k : Fin 2) (j : ℕ) (hj : j < 128)
    {sM : Memref sig .tc .hbm S1024 .f32} {dM : Memref sig .tc .vmem S1024 .f32} {s : DmaSem sig}
    {hsrc : sM.view.WordExact} {hdst : dM.view.WordExact}
    (hN : dM.view.dmaCredit = NR) (hss : s = gS k) (hl : ∀ d ∈ l, 0 < d.lvl)
    (hk : G m κ c a b l iprop(Bat m c k 128 (NR * (j + 1)) ∗ X) ⊢ (wp frame (wpE (defs₀ (F := F)) 𝒱₀ (c : Thread nD τ) none) Set.univ) (k' ⟨⟩) Q) :
    G m κ c a b l iprop(Bat m c k 128 (NR * j) ∗ X) ⊢ (wp frame (wpE (defs₀ (F := F)) 𝒱₀ (c : Thread nD τ) none) Set.univ) (.op (.waitDma2 s sM dM hsrc hdst) k') Q := by
  subst hss
  unfold G at hk ⊢
  unfold Ow Bat at *
  iintro ⟨Hi, #Hl, Hs, Hr, ⟨%W, Ho⟩, HB, HX⟩
  have hle : NR * j + 1 * NR ≤ NR * 128 := by
    have : NR * (j + 1) ≤ NR * 128 := Nat.mul_le_mul_left _ hj
    rw [Nat.mul_succ] at this; omega
  have he : NR * (j + 1) = NR * j + 1 * NR := by rw [Nat.mul_succ, Nat.one_mul]
  iapply (Transfers.wp_waitBatchMulO (defs := defs₀ (F := F)) (countersEmb (U := UU)) 𝒱₀ (c : Thread nD τ) none () (N := NR) 1 (by rw [hN, Nat.one_mul]) (D := deliv m c k) (j := 128)
    (u := NR * j) hle (O := owing c l) (W := W)) $$ [HB Ho]
  · isplitl [HB]; · iexact HB
    isplitl [Ho]; · iexact Ho
    iapply (mayWait c (.dma (gS k)) l (fun d hd => (lev_gS k).symm ▸ hl d hd))
    iexact Hl
  iintro ⟨HB, Ho⟩
  iapply hk
  rw [he]
  isplitl [Hi]; · iexact Hi
  isplitr; · iexact Hl
  isplitl [Hs]; · iexact Hs
  isplitl [Hr]; · iexact Hr
  isplitl [Ho]; · iexists _; iexact Ho
  isplitl [HB]; · iexact HB
  iexact HX
end

end Cert.Embed

end
-- ==== Proof.Loops.lean ====
/-
  The counted loops of the gather: 128 transfers are issued, then as many waits are made, for either half.
-/
module

public import proofs.«01_k».proof.Proof.Gather

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

section
variable {a b : Cp → ℕ} {l : List Due}

theorem G_mono {a b : Cp → ℕ} {l : List Due} {X Y : sProp 𝕄} (h : X ⊢ Y) : G m κ c a b l X ⊢ G m κ c a b l Y := by
  unfold G
  exact sep_mono_right (sep_mono_right (sep_mono_right (sep_mono_right (sep_mono_right h))))

theorem step_done {α : Type} {P : sProp 𝕄} {r : α} : P ⊢ (wp frame (wpE (defs₀ (F := F)) 𝒱₀ (c : Thread nD τ) none) Set.univ) (.ret r) fun _ => P := by
  rw [wp_ret]; exact fupd_intro

theorem chk_row (k : Fin 2) (t : Fin 128) : (idsv m c (idAt c k t)).toNat < 16384 := idsv_lt m c _
theorem rowAt_val (k : Fin 2) (t : Fin 128) : (rowAt m c k t).val = (idsv m c (idAt c k t)).toNat := by
  have h := chk_row (m := m) (c := c) k t
  show min _ 16383 = _
  omega
theorem inb_row {w : BitVec 32} (h : w.toNat < 16384) : ∀ a, (![w.toNat, 0] : Fin 2 → ℕ) a + S1x1024.size a ≤ S16384x1024.size a := by
  intro a
  match a with
  | ⟨0, _⟩ => show w.toNat + 1 ≤ 16384; omega
  | ⟨1, _⟩ => show 0 + 1024 ≤ 1024; omega

/-- The transfers of a half before the first is issued. -/
theorem bat_start (k : Fin 2) {f : S2x128x1024.Idx → Elt F .f32} {E : Set ℕ} :
    iprop(embP m c ∗ stHalf c k f ∗ semVal ((c : Thread nD τ), SemLoc.dma (gS k)) 0)
      ⊢ (|={E}=> iprop(Bat m c k 0 0 ∗ toGo m c k f 0 ∗ bigSep Finset.univ fun t : Fin 128 => embRest m c k t) : sProp 𝕄) := by
  rw [emb_rows m c k, half_rows]
  have hgo : toGo m c k f 0 = iprop((bigSep Finset.univ fun t : Fin 128 => embRow m c k t) ∗ bigSep Finset.univ fun t : Fin 128 => stRow (F := F) c k t f) := by
    unfold toGo; rw [Transfers.pending_zero, bigSep_sep']
  rw [hgo]
  iintro ⟨⟨He, Hr⟩, Hs, Hv⟩
  have al : (semVal ((c : Thread nD τ), SemLoc.dma (gS k)) 0 : sProp 𝕄) ⊢ |={E}=> Bat m c k 0 0 :=
    Transfers.batch_alloc' (countersEmb (U := UU)) (c : Thread nD τ) () NR (deliv m c k)
  imod al $$ Hv with HB
  imodintro
  isplitl [HB]; · iexact HB
  isplitl [He Hs]
  · isplitl [He]; · iexact He
    iexact Hs
  iexact Hr
/-- And once all have been waited for. -/
theorem bat_end (k : Fin 2) :
    iprop(Bat m c k 128 (NR * 128) ∗ bigSep Finset.univ fun t : Fin 128 => embRest m c k t)
      ⊢ (|={Set.univ}=> iprop(embP m c ∗ stHalf c k (gv m c) ∗ semVal ((c : Thread nD τ), SemLoc.dma (gS k)) 0) : sProp 𝕄) := by
  rw [emb_rows m c k, half_rows]
  have hd : bigSep Finset.univ (deliv m c k) = iprop((bigSep Finset.univ fun t : Fin 128 => stRow (F := F) c k t (gv m c)) ∗ bigSep Finset.univ fun t : Fin 128 => embRow m c k t) := by
    rw [← bigSep_sep']; rfl
  iintro ⟨HB, Hr⟩
  have co : Bat m c k 128 (NR * 128) ⊢ (|={Set.univ}=> iprop(bigSep Finset.univ (deliv m c k) ∗ semVal ((c : Thread nD τ), SemLoc.dma (gS k)) 0) : sProp 𝕄) :=
    Transfers.batch_collect' (countersEmb (U := UU)) (c : Thread nD τ) NR_pos
  imod co $$ HB with ⟨HD, Hv⟩
  imodintro
  ihave HD := (Entails.of_eq hd) $$ HD
  icases HD with ⟨Hs, He⟩
  isplitl [He Hr]
  · isplitl [He]; · iexact He
    iexact Hr
  isplitl [Hs]; · iexact Hs
  iexact Hv

theorem trip1 (X : sProp 𝕄) {f : S2x128x1024.Idx → Elt F .f32} (v2 v5 v8 v9 v12 v13 v31 : BitVec 32) (v14 : Sems sig S_) (t : Fin k0_t1_loop.trips) (u : Unit) :
    G m κ c a b l iprop(idsP m c ∗ Bat m c 0 t.val 0 ∗ toGo m c 0 f t.val ∗ X)
      ⊢ (wp frame (wpE (defs₀ (F := F)) 𝒱₀ (c : Thread nD τ) none) Set.univ) (k0_t1_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31 t u) fun _ => G m κ c a b l iprop(idsP m c ∗ Bat m c 0 (t.val + 1) 0 ∗ toGo m c 0 f (t.val + 1) ∗ X) := by
  have ht : t.val < 128 := t.isLt
  unfold k0_t1_body
  simp only [Prog.lift, Prog.bind_op, Prog.bind_ret, Prog.pure_eq_ret, Prog.bind_assoc]
  rw [wp_bind]
  refine step_id 0 ⟨t.val, ht⟩ (by rw [k0_off1_eq]; show 512 * (c.val % 4) + 256 * (c.val / 8) + t.val = 512 * (c.val % 4) + 256 * (c.val / 8) + 128 * 0 + t.val; omega) ?_
  have hv := chk_row (m := m) (c := c) 0 ⟨t.val, ht⟩
  have hr := rowAt_val (m := m) (c := c) 0 ⟨t.val, ht⟩
  generalize hw : idsv m c (idAt c 0 ⟨t.val, ht⟩) = w at hv hr ⊢
  refine step_assume (inb_row hv) ?_
  refine BI.Entails.trans (G_mono (Y := iprop(Bat m c 0 t.val 0 ∗ toGo m c 0 f t.val ∗ (X ∗ idsP m c))) ?_) ?_
  · iintro ⟨H1, H2, H3, H4⟩
    isplitl [H2]; · iexact H2
    isplitl [H3]; · iexact H3
    isplitl [H4]; · iexact H4
    iexact H1
  refine step_row 0 ⟨t.val, ht⟩ (slice_srow (by unfold k0_off3; rw [hr]) _) (slice_drow (k0_off2_eq t) _) rfl ?_
  refine BI.Entails.trans (G_mono (Y := iprop(idsP m c ∗ Bat m c 0 (t.val + 1) 0 ∗ toGo m c 0 f (t.val + 1) ∗ X)) ?_) ?_
  · iintro ⟨H2, H3, H4, H1⟩
    isplitl [H1]; · iexact H1
    isplitl [H2]; · iexact H2
    isplitl [H3]; · iexact H3
    iexact H4
  exact step_done

theorem trip2 (hl : ∀ d ∈ l, 0 < d.lvl) (X : sProp 𝕄) (v2 v5 v8 v9 v12 v13 v31 : BitVec 32) (v14 : Sems sig S_) (t : Fin k0_t2_loop.trips) (u : Unit) :
    G m κ c a b l iprop(Bat m c 0 128 (NR * t.val) ∗ X)
      ⊢ (wp frame (wpE (defs₀ (F := F)) 𝒱₀ (c : Thread nD τ) none) Set.univ) (k0_t2_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31 t u) fun _ => G m κ c a b l iprop(Bat m c 0 128 (NR * (t.val + 1)) ∗ X) := by
  have ht : t.val < 128 := t.isLt
  unfold k0_t2_body
  simp only [Prog.lift, Prog.bind_op, Prog.bind_ret, Prog.pure_eq_ret, Prog.bind_assoc]
  refine step_rowwait 0 t.val ht rfl rfl hl ?_
  exact step_done

/-- Half 0 of a device's rows is gathered. -/
theorem gather0 (hl : ∀ d ∈ l, 0 < d.lvl) {α : Type} {Q : α → sProp 𝕄} (X : sProp 𝕄) {f : S2x128x1024.Idx → Elt F .f32} (v2 v5 v8 v9 v12 v13 v31 : BitVec 32) (v14 : Sems sig S_)
    {kk : Unit → Prog (TpuEff nD τ sig (Elt F) Λ₀ .tc) α}
    (hk : G m κ c a b l iprop(idsP m c ∗ embP m c ∗ stHalf c 0 (gv m c) ∗ semVal ((c : Thread nD τ), SemLoc.dma (gS 0)) 0 ∗ X) ⊢ (wp frame (wpE (defs₀ (F := F)) 𝒱₀ (c : Thread nD τ) none) Set.univ) (kk ()) Q) :
    G m κ c a b l iprop(idsP m c ∗ embP m c ∗ stHalf c 0 f ∗ semVal ((c : Thread nD τ), SemLoc.dma (gS 0)) 0 ∗ X)
      ⊢ (wp frame (wpE (defs₀ (F := F)) 𝒱₀ (c : Thread nD τ) none) Set.univ) (Scf.Loop.for k0_t1_loop k0_t1_ok ⟨⟩ (k0_t1_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31) >>= fun _ =>
          Scf.Loop.for k0_t2_loop k0_t2_ok ⟨⟩ (k0_t2_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31) >>= kk) Q := by
  have h1 := Scf.wp_for_bind (M := 𝕄) frame (wpE (defs₀ (F := F)) 𝒱₀ (c : Thread nD τ) none) Set.univ k0_t1_loop.lb k0_t1_loop.ub k0_t1_loop.st k0_t1_ok ()
    (k0_t1_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31)
    (fun j _ => G m κ c a b l iprop(idsP m c ∗ Bat m c 0 j 0 ∗ toGo m c 0 f j ∗ (bigSep Finset.univ fun t : Fin 128 => embRest m c 0 t) ∗ X))
    (fun t u => trip1 (iprop((bigSep Finset.univ fun t : Fin 128 => embRest m c 0 t) ∗ X)) v2 v5 v8 v9 v12 v13 v31 v14 t u) (Q := Q)
    (kk := fun _ => Scf.Loop.for k0_t2_loop k0_t2_ok ⟨⟩ (k0_t2_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31) >>= kk)
  have h2 := Scf.wp_for_bind (M := 𝕄) frame (wpE (defs₀ (F := F)) 𝒱₀ (c : Thread nD τ) none) Set.univ k0_t2_loop.lb k0_t2_loop.ub k0_t2_loop.st k0_t2_ok ()
    (k0_t2_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 v14 v31)
    (fun j _ => G m κ c a b l iprop(Bat m c 0 128 (NR * j) ∗ idsP m c ∗ (bigSep Finset.univ fun t : Fin 128 => embRest m c 0 t) ∗ X))
    (fun t u => trip2 hl (iprop(idsP m c ∗ (bigSep Finset.univ fun t : Fin 128 => embRest m c 0 t) ∗ X)) v2 v5 v8 v9 v12 v13 v31 v14 t u) (Q := Q) (kk := kk)
  unfold G at h1 h2 hk ⊢
  iintro ⟨#Hi, #Hl, Hs, Hr, Ho, Hids, He, Hst, Hv, HX⟩
  imod (bat_start (m := m) (c := c) 0 (f := f) (E := Set.univ)) $$ [He Hst Hv] with ⟨HB, Hg, Hrest⟩
  · isplitl [He]; · iexact He
    isplitl [Hst]; · iexact Hst
    iexact Hv
  iapply h1 $$ [Hs Hr Ho Hids HB Hg Hrest HX]
  · isplitr; · iexact Hi
    isplitr; · iexact Hl
    isplitl [Hs]; · iexact Hs
    isplitl [Hr]; · iexact Hr
    isplitl [Ho]; · iexact Ho
    isplitl [Hids]; · iexact Hids
    isplitl [HB]; · iexact HB
    isplitl [Hg]; · iexact Hg
    isplitl [Hrest]; · iexact Hrest
    iexact HX
  iintro %u ⟨-, -, Hs, Hr, Ho, Hids, HB, -, Hrest, HX⟩
  iapply h2 $$ [Hs Hr Ho Hids HB Hrest HX]
  · isplitr; · iexact Hi
    isplitr; · iexact Hl
    isplitl [Hs]; · iexact Hs
    isplitl [Hr]; · iexact Hr
    isplitl [Ho]; · iexact Ho
    isplitl [HB]; · iexact HB
    isplitl [Hids]; · iexact Hids
    isplitl [Hrest]; · iexact Hrest
    iexact HX
  iintro %u ⟨-, -, Hs, Hr, Ho, HB, Hids, Hrest, HX⟩
  imod (bat_end (m := m) (c := c) 0) $$ [HB Hrest] with ⟨He, Hst, Hv⟩
  · isplitl [HB]; · iexact HB
    iexact Hrest
  iapply hk
  isplitr; · iexact Hi
  isplitr; · iexact Hl
  isplitl [Hs]; · iexact Hs
  isplitl [Hr]; · iexact Hr
  isplitl [Ho]; · iexact Ho
  isplitl [Hids]; · iexact Hids
  isplitl [He]; · iexact He
  isplitl [Hst]; · iexact Hst
  isplitl [Hv]; · iexact Hv
  iexact HX

theorem trip3 (X : sProp 𝕄) {f : S2x128x1024.Idx → Elt F .f32} (v2 v8 v9 v13 : BitVec 32) (t : Fin k0_t3_loop.trips) (u : Unit) :
    G m κ c a b l iprop(idsP m c ∗ Bat m c 1 t.val 0 ∗ toGo m c 1 f t.val ∗ X)
      ⊢ (wp frame (wpE (defs₀ (F := F)) 𝒱₀ (c : Thread nD τ) none) Set.univ) (k0_t3_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13 t u) fun _ => G m κ c a b l iprop(idsP m c ∗ Bat m c 1 (t.val + 1) 0 ∗ toGo m c 1 f (t.val + 1) ∗ X) := by
  have ht : t.val < 128 := t.isLt
  unfold k0_t3_body
  simp only [Prog.lift, Prog.bind_op, Prog.bind_ret, Prog.pure_eq_ret, Prog.bind_assoc]
  rw [wp_bind]
  refine step_id 1 ⟨t.val, ht⟩ (by rw [k0_off4_eq]; show 512 * (c.val % 4) + 256 * (c.val / 8) + t.val + 128 = 512 * (c.val % 4) + 256 * (c.val / 8) + 128 * 1 + t.val; omega) ?_
  have hv := chk_row (m := m) (c := c) 1 ⟨t.val, ht⟩
  have hr := rowAt_val (m := m) (c := c) 1 ⟨t.val, ht⟩
  generalize hw : idsv m c (idAt c 1 ⟨t.val, ht⟩) = w at hv hr ⊢
  refine step_assume (inb_row hv) ?_
  refine BI.Entails.trans (G_mono (Y := iprop(Bat m c 1 t.val 0 ∗ toGo m c 1 f t.val ∗ (X ∗ idsP m c))) ?_) ?_
  · iintro ⟨H1, H2, H3, H4⟩
    isplitl [H2]; · iexact H2
    isplitl [H3]; · iexact H3
    isplitl [H4]; · iexact H4
    iexact H1
  refine step_row 1 ⟨t.val, ht⟩ (slice_srow (by unfold k0_off6; rw [hr]) _) (slice_drow (k0_off5_eq t) _) rfl ?_
  refine BI.Entails.trans (G_mono (Y := iprop(idsP m c ∗ Bat m c 1 (t.val + 1) 0 ∗ toGo m c 1 f (t.val + 1) ∗ X)) ?_) ?_
  · iintro ⟨H2, H3, H4, H1⟩
    isplitl [H1]; · iexact H1
    isplitl [H2]; · iexact H2
    isplitl [H3]; · iexact H3
    iexact H4
  exact step_done

theorem trip4 (hl : ∀ d ∈ l, 0 < d.lvl) (X : sProp 𝕄) (v2 v8 v9 v13 : BitVec 32) (t : Fin k0_t4_loop.trips) (u : Unit) :
    G m κ c a b l iprop(Bat m c 1 128 (NR * t.val) ∗ X)
      ⊢ (wp frame (wpE (defs₀ (F := F)) 𝒱₀ (c : Thread nD τ) none) Set.univ) (k0_t4_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13 t u) fun _ => G m κ c a b l iprop(Bat m c 1 128 (NR * (t.val + 1)) ∗ X) := by
  have ht : t.val < 128 := t.isLt
  unfold k0_t4_body
  simp only [Prog.lift, Prog.bind_op, Prog.bind_ret, Prog.pure_eq_ret, Prog.bind_assoc]
  refine step_rowwait 1 t.val ht rfl rfl hl ?_
  exact step_done

/-- Half 1 of a device's rows is gathered. -/
theorem gather1 (hl : ∀ d ∈ l, 0 < d.lvl) {α : Type} {Q : α → sProp 𝕄} (X : sProp 𝕄) {f : S2x128x1024.Idx → Elt F .f32} (v2 v8 v9 v13 : BitVec 32)
    {kk : Unit → Prog (TpuEff nD τ sig (Elt F) Λ₀ .tc) α}
    (hk : G m κ c a b l iprop(idsP m c ∗ embP m c ∗ stHalf c 1 (gv m c) ∗ semVal ((c : Thread nD τ), SemLoc.dma (gS 1)) 0 ∗ X) ⊢ (wp frame (wpE (defs₀ (F := F)) 𝒱₀ (c : Thread nD τ) none) Set.univ) (kk ()) Q) :
    G m κ c a b l iprop(idsP m c ∗ embP m c ∗ stHalf c 1 f ∗ semVal ((c : Thread nD τ), SemLoc.dma (gS 1)) 0 ∗ X)
      ⊢ (wp frame (wpE (defs₀ (F := F)) 𝒱₀ (c : Thread nD τ) none) Set.univ) (Scf.Loop.for k0_t3_loop k0_t3_ok ⟨⟩ (k0_t3_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13) >>= fun _ =>
          Scf.Loop.for k0_t4_loop k0_t4_ok ⟨⟩ (k0_t4_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13) >>= kk) Q := by
  have h1 := Scf.wp_for_bind (M := 𝕄) frame (wpE (defs₀ (F := F)) 𝒱₀ (c : Thread nD τ) none) Set.univ k0_t3_loop.lb k0_t3_loop.ub k0_t3_loop.st k0_t3_ok ()
    (k0_t3_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13)
    (fun j _ => G m κ c a b l iprop(idsP m c ∗ Bat m c 1 j 0 ∗ toGo m c 1 f j ∗ (bigSep Finset.univ fun t : Fin 128 => embRest m c 1 t) ∗ X))
    (fun t u => trip3 (iprop((bigSep Finset.univ fun t : Fin 128 => embRest m c 1 t) ∗ X)) v2 v8 v9 v13 t u) (Q := Q)
    (kk := fun _ => Scf.Loop.for k0_t4_loop k0_t4_ok ⟨⟩ (k0_t4_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13) >>= kk)
  have h2 := Scf.wp_for_bind (M := 𝕄) frame (wpE (defs₀ (F := F)) 𝒱₀ (c : Thread nD τ) none) Set.univ k0_t4_loop.lb k0_t4_loop.ub k0_t4_loop.st k0_t4_ok ()
    (k0_t4_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13)
    (fun j _ => G m κ c a b l iprop(Bat m c 1 128 (NR * j) ∗ idsP m c ∗ (bigSep Finset.univ fun t : Fin 128 => embRest m c 1 t) ∗ X))
    (fun t u => trip4 hl (iprop(idsP m c ∗ (bigSep Finset.univ fun t : Fin 128 => embRest m c 1 t) ∗ X)) v2 v8 v9 v13 t u) (Q := Q) (kk := kk)
  unfold G at h1 h2 hk ⊢
  iintro ⟨#Hi, #Hl, Hs, Hr, Ho, Hids, He, Hst, Hv, HX⟩
  imod (bat_start (m := m) (c := c) 1 (f := f) (E := Set.univ)) $$ [He Hst Hv] with ⟨HB, Hg, Hrest⟩
  · isplitl [He]; · iexact He
    isplitl [Hst]; · iexact Hst
    iexact Hv
  iapply h1 $$ [Hs Hr Ho Hids HB Hg Hrest HX]
  · isplitr; · iexact Hi
    isplitr; · iexact Hl
    isplitl [Hs]; · iexact Hs
    isplitl [Hr]; · iexact Hr
    isplitl [Ho]; · iexact Ho
    isplitl [Hids]; · iexact Hids
    isplitl [HB]; · iexact HB
    isplitl [Hg]; · iexact Hg
    isplitl [Hrest]; · iexact Hrest
    iexact HX
  iintro %u ⟨-, -, Hs, Hr, Ho, Hids, HB, -, Hrest, HX⟩
  iapply h2 $$ [Hs Hr Ho Hids HB Hrest HX]
  · isplitr; · iexact Hi
    isplitr; · iexact Hl
    isplitl [Hs]; · iexact Hs
    isplitl [Hr]; · iexact Hr
    isplitl [Ho]; · iexact Ho
    isplitl [HB]; · iexact HB
    isplitl [Hids]; · iexact Hids
    isplitl [Hrest]; · iexact Hrest
    iexact HX
  iintro %u ⟨-, -, Hs, Hr, Ho, HB, Hids, Hrest, HX⟩
  imod (bat_end (m := m) (c := c) 1) $$ [HB Hrest] with ⟨He, Hst, Hv⟩
  · isplitl [HB]; · iexact HB
    iexact Hrest
  iapply hk
  isplitr; · iexact Hi
  isplitr; · iexact Hl
  isplitl [Hs]; · iexact Hs
  isplitl [Hr]; · iexact Hr
  isplitl [Ho]; · iexact Ho
  isplitl [Hids]; · iexact Hids
  isplitl [He]; · iexact He
  isplitl [Hst]; · iexact Hst
  isplitl [Hv]; · iexact Hv
  iexact HX
end

end Cert.Embed

end
-- ==== Proof.Blocks.lean ====
/-
  Loading, storing and combining blocks.
-/
module

public import proofs.«01_k».proof.Proof.Loops

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

variable {m : (ℓ : Loc nD τ sig) → Buf (Elt F) ℓ} {κ : Names} {c : Dev nD} {a b : Cp → ℕ} {l : List Due}

theorem yes_y : ∀ (c : Dev nD) (k : Fin 2), ract c ⟨k.val, by omega⟩ = true := by decide +kernel
theorem hf_y : ∀ k : Fin 2, hf ⟨k.val, by omega⟩ = k := by decide

/-- One access to what a device holds besides the exchange. -/
theorem step_use {P P' R R' X : sProp 𝕄} (hw : P ⊢ iprop((P' -∗ R') -∗ R)) (hk : G m κ c a b l iprop(P' ∗ X) ⊢ R') :
    G m κ c a b l iprop(P ∗ X) ⊢ R := by
  have key : G m κ c a b l iprop(P ∗ X) ⊢ iprop(P ∗ (P' -∗ G m κ c a b l iprop(P' ∗ X))) := by
    unfold G
    iintro ⟨HI, HL, HS, HR, HO, HP, HX⟩
    isplitl [HP]; · iexact HP
    iintro HP
    isplitl [HI]; · iexact HI
    isplitl [HL]; · iexact HL
    isplitl [HS]; · iexact HS
    isplitl [HR]; · iexact HR
    isplitl [HO]; · iexact HO
    isplitl [HP]; · iexact HP
    iexact HX
  refine key.trans ?_
  have fin : iprop(P ∗ (P' -∗ G m κ c a b l iprop(P' ∗ X))) ⊢ R := by
    iintro ⟨HP, HG⟩
    iapply hw $$ [HP]; · iexact HP
    iintro HP
    iapply hk
    iapply HG
    iexact HP
  exact fin
/-- One access to what a copy across the table's cut brought. -/
theorem step_use_y {R R' X : sProp 𝕄} (k : Fin 2) {p : Cp} (hp : p = ⟨k.val, by omega⟩) (hb : b p = 1)
    (hw : yPts c k fullShare (partv m (yFlip c)) ⊢ iprop((yPts c k fullShare (partv m (yFlip c)) -∗ R') -∗ R))
    (hk : G m κ c a b l X ⊢ R') : G m κ c a b l X ⊢ R := by
  have hst : recvSt m c p 1 = iprop(atPos ER (recvCell c p) 1 ∅ 0 ∗ yPts c k fullShare (partv m (yFlip c))) := by
    have h0 : ract c p = true := by rw [hp]; exact yes_y c k
    rw [recvSt_one, if_pos h0, cif_true h0]
    unfold keep gotPts
    rw [if_neg (by rw [hp]; intro h; have := h.1; have := k.isLt; simp only at *; omega), if_pos (by rw [hp]; exact k.isLt)]
    rw [show hf p = k from by rw [hp]; exact hf_y k]
  have hput : put b p 1 = b := by unfold put; rw [← hb]; exact Function.update_eq_self _ _
  have key : G m κ c a b l X ⊢ iprop(yPts c k fullShare (partv m (yFlip c)) ∗ (yPts c k fullShare (partv m (yFlip c)) -∗ G m κ c a b l X)) := by
    unfold G
    iintro ⟨HI, HL, HS, HR, HO, HX⟩
    ihave ⟨Hp, HR⟩ := (Recvs_at m c b p 1 1 hb) $$ HR
    ihave ⟨Hat, HP⟩ := (Entails.of_eq hst) $$ Hp
    isplitl [HP]; · iexact HP
    iintro HP
    isplitl [HI]; · iexact HI
    isplitl [HL]; · iexact HL
    isplitl [HS]; · iexact HS
    isplitl [HR Hat HP]
    · ihave HR := HR $$ [Hat HP]
      · iapply (Entails.of_eq hst.symm)
        isplitl [Hat]; · iexact Hat
        iexact HP
      iapply (Entails.of_eq (congrArg (Recvs m c) hput))
      iexact HR
    isplitl [HO]; · iexact HO
    iexact HX
  refine key.trans ?_
  have fin : iprop(yPts c k fullShare (partv m (yFlip c)) ∗ (yPts c k fullShare (partv m (yFlip c)) -∗ G m κ c a b l X)) ⊢ R := by
    iintro ⟨HP, HG⟩
    iapply hw $$ [HP]; · iexact HP
    iintro HP
    iapply hk
    iapply HG
    iexact HP
  exact fin
/-- A source becomes ready. -/
theorem step_arm {R P X : sProp 𝕄} (q : Cp) (ha : a q = 0) (hs : hasSrc c q = true) (hP : srcPts m c q = P)
    (hk : G m κ c (put a q 1) b l X ⊢ R) : G m κ c a b l iprop(P ∗ X) ⊢ R := by
  have key : G m κ c a b l iprop(P ∗ X) ⊢ G m κ c (put a q 1) b l X := by
    unfold G
    iintro ⟨HI, HL, HS, HR, HO, HP, HX⟩
    isplitl [HI]; · iexact HI
    isplitl [HL]; · iexact HL
    isplitl [HS HP]
    · iapply (arm q ha)
      isplitl [HS]; · iexact HS
      rw [cif_true hs, hP]
      iexact HP
    isplitl [HR]; · iexact HR
    isplitl [HO]; · iexact HO
    iexact HX
  exact key.trans hk

/-! ## Accesses -/

def maskP (m : (ℓ : Loc nD τ sig) → Buf (Elt F) ℓ) (c : Dev nD) : sProp 𝕄 :=
  (c : Thread nD τ).loc cc0_stg1_0 ↦[Finset.univ]{fullShare} (maskv m c)

section Acc
variable {α : Type}
theorem load_part {Q : α → sProp 𝕄} (c : Dev nD) (k : Fin 2) (q : PosShare TreeShare) (f : S256x1024.Idx → Elt F .bf16) {o : Fin 2 → ℕ} {inb : ∀ a, o a + S128x1024.size a ≤ S256x1024.size a} {hl}
    {kk : Vec F S128x1024 .bf16 → Prog (TpuEff nD τ sig (Elt F) Λ₀ .tc) α} (ho : o = ![128 * k.val, 0]) :
    pPts c k q f ⊢ iprop((pPts c k q f -∗ (wp frame (wpE (defs₀ (F := F)) 𝒱₀ (c : Thread nD τ) none) Set.univ) (kk ((partM k).view.read (Elt F) f)) Q)
      -∗ (wp frame (wpE (defs₀ (F := F)) 𝒱₀ (c : Thread nD τ) none) Set.univ) (.op (.load (Memref.whole cc0_scratch0) (Rect.unit (s := S256x1024) o S128x1024.size inb).toLoadRect hl) kk) Q) := by
  subst ho
  exact wp_load_rect (defs := defs₀ (F := F)) 𝒱₀ (c : Thread nD τ) none Set.univ (m := Memref.whole cc0_scratch0)
    (r := Rect.unit (s := S256x1024) ![128 * k.val, 0] S128x1024.size (hf_inb k)) (hl := hl) (f := f) (S := (partM k).view.set) (q := q) (Finset.Subset.refl _)
theorem load_y {Q : α → sProp 𝕄} (c : Dev nD) (k : Fin 2) (q : PosShare TreeShare) (f : S256x1024.Idx → Elt F .bf16) {o : Fin 2 → ℕ} {inb : ∀ a, o a + S128x1024.size a ≤ S256x1024.size a} {hl}
    {kk : Vec F S128x1024 .bf16 → Prog (TpuEff nD τ sig (Elt F) Λ₀ .tc) α} (ho : o = ![128 * k.val, 0]) :
    yPts c k q f ⊢ iprop((yPts c k q f -∗ (wp frame (wpE (defs₀ (F := F)) 𝒱₀ (c : Thread nD τ) none) Set.univ) (kk ((yM k).view.read (Elt F) f)) Q)
      -∗ (wp frame (wpE (defs₀ (F := F)) 𝒱₀ (c : Thread nD τ) none) Set.univ) (.op (.load (Memref.whole cc0_scratch1) (Rect.unit (s := S256x1024) o S128x1024.size inb).toLoadRect hl) kk) Q) := by
  subst ho
  exact wp_load_rect (defs := defs₀ (F := F)) 𝒱₀ (c : Thread nD τ) none Set.univ (m := Memref.whole cc0_scratch1)
    (r := Rect.unit (s := S256x1024) ![128 * k.val, 0] S128x1024.size (hf_inb k)) (hl := hl) (f := f) (S := (yM k).view.set) (q := q) (Finset.Subset.refl _)
theorem load_out {Q : α → sProp 𝕄} (c : Dev nD) (k : Fin 16) (q : PosShare TreeShare) (f : S2048x1024.Idx → Elt F .bf16) {o : Fin 2 → ℕ} {inb : ∀ a, o a + S128x1024.size a ≤ S2048x1024.size a} {hl}
    {kk : Vec F S128x1024 .bf16 → Prog (TpuEff nD τ sig (Elt F) Λ₀ .tc) α} (ho : o = ![128 * k.val, 0]) :
    bPts c k q f ⊢ iprop((bPts c k q f -∗ (wp frame (wpE (defs₀ (F := F)) 𝒱₀ (c : Thread nD τ) none) Set.univ) (kk ((blkM k).view.read (Elt F) f)) Q)
      -∗ (wp frame (wpE (defs₀ (F := F)) 𝒱₀ (c : Thread nD τ) none) Set.univ) (.op (.load (Memref.whole cc0_stg2_0) (Rect.unit (s := S2048x1024) o S128x1024.size inb).toLoadRect hl) kk) Q) := by
  subst ho
  exact wp_load_rect (defs := defs₀ (F := F)) 𝒱₀ (c : Thread nD τ) none Set.univ (m := Memref.whole cc0_stg2_0)
    (r := Rect.unit (s := S2048x1024) ![128 * k.val, 0] S128x1024.size (blk_inb k)) (hl := hl) (f := f) (S := (blkM k).view.set) (q := q) (Finset.Subset.refl _)
theorem load_st {Q : α → sProp 𝕄} (c : Dev nD) (k : Fin 2) (f : S2x128x1024.Idx → Elt F .f32) {o : Fin 3 → ℕ} {inb : ∀ a, o a + S1x128x1024.size a ≤ S2x128x1024.size a} {hl}
    {kk : Vec F S1x128x1024 .f32 → Prog (TpuEff nD τ sig (Elt F) Λ₀ .tc) α} (ho : o = ![k.val, 0, 0]) :
    stHalf c k f ⊢ iprop((stHalf c k f -∗ (wp frame (wpE (defs₀ (F := F)) 𝒱₀ (c : Thread nD τ) none) Set.univ) (kk fun i => f ((Rect.unit (s := S2x128x1024) ![k.val, 0, 0] S1x128x1024.size (st_inb k)).emb i)) Q)
      -∗ (wp frame (wpE (defs₀ (F := F)) 𝒱₀ (c : Thread nD τ) none) Set.univ) (.op (.load (Memref.whole cc0_scratch2) (Rect.unit (s := S2x128x1024) o S1x128x1024.size inb).toLoadRect hl) kk) Q) := by
  subst ho
  exact wp_load_rect (defs := defs₀ (F := F)) 𝒱₀ (c : Thread nD τ) none Set.univ (m := Memref.whole cc0_scratch2)
    (r := Rect.unit (s := S2x128x1024) ![k.val, 0, 0] S1x128x1024.size (st_inb k)) (hl := hl) (f := f) (S := (stM k).set) (q := fullShare)
    (Finset.Subset.trans (Finset.Subset.refl _) (by rw [show ((Memref.whole cc0_scratch2).access (Rect.unit (s := S2x128x1024) ![k.val, 0, 0] S1x128x1024.size (st_inb k))).set = (stM k).set from View.set_slice_whole _ _]))
theorem load_col {Q : α → sProp 𝕄} (c : Dev nD) (k : Fin 16) (f : S2048x1.Idx → Elt F .f32) {o : Fin 2 → ℕ} {inb : ∀ a, o a + S128x1.size a ≤ S2048x1.size a} {hl}
    {kk : Vec F S128x1 .f32 → Prog (TpuEff nD τ sig (Elt F) Λ₀ .tc) α} (ho : o = ![128 * k.val, 0]) :
    ((c : Thread nD τ).loc cc0_stg1_0 ↦[Finset.univ]{fullShare} f) ⊢ iprop((((c : Thread nD τ).loc cc0_stg1_0 ↦[Finset.univ]{fullShare} f)
        -∗ (wp frame (wpE (defs₀ (F := F)) 𝒱₀ (c : Thread nD τ) none) Set.univ) (kk fun i => f ((Rect.unit (s := S2048x1) ![128 * k.val, 0] S128x1.size (mk_inb k)).emb i)) Q)
      -∗ (wp frame (wpE (defs₀ (F := F)) 𝒱₀ (c : Thread nD τ) none) Set.univ) (.op (.load (Memref.whole cc0_stg1_0) (Rect.unit (s := S2048x1) o S128x1.size inb).toLoadRect hl) kk) Q) := by
  subst ho
  exact wp_load_rect (defs := defs₀ (F := F)) 𝒱₀ (c : Thread nD τ) none Set.univ (m := Memref.whole cc0_stg1_0)
    (r := Rect.unit (s := S2048x1) ![128 * k.val, 0] S128x1.size (mk_inb k)) (hl := hl) (f := f) (S := Finset.univ) (q := fullShare) (Finset.subset_univ _)
theorem load_mask {Q : α → sProp 𝕄} (c : Dev nD) (k : Fin 2) {o : Fin 2 → ℕ} {inb : ∀ a, o a + S128x1.size a ≤ S2048x1.size a} {hl}
    {kk : Vec F S128x1 .f32 → Prog (TpuEff nD τ sig (Elt F) Λ₀ .tc) α} (ho : o = ![128 * (blkOf c ⟨2 + k.val, by omega⟩).val, 0]) :
    maskP m c ⊢ iprop((maskP m c -∗ (wp frame (wpE (defs₀ (F := F)) 𝒱₀ (c : Thread nD τ) none) Set.univ) (kk (maskRows m c k)) Q)
      -∗ (wp frame (wpE (defs₀ (F := F)) 𝒱₀ (c : Thread nD τ) none) Set.univ) (.op (.load (Memref.whole cc0_stg1_0) (Rect.unit (s := S2048x1) o S128x1.size inb).toLoadRect hl) kk) Q) := by
  unfold maskP maskRows
  generalize maskv m c = f
  exact load_col c (blkOf c ⟨2 + k.val, by omega⟩) f ho
theorem store_part {Q : α → sProp 𝕄} (c : Dev nD) (k : Fin 2) (f g : S256x1024.Idx → Elt F .bf16) {w : Vec F S128x1024 .bf16} {o : Fin 2 → ℕ} {inb : ∀ a, o a + S128x1024.size a ≤ S256x1024.size a} {hx hm}
    {kk : PUnit → Prog (TpuEff nD τ sig (Elt F) Λ₀ .tc) α} (ho : o = ![128 * k.val, 0]) (hw : w = (partM k).view.read (Elt F) g) :
    pPts c k fullShare f ⊢ iprop((pPts c k fullShare g -∗ (wp frame (wpE (defs₀ (F := F)) 𝒱₀ (c : Thread nD τ) none) Set.univ) (kk ⟨⟩) Q)
      -∗ (wp frame (wpE (defs₀ (F := F)) 𝒱₀ (c : Thread nD τ) none) Set.univ) (.op (.store (Memref.whole cc0_scratch0) (Rect.unit (s := S256x1024) o S128x1024.size inb) w Finset.univ hx hm) kk) Q) := by
  subst ho
  have e := pts_write (F := F) (c : Thread nD τ) (partM k).view fullShare f g w hw
  have h : pPts c k fullShare f ⊢ iprop((((partM k).view.loc (c : Thread nD τ) ↦[(partM k).view.set]{fullShare} ((partM k).view.write (Elt F) f w Finset.univ)) -∗ (wp frame (wpE (defs₀ (F := F)) 𝒱₀ (c : Thread nD τ) none) Set.univ) (kk ⟨⟩) Q)
      -∗ (wp frame (wpE (defs₀ (F := F)) 𝒱₀ (c : Thread nD τ) none) Set.univ) (.op (.store (Memref.whole cc0_scratch0) (Rect.unit (s := S256x1024) ![128 * k.val, 0] S128x1024.size inb) w Finset.univ hx hm) kk) Q) :=
    wp_store (defs := defs₀ (F := F)) 𝒱₀ (c : Thread nD τ) none Set.univ (m := Memref.whole cc0_scratch0)
      (r := Rect.unit (s := S256x1024) ![128 * k.val, 0] S128x1024.size (hf_inb k)) (f := f) (S := (partM k).view.set) (Finset.Subset.refl _)
  rw [e] at h
  exact h
theorem store_out {Q : α → sProp 𝕄} (c : Dev nD) (k : Fin 16) (f g : S2048x1024.Idx → Elt F .bf16) {w : Vec F S128x1024 .bf16} {o : Fin 2 → ℕ} {inb : ∀ a, o a + S128x1024.size a ≤ S2048x1024.size a} {hx hm}
    {kk : PUnit → Prog (TpuEff nD τ sig (Elt F) Λ₀ .tc) α} (ho : o = ![128 * k.val, 0]) (hw : w = (blkM k).view.read (Elt F) g) :
    bPts c k fullShare f ⊢ iprop((bPts c k fullShare g -∗ (wp frame (wpE (defs₀ (F := F)) 𝒱₀ (c : Thread nD τ) none) Set.univ) (kk ⟨⟩) Q)
      -∗ (wp frame (wpE (defs₀ (F := F)) 𝒱₀ (c : Thread nD τ) none) Set.univ) (.op (.store (Memref.whole cc0_stg2_0) (Rect.unit (s := S2048x1024) o S128x1024.size inb) w Finset.univ hx hm) kk) Q) := by
  subst ho
  have e := pts_write (F := F) (c : Thread nD τ) (blkM k).view fullShare f g w hw
  have h : bPts c k fullShare f ⊢ iprop((((blkM k).view.loc (c : Thread nD τ) ↦[(blkM k).view.set]{fullShare} ((blkM k).view.write (Elt F) f w Finset.univ)) -∗ (wp frame (wpE (defs₀ (F := F)) 𝒱₀ (c : Thread nD τ) none) Set.univ) (kk ⟨⟩) Q)
      -∗ (wp frame (wpE (defs₀ (F := F)) 𝒱₀ (c : Thread nD τ) none) Set.univ) (.op (.store (Memref.whole cc0_stg2_0) (Rect.unit (s := S2048x1024) ![128 * k.val, 0] S128x1024.size inb) w Finset.univ hx hm) kk) Q) :=
    wp_store (defs := defs₀ (F := F)) 𝒱₀ (c : Thread nD τ) none Set.univ (m := Memref.whole cc0_stg2_0)
      (r := Rect.unit (s := S2048x1024) ![128 * k.val, 0] S128x1024.size (blk_inb k)) (f := f) (S := (blkM k).view.set) (Finset.Subset.refl _)
  rw [e] at h
  exact h

/-! ## The two computations -/

theorem half_src (c : Dev nD) (k : Fin 2) : hasSrc c ⟨k.val, by omega⟩ = true := by revert k c; decide +kernel
theorem srcPts_part (c : Dev nD) (k : Fin 2) : srcPts m c ⟨k.val, by omega⟩ = pPts c k fullShare.left (partv m c) := by
  unfold srcPts shr
  rw [if_pos k.isLt, if_pos k.isLt]
  rw [hf_y]

/-- The gathered rows of a half, rounded, become the device's part of that half. -/
theorem step_half {Q : α → sProp 𝕄} {X : sProp 𝕄} (k : Fin 2) {g : S256x1024.Idx → Elt F .bf16}
    {o3 : Fin 3 → ℕ} {i3 : ∀ a, o3 a + S1x128x1024.size a ≤ S2x128x1024.size a} {o o' : Fin 2 → ℕ} {i i'} {hl hl' hx hm}
    {pay : Vec F S1x128x1024 .f32 → Vec F S128x1024 .bf16}
    {kk : PUnit → Prog (TpuEff nD τ sig (Elt F) Λ₀ .tc) α}
    (ha : a ⟨k.val, by omega⟩ = 0) (h3 : o3 = ![k.val, 0, 0]) (ho : o = ![128 * k.val, 0]) (ho' : o' = ![128 * k.val, 0])
    (hp : ∀ v, pay v = k0_pay1 v)
    (hk : G m κ c (put a ⟨k.val, by omega⟩ 1) b l iprop(pPts c k fullShare.right (partv m c) ∗ stHalf c k (gv m c) ∗ X) ⊢ (wp frame (wpE (defs₀ (F := F)) 𝒱₀ (c : Thread nD τ) none) Set.univ) (kk ⟨⟩) Q) :
    G m κ c a b l iprop(stHalf c k (gv m c) ∗ pPts c k fullShare g ∗ X)
      ⊢ (wp frame (wpE (defs₀ (F := F)) 𝒱₀ (c : Thread nD τ) none) Set.univ) (.op (.load (Memref.whole cc0_scratch2) (Rect.unit (s := S2x128x1024) o3 S1x128x1024.size i3).toLoadRect hl) fun v =>
        .op (.load (Memref.whole cc0_scratch0) (Rect.unit (s := S256x1024) o S128x1024.size i).toLoadRect hl') fun _ =>
        .op (.store (Memref.whole cc0_scratch0) (Rect.unit (s := S256x1024) o' S128x1024.size i') (pay v) Finset.univ hx hm) kk) Q := by
  refine step_use (load_st c k (gv m c) h3) ?_
  refine BI.Entails.trans (G_mono (Y := iprop(pPts c k fullShare g ∗ stHalf c k (gv m c) ∗ X)) ?_) ?_
  · iintro ⟨H1, H2, HX⟩
    isplitl [H2]; · iexact H2
    isplitl [H1]; · iexact H1
    iexact HX
  refine step_use (load_part c k fullShare g ho) ?_
  refine step_use (store_part c k g (partv m c) ho' ((hp _).trans (read_part m c k).symm)) ?_
  rw [pPts_split]
  refine BI.Entails.trans (G_mono (Y := iprop(pPts c k fullShare.left (partv m c) ∗ pPts c k fullShare.right (partv m c) ∗ stHalf c k (gv m c) ∗ X)) ?_) ?_
  · iintro ⟨⟨H1, H2⟩, HX⟩
    isplitl [H1]; · iexact H1
    isplitl [H2]; · iexact H2
    iexact HX
  exact step_arm ⟨k.val, by omega⟩ ha (half_src c k) (srcPts_part c k) hk

theorem src_own (c : Dev nD) (k : Fin 2) : hasSrc c ⟨4 + k.val, by omega⟩ = true ∧ hasSrc c ⟨10 + k.val, by omega⟩ = true ∧ hasSrc c ⟨2 + k.val, by omega⟩ = true := by
  revert k c; decide +kernel
/-- The shares taken of a block by the copies of a device's own rows. -/
theorem shr_at : ∀ p : Cp, shr p = (if p.val < 2 then fullShare.left else if p.val < 4 then fullShare.right.right
    else if p.val < 16 then (if p.val = 10 ∨ p.val = 11 then fullShare.right.left else fullShare.left) else fullShare.right) := fun p => by
  unfold shr
  have h : (back p = 0 ∧ 10 ≤ p.val) ↔ (p.val < 2 ∨ p.val = 2 ∨ p.val = 3 ∨ p.val = 10 ∨ p.val = 11) ∧ 10 ≤ p.val ∨ (16 ≤ p.val ∧ back p = 0) := by
    revert p; decide
  by_cases h1 : p.val < 2; · rw [if_pos h1, if_pos h1]
  by_cases h2 : p.val < 4; · rw [if_neg h1, if_neg h1, if_pos h2, if_pos h2]
  by_cases h3 : p.val < 16
  · rw [if_neg h1, if_neg h1, if_neg h2, if_neg h2, if_pos h3, if_pos h3]
    by_cases h4 : p.val = 10 ∨ p.val = 11
    · rw [if_pos h4, if_pos (h.mpr (.inl ⟨by omega, by omega⟩))]
    · rw [if_neg h4, if_neg (fun hh => by have := h.mp hh; omega)]
  · rw [if_neg h1, if_neg h1, if_neg h2, if_neg h2, if_neg h3, if_neg h3]
theorem srcPts_own (c : Dev nD) (k : Fin 2) :
    srcPts m c ⟨4 + k.val, by omega⟩ = bPts c (blkOf c ⟨2 + k.val, by omega⟩) fullShare.left (outv m c)
    ∧ srcPts m c ⟨10 + k.val, by omega⟩ = bPts c (blkOf c ⟨2 + k.val, by omega⟩) fullShare.right.left (outv m c)
    ∧ srcPts m c ⟨2 + k.val, by omega⟩ = bPts c (blkOf c ⟨2 + k.val, by omega⟩) fullShare.right.right (outv m c) := by
  have h : blkOf c ⟨4 + k.val, by omega⟩ = blkOf c ⟨2 + k.val, by omega⟩ ∧ blkOf c ⟨10 + k.val, by omega⟩ = blkOf c ⟨2 + k.val, by omega⟩ := by
    revert k c; decide +kernel
  have s4 : shr ⟨4 + k.val, by omega⟩ = fullShare.left := match k with | 0 => shr_at 4 | 1 => shr_at 5
  have s10 : shr ⟨10 + k.val, by omega⟩ = fullShare.right.left := match k with | 0 => shr_at 10 | 1 => shr_at 11
  have s2 : shr ⟨2 + k.val, by omega⟩ = fullShare.right.right := match k with | 0 => shr_at 2 | 1 => shr_at 3
  unfold srcPts
  rw [if_neg (show ¬ 4 + k.val < 2 by omega), if_neg (show ¬ 10 + k.val < 2 by omega), if_neg (show ¬ 2 + k.val < 2 by omega), h.1, h.2, s4, s10, s2]
  exact ⟨rfl, rfl, rfl⟩
theorem own_half : ∀ (c : Dev nD) (k : Fin 2), (⟨(blkOf c ⟨2 + k.val, by omega⟩).val % 2, Nat.mod_lt _ (by decide)⟩ : Fin 2) = k := by decide +kernel
theorem read_own (c : Dev nD) (k : Fin 2) : (blkM (blkOf c ⟨2 + k.val, by omega⟩)).view.read (Elt F) (outv m c) = comb m c k := by
  rw [read_out, owner_blkOf, own_half]

/-- Own and partner's part of a half become a block of the result. -/
theorem step_comb {Q : α → sProp 𝕄} {X : sProp 𝕄} (k : Fin 2) {g : S2048x1024.Idx → Elt F .bf16}
    {o7 o o1 o8 o8' : Fin 2 → ℕ} {i7 i i1 i8 i8'} {hl7 hl hl1 hl8 hx hm}
    {pay : Vec F S128x1 .f32 → Vec F S128x1024 .bf16 → Vec F S128x1024 .bf16 → Vec F S128x1024 .bf16}
    {kk : PUnit → Prog (TpuEff nD τ sig (Elt F) Λ₀ .tc) α}
    (hb : b ⟨k.val, by omega⟩ = 1) (h4 : a ⟨4 + k.val, by omega⟩ = 0)
    (h10 : put a ⟨4 + k.val, by omega⟩ 1 ⟨10 + k.val, by omega⟩ = 0)
    (h2 : put (put a ⟨4 + k.val, by omega⟩ 1) ⟨10 + k.val, by omega⟩ 1 ⟨2 + k.val, by omega⟩ = 0)
    (ho7 : o7 = ![128 * (blkOf c ⟨2 + k.val, by omega⟩).val, 0])
    (ho : o = ![128 * k.val, 0]) (ho1 : o1 = ![128 * k.val, 0])
    (ho8 : o8 = ![128 * (blkOf c ⟨2 + k.val, by omega⟩).val, 0]) (ho8' : o8' = ![128 * (blkOf c ⟨2 + k.val, by omega⟩).val, 0])
    (hp : ∀ u v w, pay u v w = k0_pay3 u v w)
    (hk : G m κ c (put (put (put a ⟨4 + k.val, by omega⟩ 1) ⟨10 + k.val, by omega⟩ 1) ⟨2 + k.val, by omega⟩ 1) b l
      iprop(maskP m c ∗ pPts c k fullShare.right (partv m c) ∗ X) ⊢ (wp frame (wpE (defs₀ (F := F)) 𝒱₀ (c : Thread nD τ) none) Set.univ) (kk ⟨⟩) Q) :
    G m κ c a b l iprop(maskP m c ∗ pPts c k fullShare.right (partv m c) ∗ bPts c (blkOf c ⟨2 + k.val, by omega⟩) fullShare g ∗ X)
      ⊢ (wp frame (wpE (defs₀ (F := F)) 𝒱₀ (c : Thread nD τ) none) Set.univ) (.op (.load (Memref.whole cc0_stg1_0) (Rect.unit (s := S2048x1) o7 S128x1.size i7).toLoadRect hl7) fun u =>
        .op (.load (Memref.whole cc0_scratch0) (Rect.unit (s := S256x1024) o S128x1024.size i).toLoadRect hl) fun v =>
        .op (.load (Memref.whole cc0_scratch1) (Rect.unit (s := S256x1024) o1 S128x1024.size i1).toLoadRect hl1) fun w =>
        .op (.load (Memref.whole cc0_stg2_0) (Rect.unit (s := S2048x1024) o8 S128x1024.size i8).toLoadRect hl8) fun _ =>
        .op (.store (Memref.whole cc0_stg2_0) (Rect.unit (s := S2048x1024) o8' S128x1024.size i8') (pay u v w) Finset.univ hx hm) kk) Q := by
  refine step_use (load_mask c k ho7) ?_
  refine BI.Entails.trans (G_mono (Y := iprop(pPts c k fullShare.right (partv m c) ∗ bPts c (blkOf c ⟨2 + k.val, by omega⟩) fullShare g ∗ maskP m c ∗ X)) ?_) ?_
  · iintro ⟨H1, H2, H3, HX⟩
    isplitl [H2]; · iexact H2
    isplitl [H3]; · iexact H3
    isplitl [H1]; · iexact H1
    iexact HX
  refine step_use (load_part c k fullShare.right (partv m c) ho) ?_
  refine step_use_y k rfl hb (load_y c k fullShare (partv m (yFlip c)) ho1) ?_
  refine BI.Entails.trans (G_mono (Y := iprop(bPts c (blkOf c ⟨2 + k.val, by omega⟩) fullShare g ∗ maskP m c ∗ pPts c k fullShare.right (partv m c) ∗ X)) ?_) ?_
  · iintro ⟨H2, H3, H1, HX⟩
    isplitl [H3]; · iexact H3
    isplitl [H1]; · iexact H1
    isplitl [H2]; · iexact H2
    iexact HX
  refine step_use (load_out c _ fullShare g ho8) ?_
  refine step_use (store_out c _ g (outv m c) ho8' ?_) ?_
  · rw [hp, read_part, read_y, read_own]; rfl
  rw [bPts_split c _ fullShare, bPts_split c _ fullShare.right]
  refine BI.Entails.trans (G_mono (Y := iprop(bPts c (blkOf c ⟨2 + k.val, by omega⟩) fullShare.left (outv m c)
    ∗ bPts c (blkOf c ⟨2 + k.val, by omega⟩) fullShare.right.left (outv m c)
    ∗ bPts c (blkOf c ⟨2 + k.val, by omega⟩) fullShare.right.right (outv m c) ∗ maskP m c ∗ pPts c k fullShare.right (partv m c) ∗ X)) ?_) ?_
  · iintro ⟨⟨H1, H2, H3⟩, HX⟩
    isplitl [H1]; · iexact H1
    isplitl [H2]; · iexact H2
    isplitl [H3]; · iexact H3
    iexact HX
  refine step_arm _ h4 (src_own c k).1 (srcPts_own c k).1 ?_
  refine step_arm _ h10 (src_own c k).2.1 (srcPts_own c k).2.1 ?_
  exact step_arm _ h2 (src_own c k).2.2 (srcPts_own c k).2.2 hk
end Acc

theorem off7_0_blk : ∀ c : Dev nD, k0_off7 c 0#32 = ![128 * (blkOf c ⟨2 + (0 : Fin 2).val, by decide⟩).val, 0] := by decide
theorem off7_1_blk : ∀ c : Dev nD, k0_off7 c 1#32 = ![128 * (blkOf c ⟨2 + (1 : Fin 2).val, by decide⟩).val, 0] := by decide
theorem off8_0_own : ∀ c : Dev nD, k0_off8 c 0#32 = ![128 * (blkOf c ⟨2 + (0 : Fin 2).val, by decide⟩).val, 0] := by decide
theorem off8_1_own : ∀ c : Dev nD, k0_off8 c 1#32 = ![128 * (blkOf c ⟨2 + (1 : Fin 2).val, by decide⟩).val, 0] := by decide

end Cert.Embed

end
-- ==== Proof.Part19.lean ====
/-
  Part 19 of the body: the first signals.
-/
module

public import proofs.«01_k».proof.Proof.Barrier
public import proofs.«01_k».proof.Proof.Blocks

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

theorem has0 : ∀ c : Dev nD, has 0 c = true := by decide
theorem has1 : ∀ c : Dev nD, has 1 c = true := by decide

/-- Part 19 of the body. -/
theorem part19_ok {α : Type} {Q : α → sProp 𝕄} {Y : sProp 𝕄} {k : (Σ' (d0 : Dev nD) (v2 : BitVec 32) (v5 : BitVec 32) (v8 : BitVec 32) (v9 : BitVec 32) (v10 : BitVec 32) (v11 : BitVec 32) (v12 : BitVec 32) (v13 : BitVec 32) (v14 : Sems sig S_), BitVec 32) → Prog (TpuEff nD τ sig (Elt F) Λ₀ .tc) α}
    (hk : ∀ v2 v5 v8 v9 v10 v11 v12 v13 v31, G0 m κ c [.bar 2, .cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] Y ⊢ (wp frame (wpE (defs₀ (F := F)) 𝒱₀ (c : Thread nD τ) none) Set.univ) (k ⟨c, v2, v5, v8, v9, v10, v11, v12, v13, SemArray.scalar (sig.barrier 0 rfl), v31⟩) Q) :
    G0 m κ c [.bar 0, .bar 1, .bar 3, .bar 2, .cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(sg c 0 ∗ sg c 1 ∗ sg c 3 ∗ Y) ⊢ (wp frame (wpE (defs₀ (F := F)) 𝒱₀ (c : Thread nD τ) none) Set.univ) (k0_part19 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 >>= k) Q := by
  simp only [k0_part19_eq_skeleton]
  unfold k0_part19_skel
  rw [wp_bind]
  simp only [Prog.lift, Prog.bind_op, Prog.bind_ret, Prog.pure_eq_ret, Prog.bind_assoc]
  rw [wp_deviceId]
  unfold semSignalWord
  simp only [Prog.bind_op, Prog.bind_ret, Prog.pure_eq_ret, Prog.bind_assoc]
  refine step_signal 0 (has0 c) (dev1_to c (has0 c)) rfl rfl ?_
  refine step_signal 1 (has1 c) (dev2_to c (has1 c)) rfl rfl ?_
  split
  case isTrue h =>
    refine step_signal 3 ((cond1_iff c).mp h) (dev3_to c ((cond1_iff c).mp h)) rfl rfl ?_
    exact step_fin (hk _ _ _ _ _ _ _ _ _)
  case isFalse h =>
    refine skip_signal 3 (Bool.eq_false_iff.mpr fun h' => h ((cond1_iff c).mpr h')) ?_
    exact step_fin (hk _ _ _ _ _ _ _ _ _)

end Cert.Embed

end
-- ==== Proof.Part20.lean ====
/-
  Part 20 of the body: all devices are there; the first half is gathered.
-/
module

public import proofs.«01_k».proof.Proof.Barrier
public import proofs.«01_k».proof.Proof.Blocks

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Two ways on that meet again. -/
theorem step_bar2 {P R : sProp 𝕄} {α : Type} {Q : α → sProp 𝕄} {T : Prog (TpuEff nD τ sig (Elt F) Λ₀ .tc) α} {Cc : Prop} [Decidable Cc] {A : Cc → Prog (TpuEff nD τ sig (Elt F) Λ₀ .tc) α}
    (hf : ¬ Cc → P ⊢ R) (ht : ∀ h, (R ⊢ (wp frame (wpE (defs₀ (F := F)) 𝒱₀ (c : Thread nD τ) none) Set.univ) T Q) → P ⊢ (wp frame (wpE (defs₀ (F := F)) 𝒱₀ (c : Thread nD τ) none) Set.univ) (A h) Q) (hT : R ⊢ (wp frame (wpE (defs₀ (F := F)) 𝒱₀ (c : Thread nD τ) none) Set.univ) T Q) :
    P ⊢ (wp frame (wpE (defs₀ (F := F)) 𝒱₀ (c : Thread nD τ) none) Set.univ) (if h : Cc then A h else T) Q := by
  split
  case isTrue h => exact ht h hT
  case isFalse h => exact (hf h).trans hT
theorem amt1_int : ∀ c : Dev nD, (k0_amt1 c).toInt = ((k0_amt1 c).toNat : ℤ) := by decide

/-- Part 20 of the body. -/
theorem part20_ok {α : Type} {Q : α → sProp 𝕄} {X : sProp 𝕄} {f : S2x128x1024.Idx → Elt F .f32} {g : S256x1024.Idx → Elt F .bf16} (v2 : BitVec 32) (v5 : BitVec 32) (v8 : BitVec 32) (v9 : BitVec 32) (v12 : BitVec 32) (v13 : BitVec 32) (v31 : BitVec 32) {k : PUnit → Prog (TpuEff nD τ sig (Elt F) Λ₀ .tc) α}
    (hk : G m κ c (put (fun _ => 0) 0 1) (fun _ => 0) [.cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27]
      iprop(pPts c 0 fullShare.right (partv m c) ∗ stHalf c 0 (gv m c) ∗ idsP m c ∗ embP m c ∗ semVal ((c : Thread nD τ), .dma (gS 0)) 0 ∗ atPos ER (barCell c) 1 ∅ 0 ∗ X) ⊢ (wp frame (wpE (defs₀ (F := F)) 𝒱₀ (c : Thread nD τ) none) Set.univ) (k ⟨⟩) Q) :
    G0 m κ c [.bar 2, .cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(sg c 2 ∗ (atPos ER (barCell c) 0 ∅ 0 ∗ cred (tallyAt (barCell c) () (k0_amt1 c).toNat) ∗ bigSep Finset.univ fun p => ptoks c p)
        ∗ Recvs m c (fun _ => 0) ∗ idsP m c ∗ embP m c ∗ stHalf c 0 f ∗ semVal ((c : Thread nD τ), .dma (gS 0)) 0 ∗ pPts c 0 fullShare g ∗ X)
      ⊢ (wp frame (wpE (defs₀ (F := F)) 𝒱₀ (c : Thread nD τ) none) Set.univ) (k0_part20 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v12 v13 (SemArray.scalar (sig.barrier 0 rfl)) v31 >>= k) Q := by
  simp only [k0_part20_eq_skeleton]
  unfold k0_part20_skel
  rw [wp_bind]
  simp only [Prog.lift, Prog.bind_op, Prog.bind_ret, Prog.pure_eq_ret, Prog.bind_assoc]
  unfold semSignalWord semWaitWord
  simp only [Prog.bind_op, Prog.bind_ret, Prog.pure_eq_ret, Prog.bind_assoc]
  refine step_bar2 (R := G0 m κ c [.cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop((atPos ER (barCell c) 0 ∅ 0 ∗ cred (tallyAt (barCell c) () (k0_amt1 c).toNat) ∗ bigSep Finset.univ fun p => ptoks c p)
        ∗ Recvs m c (fun _ => 0) ∗ idsP m c ∗ embP m c ∗ stHalf c 0 f ∗ semVal ((c : Thread nD τ), .dma (gS 0)) 0 ∗ pPts c 0 fullShare g ∗ X)) (fun h => ?_) (fun h hT => ?_) ?_
  · exact skip_signal 2 (Bool.eq_false_iff.mpr fun h' => h ((cond2_iff c).mpr h')) .rfl
  · exact step_signal 2 ((cond2_iff c).mp h) (dev4_to c ((cond2_iff c).mp h)) rfl rfl hT
  refine step_barrier rfl (amt1_int c) (by decide) ?_
  refine BI.Entails.trans (G_mono (Y := iprop(idsP m c ∗ embP m c ∗ stHalf c 0 f ∗ semVal ((c : Thread nD τ), .dma (gS 0)) 0 ∗ pPts c 0 fullShare g ∗ atPos ER (barCell c) 1 ∅ 0 ∗ X)) ?_) ?_
  · iintro ⟨H1, H2, H3, H4, H5, H6, HX⟩
    isplitl [H2]; · iexact H2
    isplitl [H3]; · iexact H3
    isplitl [H4]; · iexact H4
    isplitl [H5]; · iexact H5
    isplitl [H6]; · iexact H6
    isplitl [H1]; · iexact H1
    iexact HX
  refine gather0 (by decide) _ v2 v5 v8 v9 v12 v13 v31 _ ?_
  refine BI.Entails.trans (G_mono (Y := iprop(stHalf c 0 (gv m c) ∗ pPts c 0 fullShare g ∗ idsP m c ∗ embP m c ∗ semVal ((c : Thread nD τ), .dma (gS 0)) 0 ∗ atPos ER (barCell c) 1 ∅ 0 ∗ X)) ?_) ?_
  · iintro ⟨H1, H2, H3, H4, H5, HX⟩
    isplitl [H3]; · iexact H3
    isplitl [H5]; · iexact H5
    isplitl [H1]; · iexact H1
    isplitl [H2]; · iexact H2
    isplitl [H4]; · iexact H4
    iexact HX
  refine step_half 0 rfl rfl rfl rfl (fun _ => rfl) ?_
  exact step_fin hk

end Cert.Embed

end
-- ==== Proof.Part21.lean ====
/-
  Part 21 of the body: the second half is gathered; both halves go to the partner.
-/
module

public import proofs.«01_k».proof.Proof.Blocks

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 21 of the body. -/
theorem part21_ok {α : Type} {Q : α → sProp 𝕄} {X : sProp 𝕄} {f : S2x128x1024.Idx → Elt F .f32} {g : S256x1024.Idx → Elt F .bf16} (v2 : BitVec 32) (v8 : BitVec 32) (v9 : BitVec 32) (v13 : BitVec 32) {k : PUnit → Prog (TpuEff nD τ sig (Elt F) Λ₀ .tc) α}
    (hk : G m κ c (put (put (put (put (fun _ => 0) 0 1) 0 2) 1 1) 1 2) (fun _ => 0) [.cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27]
      iprop(pPts c 1 fullShare.right (partv m c) ∗ stHalf c 1 (gv m c) ∗ idsP m c ∗ embP m c ∗ semVal ((c : Thread nD τ), .dma (gS 1)) 0 ∗ X) ⊢ (wp frame (wpE (defs₀ (F := F)) 𝒱₀ (c : Thread nD τ) none) Set.univ) (k ⟨⟩) Q) :
    G m κ c (put (fun _ => 0) 0 1) (fun _ => 0) [.cp 0, .cp 1, .cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(idsP m c ∗ embP m c ∗ stHalf c 1 f ∗ semVal ((c : Thread nD τ), .dma (gS 1)) 0 ∗ pPts c 1 fullShare g ∗ X)
      ⊢ (wp frame (wpE (defs₀ (F := F)) 𝒱₀ (c : Thread nD τ) none) Set.univ) (k0_part21 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 v9 v13 >>= k) Q := by
  simp only [k0_part21_eq_skeleton]
  unfold k0_part21_skel
  rw [wp_bind]
  simp only [Prog.lift, Prog.bind_op, Prog.bind_ret, Prog.pure_eq_ret, Prog.bind_assoc]
  refine step_part 0 (by decide) (by decide) (act0_all c) (dev5_peer c (act0_all c)) rfl rfl rfl rfl ?_
  refine gather1 (by decide) _ v2 v8 v9 v13 ?_
  refine BI.Entails.trans (G_mono (Y := iprop(stHalf c 1 (gv m c) ∗ pPts c 1 fullShare g ∗ idsP m c ∗ embP m c ∗ semVal ((c : Thread nD τ), .dma (gS 1)) 0 ∗ X)) ?_) ?_
  · iintro ⟨H1, H2, H3, H4, H5, HX⟩
    isplitl [H3]; · iexact H3
    isplitl [H5]; · iexact H5
    isplitl [H1]; · iexact H1
    isplitl [H2]; · iexact H2
    isplitl [H4]; · iexact H4
    iexact HX
  refine step_half 1 (by decide) rfl rfl rfl (fun _ => rfl) ?_
  refine step_part 1 (by decide) (by decide) (act1_all c) (dev6_peer c (act1_all c)) rfl rfl rfl rfl ?_
  exact step_fin hk

end Cert.Embed

end
-- ==== Proof.Part22.lean ====
/-
  Part 22 of the body: the first block is complete and goes along the line.
-/
module

public import proofs.«01_k».proof.Proof.Blocks

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

def a22 : Cp → ℕ := fun p => [2, 2].getD p.val 0

/-- Part 22 of the body. -/
theorem part22_ok {α : Type} {Q : α → sProp 𝕄} {X : sProp 𝕄} {g : S2048x1024.Idx → Elt F .bf16} (v2 : BitVec 32) (v5 : BitVec 32) (v8 : BitVec 32) (v9 : BitVec 32) (v11 : BitVec 32) (v12 : BitVec 32) (v13 : BitVec 32) {k : PUnit → Prog (TpuEff nD τ sig (Elt F) Λ₀ .tc) α}
    (hk : G m κ c (put (put (put (put (put a22 4 1) 10 1) 2 1) 4 2) 10 2) (put (fun _ => 0) 0 1) [.cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27]
      iprop(maskP m c ∗ pPts c 0 fullShare.right (partv m c) ∗ X) ⊢ (wp frame (wpE (defs₀ (F := F)) 𝒱₀ (c : Thread nD τ) none) Set.univ) (k ⟨⟩) Q) :
    G m κ c a22 (fun _ => 0) [.cp 4, .cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 0 fullShare.right (partv m c) ∗ bPts c (blkOf c ⟨2 + (0 : Fin 2).val, by decide⟩) fullShare g ∗ X)
      ⊢ (wp frame (wpE (defs₀ (F := F)) 𝒱₀ (c : Thread nD τ) none) Set.univ) (k0_part22 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v11 v12 v13 >>= k) Q := by
  simp only [k0_part22_eq_skeleton]
  unfold k0_part22_skel
  rw [wp_bind]
  simp only [Prog.lift, Prog.bind_op, Prog.bind_ret, Prog.pure_eq_ret, Prog.bind_assoc]
  refine step_arr 0 (by decide) (by decide) (yes_y c 0) rfl rfl (by decide) ?_
  refine step_comb 0 (by decide) (by decide) (by decide) (by decide) (off7_0_blk c) rfl rfl (off8_0_own c) (off8_0_own c) (fun _ _ _ => rfl) ?_
  refine step_if2 (R := G m κ c (put (put (put (put a22 4 1) 10 1) 2 1) 4 2) (put (fun _ => 0) 0 1) [.cp 10, .cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 0 fullShare.right (partv m c) ∗ X)) (fun h => ?_) (fun h hT3 => ?_) ?_
  · have h3 := Bool.eq_false_iff.mpr fun h' => h ((cond3_iff c).mpr h')
    exact skip_cp 4 (by decide) h3 .rfl
  · have h3 := (cond3_iff c).mp h
    refine step_blk 4 (by decide) (by decide) h3 (dev7_peer c h3) (slice_blk (off9__blk c h3) _) (slice_blk (off9__blk c h3) _) rfl rfl ?_
    exact hT3
  refine step_if2 (R := G m κ c (put (put (put (put (put a22 4 1) 10 1) 2 1) 4 2) 10 2) (put (fun _ => 0) 0 1) [.cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 0 fullShare.right (partv m c) ∗ X)) (fun h => ?_) (fun h hT4 => ?_) ?_
  · have h4 := Bool.eq_false_iff.mpr fun h' => h ((cond4_iff c).mpr h')
    exact skip_cp 10 (by decide) h4 .rfl
  · have h4 := (cond4_iff c).mp h
    refine step_blk 10 (by decide) (by decide) h4 (dev8_peer c h4) (slice_blk (off10__blk c h4) _) (slice_blk (off10__blk c h4) _) rfl rfl ?_
    exact hT4
  exact step_fin hk

end Cert.Embed

end
-- ==== Proof.Part23.lean ====
/-
  Part 23 of the body: the first block goes across; the second half arrives.
-/
module

public import proofs.«01_k».proof.Proof.Blocks

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

def a23 : Cp → ℕ := fun p => [2, 2, 1, 0, 2, 0, 0, 0, 0, 0, 2].getD p.val 0
def b23 : Cp → ℕ := fun p => [1].getD p.val 0
def a24 : Cp → ℕ := fun p => [2, 2, 2, 0, 2, 0, 0, 0, 0, 0, 2].getD p.val 0
def b24 : Cp → ℕ := fun p => [1, 1].getD p.val 0

/-- Part 23 of the body. -/
theorem part23_ok {α : Type} {Q : α → sProp 𝕄} {X : sProp 𝕄} (v2 : BitVec 32) (v5 : BitVec 32) (v8 : BitVec 32) (v9 : BitVec 32) (v10 : BitVec 32) (v13 : BitVec 32) {k : BitVec 32 → Prog (TpuEff nD τ sig (Elt F) Λ₀ .tc) α}
    (hk : ∀ r, G m κ c a24 b24 [.cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] X ⊢ (wp frame (wpE (defs₀ (F := F)) 𝒱₀ (c : Thread nD τ) none) Set.univ) (k r) Q) :
    G m κ c a23 b23 [.cp 2, .cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] X
      ⊢ (wp frame (wpE (defs₀ (F := F)) 𝒱₀ (c : Thread nD τ) none) Set.univ) (k0_part23 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v9 v10 v13 >>= k) Q := by
  simp only [k0_part23_eq_skeleton]
  unfold k0_part23_skel
  rw [wp_bind]
  simp only [Prog.lift, Prog.bind_op, Prog.bind_ret, Prog.pure_eq_ret, Prog.bind_assoc]
  refine step_blk 2 (by decide) (by decide) (act2_all c) (dev9_peer c (act2_all c)) (slice_blk (off11_0_blk c (act2_all c)) _) (slice_blk (off11_0_blk c (act2_all c)) _) rfl rfl ?_
  refine step_arr 1 (by decide) (by decide) (yes_y c 1) rfl rfl (by decide) ?_
  exact step_fin (conv (by decide) (by decide) (hk _))

end Cert.Embed

end
-- ==== Proof.Part24.lean ====
/-
  Part 24 of the body: the second block is complete and goes to all neighbours.
-/
module

public import proofs.«01_k».proof.Proof.Part23

@[expose] public section

set_option maxRecDepth 65536
set_option maxHeartbeats 1000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 24 of the body. -/
theorem part24_ok {α : Type} {Q : α → sProp 𝕄} {X : sProp 𝕄} {g : S2048x1024.Idx → Elt F .bf16} (v2 : BitVec 32) (v5 : BitVec 32) (v8 : BitVec 32) (v10 : BitVec 32) (v11 : BitVec 32) (v12 : BitVec 32) (v139 : BitVec 32) {k : PUnit → Prog (TpuEff nD τ sig (Elt F) Λ₀ .tc) α}
    (hk : G m κ c a25 b25 [.cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 1 fullShare.right (partv m c) ∗ X) ⊢ (wp frame (wpE (defs₀ (F := F)) 𝒱₀ (c : Thread nD τ) none) Set.univ) (k ⟨⟩) Q) :
    G m κ c a24 b24 [.cp 5, .cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 1 fullShare.right (partv m c) ∗ bPts c (blkOf c ⟨2 + (1 : Fin 2).val, by decide⟩) fullShare g ∗ X)
      ⊢ (wp frame (wpE (defs₀ (F := F)) 𝒱₀ (c : Thread nD τ) none) Set.univ) (k0_part24 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v10 v11 v12 v139 >>= k) Q := by
  simp only [k0_part24_eq_skeleton]
  unfold k0_part24_skel
  rw [wp_bind]
  simp only [Prog.lift, Prog.bind_op, Prog.bind_ret, Prog.pure_eq_ret, Prog.bind_assoc]
  refine step_comb 1 (by decide) (by decide) (by decide) (by decide) (off7_1_blk c) rfl rfl (off8_1_own c) (off8_1_own c) (fun _ _ _ => rfl) ?_
  refine step_if2 (R := G m κ c (put (put (put (put a24 5 1) 11 1) 3 1) 5 2) b24 [.cp 11, .cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 1 fullShare.right (partv m c) ∗ X)) (fun h => ?_) (fun h hT5 => ?_) ?_
  · have h5 := Bool.eq_false_iff.mpr fun h' => h ((cond5_iff c).mpr h')
    exact skip_cp 5 (by decide) h5 .rfl
  · have h5 := (cond5_iff c).mp h
    refine step_blk 5 (by decide) (by decide) h5 (dev10_peer c h5) (slice_blk (off12__blk c h5) _) (slice_blk (off12__blk c h5) _) rfl rfl ?_
    exact hT5
  refine step_if2 (R := G m κ c (put (put (put (put (put a24 5 1) 11 1) 3 1) 5 2) 11 2) b24 [.cp 3, .cp 6, .cp 16, .cp 7, .cp 17, .cp 12, .cp 22, .cp 13, .cp 23, .cp 8, .cp 18, .cp 9, .cp 19, .cp 14, .cp 24, .cp 15, .cp 25, .cp 20, .cp 21, .cp 26, .cp 27] iprop(maskP m c ∗ pPts c 1 fullShare.right (partv m c) ∗ X)) (fun h => ?_) (fun h hT6 => ?_) ?_
  · have h6 := Bool.eq_false_iff.mpr fun h' => h ((cond6_iff c).mpr h')
    exact skip_cp 11 (by decide) h6 .rfl
  · have h6 := (cond6_iff c).mp h
    refine step_blk 11 (by decide) (by decide) h6 (dev11_peer c h6) (slice_blk (off13__blk c h6) _) (slice_blk (off13__blk c h6) _) rfl rfl ?_
    exact hT6
  refine step_blk 3 (by decide) (by decide) (act3_all c) (dev12_peer c (act3_all c)) (slice_blk (off11_128_blk c (act3_all c)) _) (slice_blk (off11_128_blk c (act3_all c)) _) rfl rfl ?_
  exact step_fin (conv (by decide) (by decide) hk)

end Cert.Embed

end
-- ==== Proof.Part25.lean ====
/-
  Part 25 of the body: copies and waits.
-/
module

public import proofs.«01_k».proof.Proof.Seams

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 25 of the body. -/
theorem part25_ok {α : Type} {Q : α → sProp 𝕄} {X : sProp 𝕄} (v2 : BitVec 32) (v5 : BitVec 32) (v8 : BitVec 32) (v10 : BitVec 32) (v11 : BitVec 32) (v12 : BitVec 32) {k : BitVec 32 → Prog (TpuEff nD τ sig (Elt F) Λ₀ .tc) α}
    (hk : ∀ r, G m κ c a26 b26 [.cp 8, .cp 18, .cp 9, .cp 19, .cp 14, .cp 24, .cp 15, .cp 25, .cp 20, .cp 21, .cp 26, .cp 27] X ⊢ (wp frame (wpE (defs₀ (F := F)) 𝒱₀ (c : Thread nD τ) none) Set.univ) (k r) Q) :
    G m κ c a25 b25 [.cp 6, .cp 16, .cp 7, .cp 17, .cp 12, .cp 22, .cp 13, .cp 23, .cp 8, .cp 18, .cp 9, .cp 19, .cp 14, .cp 24, .cp 15, .cp 25, .cp 20, .cp 21, .cp 26, .cp 27] X ⊢ (wp frame (wpE (defs₀ (F := F)) 𝒱₀ (c : Thread nD τ) none) Set.univ) (k0_part25 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v10 v11 v12 >>= k) Q := by
  simp only [k0_part25_eq_skeleton]
  unfold k0_part25_skel
  rw [wp_bind]
  simp only [Prog.lift, Prog.bind_op, Prog.bind_ret, Prog.pure_eq_ret, Prog.bind_assoc]
  refine step_if2 (R := G m κ c (put (put (put (put (put (put (put (put a25 6 1) 16 1) 6 2) 16 2) 7 1) 17 1) 7 2) 17 2) (put (put b25 4 1) 5 1) [.cp 12, .cp 22, .cp 13, .cp 23, .cp 8, .cp 18, .cp 9, .cp 19, .cp 14, .cp 24, .cp 15, .cp 25, .cp 20, .cp 21, .cp 26, .cp 27] X) (fun h => ?_) (fun h hT7 => ?_) ?_
  · have h7 := Bool.eq_false_iff.mpr fun h' => h ((cond7_iff c).mpr h')
    refine skip_mid 4 6 16 (by decide) (by decide) rfl rfl (by decide) (by decide) (by decide) h7 ?_
    refine skip_cp 6 (by decide) (ract4_false_act6_false c h7) ?_
    refine skip_cp 16 (by decide) (ract4_false_act16_false c h7) ?_
    refine skip_mid 5 7 17 (by decide) (by decide) rfl rfl (by decide) (by decide) (by decide) (ract4_false_ract5_false c h7) ?_
    refine skip_cp 7 (by decide) (ract4_false_act7_false c h7) ?_
    refine skip_cp 17 (by decide) (ract4_false_act17_false c h7) ?_
    exact .rfl
  · have h7 := (cond7_iff c).mp h
    simp only [k0_part1_eq_skeleton]; unfold k0_part1_skel
    simp only [Prog.lift, Prog.bind_op, Prog.bind_ret, Prog.pure_eq_ret, Prog.bind_assoc]
    refine step_mid 4 6 16 (by decide) (by decide) rfl rfl (by decide) (by decide) (by decide) h7 rfl rfl (by decide) ?_
    refine step_if (R := G m κ c (put (put (put a25 6 1) 16 1) 6 2) (put b25 4 1) [.cp 16, .cp 7, .cp 17, .cp 12, .cp 22, .cp 13, .cp 23, .cp 8, .cp 18, .cp 9, .cp 19, .cp 14, .cp 24, .cp 15, .cp 25, .cp 20, .cp 21, .cp 26, .cp 27] X) (fun h => ?_) (fun h => ?_) ?_
    · have h8 := Bool.eq_false_iff.mpr fun h' => h ((cond8_iff c h7).mpr h')
      refine skip_cp 6 (by decide) h8 ?_
      exact .rfl
    · have h8 := (cond8_iff c h7).mp h
      refine step_blk 6 (by decide) (by decide) h8 (dev13_peer c h8) (slice_blk (off15__blk c h8) _) (slice_blk (off15__blk c h8) _) rfl rfl ?_
      exact step_ret
    simp only [k0_part2_eq_skeleton]; unfold k0_part2_skel
    simp only [Prog.lift, Prog.bind_op, Prog.bind_ret, Prog.pure_eq_ret, Prog.bind_assoc]
    refine step_blk 16 (by decide) (by decide) (ract4_true_act16_true c h7) (dev14_peer c (ract4_true_act16_true c h7)) (slice_blk (off14_0_blk c (ract4_true_act16_true c h7)) _) (slice_blk (off14_0_blk c (ract4_true_act16_true c h7)) _) rfl rfl ?_
    refine step_mid 5 7 17 (by decide) (by decide) rfl rfl (by decide) (by decide) (by decide) (ract4_true_ract5_true c h7) rfl rfl (by decide) ?_
    refine step_if (R := G m κ c (put (put (put (put (put (put (put a25 6 1) 16 1) 6 2) 16 2) 7 1) 17 1) 7 2) (put (put b25 4 1) 5 1) [.cp 17, .cp 12, .cp 22, .cp 13, .cp 23, .cp 8, .cp 18, .cp 9, .cp 19, .cp 14, .cp 24, .cp 15, .cp 25, .cp 20, .cp 21, .cp 26, .cp 27] X) (fun h => ?_) (fun h => ?_) ?_
    · have h9 := Bool.eq_false_iff.mpr fun h' => h ((cond9_iff c h7).mpr h')
      refine skip_cp 7 (by decide) h9 ?_
      exact .rfl
    · have h9 := (cond9_iff c h7).mp h
      refine step_blk 7 (by decide) (by decide) h9 (dev15_peer c h9) (slice_blk (off16__blk c h9) _) (slice_blk (off16__blk c h9) _) rfl rfl ?_
      exact step_ret
    refine step_blk 17 (by decide) (by decide) (ract4_true_act17_true c h7) (dev16_peer c (ract4_true_act17_true c h7)) (slice_blk (off14_128_blk c (ract4_true_act17_true c h7)) _) (slice_blk (off14_128_blk c (ract4_true_act17_true c h7)) _) rfl rfl ?_
    exact hT7
  refine step_if2 (R := G m κ c (put (put (put (put (put (put (put (put (put (put (put (put (put (put (put (put a25 6 1) 16 1) 6 2) 16 2) 7 1) 17 1) 7 2) 17 2) 12 1) 22 1) 12 2) 22 2) 13 1) 23 1) 13 2) 23 2) (put (put (put (put b25 4 1) 5 1) 10 1) 11 1) [.cp 8, .cp 18, .cp 9, .cp 19, .cp 14, .cp 24, .cp 15, .cp 25, .cp 20, .cp 21, .cp 26, .cp 27] X) (fun h => ?_) (fun h hT10 => ?_) ?_
  · have h10 := Bool.eq_false_iff.mpr fun h' => h ((cond10_iff c).mpr h')
    refine skip_mid 10 12 22 (by decide) (by decide) rfl rfl (by decide) (by decide) (by decide) h10 ?_
    refine skip_cp 12 (by decide) (ract10_false_act12_false c h10) ?_
    refine skip_cp 22 (by decide) (ract10_false_act22_false c h10) ?_
    refine skip_mid 11 13 23 (by decide) (by decide) rfl rfl (by decide) (by decide) (by decide) (ract10_false_ract11_false c h10) ?_
    refine skip_cp 13 (by decide) (ract10_false_act13_false c h10) ?_
    refine skip_cp 23 (by decide) (ract10_false_act23_false c h10) ?_
    exact .rfl
  · have h10 := (cond10_iff c).mp h
    simp only [k0_part3_eq_skeleton]; unfold k0_part3_skel
    simp only [Prog.lift, Prog.bind_op, Prog.bind_ret, Prog.pure_eq_ret, Prog.bind_assoc]
    refine step_mid 10 12 22 (by decide) (by decide) rfl rfl (by decide) (by decide) (by decide) h10 rfl rfl (by decide) ?_
    refine step_if (R := G m κ c (put (put (put (put (put (put (put (put (put (put (put a25 6 1) 16 1) 6 2) 16 2) 7 1) 17 1) 7 2) 17 2) 12 1) 22 1) 12 2) (put (put (put b25 4 1) 5 1) 10 1) [.cp 22, .cp 13, .cp 23, .cp 8, .cp 18, .cp 9, .cp 19, .cp 14, .cp 24, .cp 15, .cp 25, .cp 20, .cp 21, .cp 26, .cp 27] X) (fun h => ?_) (fun h => ?_) ?_
    · have h11 := Bool.eq_false_iff.mpr fun h' => h ((cond11_iff c h10).mpr h')
      refine skip_cp 12 (by decide) h11 ?_
      exact .rfl
    · have h11 := (cond11_iff c h10).mp h
      refine step_blk 12 (by decide) (by decide) h11 (dev17_peer c h11) (slice_blk (off18__blk c h11) _) (slice_blk (off18__blk c h11) _) rfl rfl ?_
      exact step_ret
    simp only [k0_part4_eq_skeleton]; unfold k0_part4_skel
    simp only [Prog.lift, Prog.bind_op, Prog.bind_ret, Prog.pure_eq_ret, Prog.bind_assoc]
    refine step_blk 22 (by decide) (by decide) (ract10_true_act22_true c h10) (dev18_peer c (ract10_true_act22_true c h10)) (slice_blk (off17_0_blk c (ract10_true_act22_true c h10)) _) (slice_blk (off17_0_blk c (ract10_true_act22_true c h10)) _) rfl rfl ?_
    refine step_mid 11 13 23 (by decide) (by decide) rfl rfl (by decide) (by decide) (by decide) (ract10_true_ract11_true c h10) rfl rfl (by decide) ?_
    refine step_if (R := G m κ c (put (put (put (put (put (put (put (put (put (put (put (put (put (put (put a25 6 1) 16 1) 6 2) 16 2) 7 1) 17 1) 7 2) 17 2) 12 1) 22 1) 12 2) 22 2) 13 1) 23 1) 13 2) (put (put (put (put b25 4 1) 5 1) 10 1) 11 1) [.cp 23, .cp 8, .cp 18, .cp 9, .cp 19, .cp 14, .cp 24, .cp 15, .cp 25, .cp 20, .cp 21, .cp 26, .cp 27] X) (fun h => ?_) (fun h => ?_) ?_
    · have h12 := Bool.eq_false_iff.mpr fun h' => h ((cond12_iff c h10).mpr h')
      refine skip_cp 13 (by decide) h12 ?_
      exact .rfl
    · have h12 := (cond12_iff c h10).mp h
      refine step_blk 13 (by decide) (by decide) h12 (dev19_peer c h12) (slice_blk (off19__blk c h12) _) (slice_blk (off19__blk c h12) _) rfl rfl ?_
      exact step_ret
    refine step_blk 23 (by decide) (by decide) (ract10_true_act23_true c h10) (dev20_peer c (ract10_true_act23_true c h10)) (slice_blk (off17_128_blk c (ract10_true_act23_true c h10)) _) (slice_blk (off17_128_blk c (ract10_true_act23_true c h10)) _) rfl rfl ?_
    exact hT10
  refine step_arr 2 (by decide) (by decide) (ract2_all c) rfl rfl (by decide) ?_
  exact step_fin (conv (by decide) (by decide) (hk _))

end Cert.Embed

end
-- ==== Proof.Part26.lean ====
/-
  Part 26 of the body: copies and waits.
-/
module

public import proofs.«01_k».proof.Proof.Seams

@[expose] public section

set_option maxRecDepth 65536
set_option maxHeartbeats 20000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 26 of the body. -/
theorem part26_ok {α : Type} {Q : α → sProp 𝕄} {X : sProp 𝕄} (v2 : BitVec 32) (v5 : BitVec 32) (v8 : BitVec 32) (v10 : BitVec 32) (v11 : BitVec 32) (v12 : BitVec 32) (c8 : BitVec 32) {k : (Σ' (_ : BitVec 32), BitVec 1) → Prog (TpuEff nD τ sig (Elt F) Λ₀ .tc) α}
    (hk : ∀ r, G m κ c a27 b27 [.cp 26, .cp 27] X ⊢ (wp frame (wpE (defs₀ (F := F)) 𝒱₀ (c : Thread nD τ) none) Set.univ) (k r) Q) :
    G m κ c a26 b26 [.cp 8, .cp 18, .cp 9, .cp 19, .cp 14, .cp 24, .cp 15, .cp 25, .cp 20, .cp 21, .cp 26, .cp 27] X ⊢ (wp frame (wpE (defs₀ (F := F)) 𝒱₀ (c : Thread nD τ) none) Set.univ) (k0_part26 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v10 v11 v12 c8 >>= k) Q := by
  simp only [k0_part26_eq_skeleton]
  unfold k0_part26_skel
  rw [wp_bind]
  simp only [Prog.lift, Prog.bind_op, Prog.bind_ret, Prog.pure_eq_ret, Prog.bind_assoc]
  refine step_arr 3 (by decide) (by decide) (ract3_all c) rfl rfl (by decide) ?_
  refine step_if2 (R := G m κ c (put (put (put (put (put (put (put (put a26 8 1) 18 1) 8 2) 18 2) 9 1) 19 1) 9 2) 19 2) (put (put (put b26 3 1) 6 1) 7 1) [.cp 14, .cp 24, .cp 15, .cp 25, .cp 20, .cp 21, .cp 26, .cp 27] X) (fun h => ?_) (fun h hT13 => ?_) ?_
  · have h13 := Bool.eq_false_iff.mpr fun h' => h ((cond13_iff c).mpr h')
    refine skip_mid 6 8 18 (by decide) (by decide) rfl rfl (by decide) (by decide) (by decide) h13 ?_
    refine skip_cp 8 (by decide) (ract6_false_act8_false c h13) ?_
    refine skip_cp 18 (by decide) (ract6_false_act18_false c h13) ?_
    refine skip_mid 7 9 19 (by decide) (by decide) rfl rfl (by decide) (by decide) (by decide) (ract6_false_ract7_false c h13) ?_
    refine skip_cp 9 (by decide) (ract6_false_act9_false c h13) ?_
    refine skip_cp 19 (by decide) (ract6_false_act19_false c h13) ?_
    exact .rfl
  · have h13 := (cond13_iff c).mp h
    simp only [k0_part5_eq_skeleton]; unfold k0_part5_skel
    simp only [Prog.lift, Prog.bind_op, Prog.bind_ret, Prog.pure_eq_ret, Prog.bind_assoc]
    refine step_mid 6 8 18 (by decide) (by decide) rfl rfl (by decide) (by decide) (by decide) h13 rfl rfl (by decide) ?_
    refine step_if (R := G m κ c (put (put (put a26 8 1) 18 1) 8 2) (put (put b26 3 1) 6 1) [.cp 18, .cp 9, .cp 19, .cp 14, .cp 24, .cp 15, .cp 25, .cp 20, .cp 21, .cp 26, .cp 27] X) (fun h => ?_) (fun h => ?_) ?_
    · have h14 := Bool.eq_false_iff.mpr fun h' => h ((cond14_iff c h13).mpr h')
      refine skip_cp 8 (by decide) h14 ?_
      exact .rfl
    · have h14 := (cond14_iff c h13).mp h
      refine step_blk 8 (by decide) (by decide) h14 (dev21_peer c h14) (slice_blk (off22__blk c h14) _) (slice_blk (off22__blk c h14) _) rfl rfl ?_
      exact step_ret
    simp only [k0_part6_eq_skeleton]; unfold k0_part6_skel
    simp only [Prog.lift, Prog.bind_op, Prog.bind_ret, Prog.pure_eq_ret, Prog.bind_assoc]
    refine step_blk 18 (by decide) (by decide) (ract6_true_act18_true c h13) (dev22_peer c (ract6_true_act18_true c h13)) (slice_blk (off21_0_blk c (ract6_true_act18_true c h13)) _) (slice_blk (off21_0_blk c (ract6_true_act18_true c h13)) _) rfl rfl ?_
    refine step_mid 7 9 19 (by decide) (by decide) rfl rfl (by decide) (by decide) (by decide) (ract6_true_ract7_true c h13) rfl rfl (by decide) ?_
    refine step_if (R := G m κ c (put (put (put (put (put (put (put a26 8 1) 18 1) 8 2) 18 2) 9 1) 19 1) 9 2) (put (put (put b26 3 1) 6 1) 7 1) [.cp 19, .cp 14, .cp 24, .cp 15, .cp 25, .cp 20, .cp 21, .cp 26, .cp 27] X) (fun h => ?_) (fun h => ?_) ?_
    · have h15 := Bool.eq_false_iff.mpr fun h' => h ((cond15_iff c h13).mpr h')
      refine skip_cp 9 (by decide) h15 ?_
      exact .rfl
    · have h15 := (cond15_iff c h13).mp h
      refine step_blk 9 (by decide) (by decide) h15 (dev23_peer c h15) (slice_blk (off23__blk c h15) _) (slice_blk (off23__blk c h15) _) rfl rfl ?_
      exact step_ret
    refine step_blk 19 (by decide) (by decide) (ract6_true_act19_true c h13) (dev24_peer c (ract6_true_act19_true c h13)) (slice_blk (off21_128_blk c (ract6_true_act19_true c h13)) _) (slice_blk (off21_128_blk c (ract6_true_act19_true c h13)) _) rfl rfl ?_
    exact hT13
  refine step_if2 (R := G m κ c (put (put (put (put (put (put (put (put (put (put (put (put (put (put (put (put a26 8 1) 18 1) 8 2) 18 2) 9 1) 19 1) 9 2) 19 2) 14 1) 24 1) 14 2) 24 2) 15 1) 25 1) 15 2) 25 2) (put (put (put (put (put b26 3 1) 6 1) 7 1) 12 1) 13 1) [.cp 20, .cp 21, .cp 26, .cp 27] X) (fun h => ?_) (fun h hT16 => ?_) ?_
  · have h16 := Bool.eq_false_iff.mpr fun h' => h ((cond16_iff c).mpr h')
    refine skip_mid 12 14 24 (by decide) (by decide) rfl rfl (by decide) (by decide) (by decide) h16 ?_
    refine skip_cp 14 (by decide) (ract12_false_act14_false c h16) ?_
    refine skip_cp 24 (by decide) (ract12_false_act24_false c h16) ?_
    refine skip_mid 13 15 25 (by decide) (by decide) rfl rfl (by decide) (by decide) (by decide) (ract12_false_ract13_false c h16) ?_
    refine skip_cp 15 (by decide) (ract12_false_act15_false c h16) ?_
    refine skip_cp 25 (by decide) (ract12_false_act25_false c h16) ?_
    exact .rfl
  · have h16 := (cond16_iff c).mp h
    simp only [k0_part7_eq_skeleton]; unfold k0_part7_skel
    simp only [Prog.lift, Prog.bind_op, Prog.bind_ret, Prog.pure_eq_ret, Prog.bind_assoc]
    refine step_mid 12 14 24 (by decide) (by decide) rfl rfl (by decide) (by decide) (by decide) h16 rfl rfl (by decide) ?_
    refine step_if (R := G m κ c (put (put (put (put (put (put (put (put (put (put (put a26 8 1) 18 1) 8 2) 18 2) 9 1) 19 1) 9 2) 19 2) 14 1) 24 1) 14 2) (put (put (put (put b26 3 1) 6 1) 7 1) 12 1) [.cp 24, .cp 15, .cp 25, .cp 20, .cp 21, .cp 26, .cp 27] X) (fun h => ?_) (fun h => ?_) ?_
    · have h17 := Bool.eq_false_iff.mpr fun h' => h ((cond17_iff c h16).mpr h')
      refine skip_cp 14 (by decide) h17 ?_
      exact .rfl
    · have h17 := (cond17_iff c h16).mp h
      refine step_blk 14 (by decide) (by decide) h17 (dev25_peer c h17) (slice_blk (off25__blk c h17) _) (slice_blk (off25__blk c h17) _) rfl rfl ?_
      exact step_ret
    simp only [k0_part8_eq_skeleton]; unfold k0_part8_skel
    simp only [Prog.lift, Prog.bind_op, Prog.bind_ret, Prog.pure_eq_ret, Prog.bind_assoc]
    refine step_blk 24 (by decide) (by decide) (ract12_true_act24_true c h16) (dev26_peer c (ract12_true_act24_true c h16)) (slice_blk (off24_0_blk c (ract12_true_act24_true c h16)) _) (slice_blk (off24_0_blk c (ract12_true_act24_true c h16)) _) rfl rfl ?_
    refine step_mid 13 15 25 (by decide) (by decide) rfl rfl (by decide) (by decide) (by decide) (ract12_true_ract13_true c h16) rfl rfl (by decide) ?_
    refine step_if (R := G m κ c (put (put (put (put (put (put (put (put (put (put (put (put (put (put (put a26 8 1) 18 1) 8 2) 18 2) 9 1) 19 1) 9 2) 19 2) 14 1) 24 1) 14 2) 24 2) 15 1) 25 1) 15 2) (put (put (put (put (put b26 3 1) 6 1) 7 1) 12 1) 13 1) [.cp 25, .cp 20, .cp 21, .cp 26, .cp 27] X) (fun h => ?_) (fun h => ?_) ?_
    · have h18 := Bool.eq_false_iff.mpr fun h' => h ((cond18_iff c h16).mpr h')
      refine skip_cp 15 (by decide) h18 ?_
      exact .rfl
    · have h18 := (cond18_iff c h16).mp h
      refine step_blk 15 (by decide) (by decide) h18 (dev27_peer c h18) (slice_blk (off26__blk c h18) _) (slice_blk (off26__blk c h18) _) rfl rfl ?_
      exact step_ret
    refine step_blk 25 (by decide) (by decide) (ract12_true_act25_true c h16) (dev28_peer c (ract12_true_act25_true c h16)) (slice_blk (off24_128_blk c (ract12_true_act25_true c h16)) _) (slice_blk (off24_128_blk c (ract12_true_act25_true c h16)) _) rfl rfl ?_
    exact hT16
  refine step_if2 (R := G m κ c (put (put (put (put (put (put (put (put (put (put (put (put (put (put (put (put a26 8 1) 18 1) 8 2) 18 2) 9 1) 19 1) 9 2) 19 2) 14 1) 24 1) 14 2) 24 2) 15 1) 25 1) 15 2) 25 2) (put (put (put (put (put (put (put b26 3 1) 6 1) 7 1) 12 1) 13 1) 16 1) 17 1) [.cp 20, .cp 21, .cp 26, .cp 27] X) (fun h => ?_) (fun h hT19 => ?_) ?_
  · have h19 := Bool.eq_false_iff.mpr fun h' => h ((cond19_iff c).mpr h')
    refine skip_arr 16 (by decide) h19 ?_
    refine skip_arr 17 (by decide) (ract16_false_ract17_false c h19) ?_
    exact .rfl
  · have h19 := (cond19_iff c).mp h
    simp only [k0_part9_eq_skeleton]; unfold k0_part9_skel
    simp only [Prog.lift, Prog.bind_op, Prog.bind_ret, Prog.pure_eq_ret, Prog.bind_assoc]
    refine step_arr 16 (by decide) (by decide) h19 rfl rfl (by decide) ?_
    refine step_arr 17 (by decide) (by decide) (ract16_true_ract17_true c h19) rfl rfl (by decide) ?_
    exact hT19
  refine step_if2 (R := G m κ c (put (put (put (put (put (put (put (put (put (put (put (put (put (put (put (put a26 8 1) 18 1) 8 2) 18 2) 9 1) 19 1) 9 2) 19 2) 14 1) 24 1) 14 2) 24 2) 15 1) 25 1) 15 2) 25 2) (put (put (put (put (put (put (put (put (put b26 3 1) 6 1) 7 1) 12 1) 13 1) 16 1) 17 1) 22 1) 23 1) [.cp 20, .cp 21, .cp 26, .cp 27] X) (fun h => ?_) (fun h hT20 => ?_) ?_
  · have h20 := Bool.eq_false_iff.mpr fun h' => h ((cond20_iff c).mpr h')
    refine skip_arr 22 (by decide) h20 ?_
    refine skip_arr 23 (by decide) (ract22_false_ract23_false c h20) ?_
    exact .rfl
  · have h20 := (cond20_iff c).mp h
    simp only [k0_part10_eq_skeleton]; unfold k0_part10_skel
    simp only [Prog.lift, Prog.bind_op, Prog.bind_ret, Prog.pure_eq_ret, Prog.bind_assoc]
    refine step_arr 22 (by decide) (by decide) h20 rfl rfl (by decide) ?_
    refine step_arr 23 (by decide) (by decide) (ract22_true_ract23_true c h20) rfl rfl (by decide) ?_
    exact hT20
  refine step_if2 (R := G m κ c (put (put (put (put (put (put (put (put (put (put (put (put (put (put (put (put (put (put (put (put a26 8 1) 18 1) 8 2) 18 2) 9 1) 19 1) 9 2) 19 2) 14 1) 24 1) 14 2) 24 2) 15 1) 25 1) 15 2) 25 2) 20 1) 20 2) 21 1) 21 2) (put (put (put (put (put (put (put (put (put (put (put b26 3 1) 6 1) 7 1) 12 1) 13 1) 16 1) 17 1) 22 1) 23 1) 8 1) 9 1) [.cp 26, .cp 27] X) (fun h => ?_) (fun h hT21 => ?_) ?_
  · have h21 := Bool.eq_false_iff.mpr fun h' => h ((cond21_iff c).mpr h')
    refine skip_end 8 20 (by decide) rfl (by decide) (by decide) h21 ?_
    refine skip_cp 20 (by decide) (ract8_false_act20_false c h21) ?_
    refine skip_end 9 21 (by decide) rfl (by decide) (by decide) (ract8_false_ract9_false c h21) ?_
    refine skip_cp 21 (by decide) (ract8_false_act21_false c h21) ?_
    exact .rfl
  · have h21 := (cond21_iff c).mp h
    simp only [k0_part11_eq_skeleton]; unfold k0_part11_skel
    simp only [Prog.lift, Prog.bind_op, Prog.bind_ret, Prog.pure_eq_ret, Prog.bind_assoc]
    refine step_end 8 20 (by decide) (by decide) rfl (by decide) (by decide) h21 rfl rfl (by decide) ?_
    refine step_if (R := G m κ c (put (put (put (put (put (put (put (put (put (put (put (put (put (put (put (put (put a26 8 1) 18 1) 8 2) 18 2) 9 1) 19 1) 9 2) 19 2) 14 1) 24 1) 14 2) 24 2) 15 1) 25 1) 15 2) 25 2) 20 1) (put (put (put (put (put (put (put (put (put (put b26 3 1) 6 1) 7 1) 12 1) 13 1) 16 1) 17 1) 22 1) 23 1) 8 1) [.cp 20, .cp 21, .cp 26, .cp 27] X) (fun _ => .rfl) (fun h => absurd h (cond22_no c h21)) ?_
    simp only [k0_part12_eq_skeleton]; unfold k0_part12_skel
    simp only [Prog.lift, Prog.bind_op, Prog.bind_ret, Prog.pure_eq_ret, Prog.bind_assoc]
    refine step_blk 20 (by decide) (by decide) (ract8_true_act20_true c h21) (dev30_peer c (ract8_true_act20_true c h21)) (slice_blk (off29_0_blk c (ract8_true_act20_true c h21)) _) (slice_blk (off29_0_blk c (ract8_true_act20_true c h21)) _) rfl rfl ?_
    refine step_end 9 21 (by decide) (by decide) rfl (by decide) (by decide) (ract8_true_ract9_true c h21) rfl rfl (by decide) ?_
    refine step_if (R := G m κ c (put (put (put (put (put (put (put (put (put (put (put (put (put (put (put (put (put (put (put a26 8 1) 18 1) 8 2) 18 2) 9 1) 19 1) 9 2) 19 2) 14 1) 24 1) 14 2) 24 2) 15 1) 25 1) 15 2) 25 2) 20 1) 20 2) 21 1) (put (put (put (put (put (put (put (put (put (put (put b26 3 1) 6 1) 7 1) 12 1) 13 1) 16 1) 17 1) 22 1) 23 1) 8 1) 9 1) [.cp 21, .cp 26, .cp 27] X) (fun _ => .rfl) (fun h => absurd h (cond23_no c h21)) ?_
    refine step_blk 21 (by decide) (by decide) (ract8_true_act21_true c h21) (dev32_peer c (ract8_true_act21_true c h21)) (slice_blk (off29_128_blk c (ract8_true_act21_true c h21)) _) (slice_blk (off29_128_blk c (ract8_true_act21_true c h21)) _) rfl rfl ?_
    exact hT21
  exact step_fin (conv (by decide) (by decide) (hk _))

end Cert.Embed

end
-- ==== Proof.Part27.lean ====
/-
  Part 27 of the body: copies and waits.
-/
module

public import proofs.«01_k».proof.Proof.Seams

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 27 of the body. -/
theorem part27_ok {α : Type} {Q : α → sProp 𝕄} {X : sProp 𝕄} (v2 : BitVec 32) (v5 : BitVec 32) (v8 : BitVec 32) (v10 : BitVec 32) (v11 : BitVec 32) (v12 : BitVec 32) (v245 : BitVec 32) (v246 : BitVec 1) {k : PUnit → Prog (TpuEff nD τ sig (Elt F) Λ₀ .tc) α}
    (hk : ∀ r, G m κ c a28 b28 [] X ⊢ (wp frame (wpE (defs₀ (F := F)) 𝒱₀ (c : Thread nD τ) none) Set.univ) (k r) Q) :
    G m κ c a27 b27 [.cp 26, .cp 27] X ⊢ (wp frame (wpE (defs₀ (F := F)) 𝒱₀ (c : Thread nD τ) none) Set.univ) (k0_part27 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v5 v8 v10 v11 v12 v245 v246 >>= k) Q := by
  simp only [k0_part27_eq_skeleton]
  unfold k0_part27_skel
  rw [wp_bind]
  simp only [Prog.lift, Prog.bind_op, Prog.bind_ret, Prog.pure_eq_ret, Prog.bind_assoc]
  refine step_if2 (R := G m κ c (put (put (put (put a27 26 1) 26 2) 27 1) 27 2) (put (put b27 14 1) 15 1) [] X) (fun h => ?_) (fun h hT24 => ?_) ?_
  · have h24 := Bool.eq_false_iff.mpr fun h' => h ((cond24_iff c).mpr h')
    refine skip_end 14 26 (by decide) rfl (by decide) (by decide) h24 ?_
    refine skip_cp 26 (by decide) (ract14_false_act26_false c h24) ?_
    refine skip_end 15 27 (by decide) rfl (by decide) (by decide) (ract14_false_ract15_false c h24) ?_
    refine skip_cp 27 (by decide) (ract14_false_act27_false c h24) ?_
    exact .rfl
  · have h24 := (cond24_iff c).mp h
    simp only [k0_part13_eq_skeleton]; unfold k0_part13_skel
    simp only [Prog.lift, Prog.bind_op, Prog.bind_ret, Prog.pure_eq_ret, Prog.bind_assoc]
    refine step_end 14 26 (by decide) (by decide) rfl (by decide) (by decide) h24 rfl rfl (by decide) ?_
    refine step_if (R := G m κ c (put a27 26 1) (put b27 14 1) [.cp 26, .cp 27] X) (fun _ => .rfl) (fun h => absurd h (cond25_no c h24)) ?_
    simp only [k0_part14_eq_skeleton]; unfold k0_part14_skel
    simp only [Prog.lift, Prog.bind_op, Prog.bind_ret, Prog.pure_eq_ret, Prog.bind_assoc]
    refine step_blk 26 (by decide) (by decide) (ract14_true_act26_true c h24) (dev34_peer c (ract14_true_act26_true c h24)) (slice_blk (off32_0_blk c (ract14_true_act26_true c h24)) _) (slice_blk (off32_0_blk c (ract14_true_act26_true c h24)) _) rfl rfl ?_
    refine step_end 15 27 (by decide) (by decide) rfl (by decide) (by decide) (ract14_true_ract15_true c h24) rfl rfl (by decide) ?_
    refine step_if (R := G m κ c (put (put (put a27 26 1) 26 2) 27 1) (put (put b27 14 1) 15 1) [.cp 27] X) (fun _ => .rfl) (fun h => absurd h (cond26_no c h24)) ?_
    refine step_blk 27 (by decide) (by decide) (ract14_true_act27_true c h24) (dev36_peer c (ract14_true_act27_true c h24)) (slice_blk (off32_128_blk c (ract14_true_act27_true c h24)) _) (slice_blk (off32_128_blk c (ract14_true_act27_true c h24)) _) rfl rfl ?_
    exact hT24
  refine step_if2 (R := G m κ c (put (put (put (put a27 26 1) 26 2) 27 1) 27 2) (put (put (put (put b27 14 1) 15 1) 18 1) 19 1) [] X) (fun h => ?_) (fun h hT27 => ?_) ?_
  · have h27 := Bool.eq_false_iff.mpr fun h' => h ((cond27_iff c).mpr h')
    refine skip_arr 18 (by decide) h27 ?_
    refine skip_arr 19 (by decide) (ract18_false_ract19_false c h27) ?_
    exact .rfl
  · have h27 := (cond27_iff c).mp h
    simp only [k0_part15_eq_skeleton]; unfold k0_part15_skel
    simp only [Prog.lift, Prog.bind_op, Prog.bind_ret, Prog.pure_eq_ret, Prog.bind_assoc]
    refine step_arr 18 (by decide) (by decide) h27 rfl rfl (by decide) ?_
    refine step_arr 19 (by decide) (by decide) (ract18_true_ract19_true c h27) rfl rfl (by decide) ?_
    exact hT27
  refine step_if2 (R := G m κ c (put (put (put (put a27 26 1) 26 2) 27 1) 27 2) (put (put (put (put (put (put b27 14 1) 15 1) 18 1) 19 1) 24 1) 25 1) [] X) (fun h => ?_) (fun h hT28 => ?_) ?_
  · have h28 := Bool.eq_false_iff.mpr fun h' => h ((cond28_iff c).mpr h')
    refine skip_arr 24 (by decide) h28 ?_
    refine skip_arr 25 (by decide) (ract24_false_ract25_false c h28) ?_
    exact .rfl
  · have h28 := (cond28_iff c).mp h
    simp only [k0_part16_eq_skeleton]; unfold k0_part16_skel
    simp only [Prog.lift, Prog.bind_op, Prog.bind_ret, Prog.pure_eq_ret, Prog.bind_assoc]
    refine step_arr 24 (by decide) (by decide) h28 rfl rfl (by decide) ?_
    refine step_arr 25 (by decide) (by decide) (ract24_true_ract25_true c h28) rfl rfl (by decide) ?_
    exact hT28
  refine step_if2 (R := G m κ c (put (put (put (put a27 26 1) 26 2) 27 1) 27 2) (put (put (put (put (put (put (put (put b27 14 1) 15 1) 18 1) 19 1) 24 1) 25 1) 20 1) 21 1) [] X) (fun h => ?_) (fun h hT29 => ?_) ?_
  · have h29 := Bool.eq_false_iff.mpr fun h' => h ((cond29_iff c).mpr h')
    refine skip_arr 20 (by decide) h29 ?_
    refine skip_arr 21 (by decide) (ract20_false_ract21_false c h29) ?_
    exact .rfl
  · have h29 := (cond29_iff c).mp h
    simp only [k0_part17_eq_skeleton]; unfold k0_part17_skel
    simp only [Prog.lift, Prog.bind_op, Prog.bind_ret, Prog.pure_eq_ret, Prog.bind_assoc]
    refine step_arr 20 (by decide) (by decide) h29 rfl rfl (by decide) ?_
    refine step_arr 21 (by decide) (by decide) (ract20_true_ract21_true c h29) rfl rfl (by decide) ?_
    exact hT29
  refine step_if2 (R := G m κ c (put (put (put (put a27 26 1) 26 2) 27 1) 27 2) (put (put (put (put (put (put (put (put (put (put b27 14 1) 15 1) 18 1) 19 1) 24 1) 25 1) 20 1) 21 1) 26 1) 27 1) [] X) (fun h => ?_) (fun h hT30 => ?_) ?_
  · have h30 := Bool.eq_false_iff.mpr fun h' => h ((cond30_iff c).mpr h')
    refine skip_arr 26 (by decide) h30 ?_
    refine skip_arr 27 (by decide) (ract26_false_ract27_false c h30) ?_
    exact .rfl
  · have h30 := (cond30_iff c).mp h
    simp only [k0_part18_eq_skeleton]; unfold k0_part18_skel
    simp only [Prog.lift, Prog.bind_op, Prog.bind_ret, Prog.pure_eq_ret, Prog.bind_assoc]
    refine step_arr 26 (by decide) (by decide) h30 rfl rfl (by decide) ?_
    refine step_arr 27 (by decide) (by decide) (ract26_true_ract27_true c h30) rfl rfl (by decide) ?_
    exact hT30
  refine step_left 0 (by decide) (act0_all c) rfl rfl ?_
  exact step_fin (conv (by decide) (by decide) (hk _))

end Cert.Embed

end
-- ==== Proof.Part28.lean ====
/-
  Part 28 of the body: copies and waits.
-/
module

public import proofs.«01_k».proof.Proof.Seams

@[expose] public section

set_option maxRecDepth 65536
set_option maxHeartbeats 4000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- Part 28 of the body. -/
theorem part28_ok {α : Type} {Q : α → sProp 𝕄} {X : sProp 𝕄} (v2 : BitVec 32) (v8 : BitVec 32) {k : BitVec 32 → Prog (TpuEff nD τ sig (Elt F) Λ₀ .tc) α}
    (hk : ∀ r, G m κ c a29 b29 [] X ⊢ (wp frame (wpE (defs₀ (F := F)) 𝒱₀ (c : Thread nD τ) none) Set.univ) (k r) Q) :
    G m κ c a28 b28 [] X ⊢ (wp frame (wpE (defs₀ (F := F)) 𝒱₀ (c : Thread nD τ) none) Set.univ) (k0_part28 (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 c v2 v8 >>= k) Q := by
  simp only [k0_part28_eq_skeleton]
  unfold k0_part28_skel
  rw [wp_bind]
  simp only [Prog.lift, Prog.bind_op, Prog.bind_ret, Prog.pure_eq_ret, Prog.bind_assoc]
  refine step_left 2 (by decide) (act2_all c) rfl rfl ?_
  refine step_left 1 (by decide) (act1_all c) rfl rfl ?_
  refine step_left 3 (by decide) (act3_all c) rfl rfl ?_
  refine step_if2 (R := G m κ c (put (put (put (put (put a28 2 3) 1 3) 3 3) 4 3) 5 3) b28 [] X) (fun h => ?_) (fun h hT31 => ?_) ?_
  · have h31 := Bool.eq_false_iff.mpr fun h' => h ((cond31_iff c).mpr h')
    refine skip_left 4 (by decide) h31 ?_
    refine skip_left 5 (by decide) (act4_false_act5_false c h31) ?_
    exact .rfl
  · have h31 := (cond31_iff c).mp h
    refine step_left 4 (by decide) h31 rfl rfl ?_
    refine step_left 5 (by decide) (act4_true_act5_true c h31) rfl rfl ?_
    exact hT31
  refine step_if2 (R := G m κ c (put (put (put (put (put (put (put a28 2 3) 1 3) 3 3) 4 3) 5 3) 10 3) 11 3) b28 [] X) (fun h => ?_) (fun h hT32 => ?_) ?_
  · have h32 := Bool.eq_false_iff.mpr fun h' => h ((cond32_iff c).mpr h')
    refine skip_left 10 (by decide) h32 ?_
    refine skip_left 11 (by decide) (act10_false_act11_false c h32) ?_
    exact .rfl
  · have h32 := (cond32_iff c).mp h
    refine step_left 10 (by decide) h32 rfl rfl ?_
    refine step_left 11 (by decide) (act10_true_act11_true c h32) rfl rfl ?_
    exact hT32
  refine step_if2 (R := G m κ c (put (put (put (put (put (put (put (put (put (put (put a28 2 3) 1 3) 3 3) 4 3) 5 3) 10 3) 11 3) 6 3) 7 3) 16 3) 17 3) b28 [] X) (fun h => ?_) (fun h hT33 => ?_) ?_
  · have h33 := Bool.eq_false_iff.mpr fun h' => h ((cond33_iff c).mpr h')
    refine skip_left 6 (by decide) (act16_false_act6_false c h33) ?_
    refine skip_left 7 (by decide) (act16_false_act7_false c h33) ?_
    refine skip_left 16 (by decide) h33 ?_
    refine skip_left 17 (by decide) (act16_false_act17_false c h33) ?_
    exact .rfl
  · have h33 := (cond33_iff c).mp h
    refine step_if2 (R := G m κ c (put (put (put (put (put (put (put (put (put a28 2 3) 1 3) 3 3) 4 3) 5 3) 10 3) 11 3) 6 3) 7 3) b28 [] X) (fun h => ?_) (fun h hT34 => ?_) ?_
    · have h34 := Bool.eq_false_iff.mpr fun h' => h ((cond34_iff c h33).mpr h')
      refine skip_left 6 (by decide) h34 ?_
      refine skip_left 7 (by decide) (act6_false_act7_false c h34) ?_
      exact .rfl
    · have h34 := (cond34_iff c h33).mp h
      refine step_left 6 (by decide) h34 rfl rfl ?_
      refine step_left 7 (by decide) (act6_true_act7_true c h34) rfl rfl ?_
      exact hT34
    refine step_left 16 (by decide) h33 rfl rfl ?_
    refine step_left 17 (by decide) (act16_true_act17_true c h33) rfl rfl ?_
    exact hT33
  exact step_fin (conv (by decide) (by decide) (hk _))

end Cert.Embed

end
-- ==== Proof.Ends.lean ====
/-
    Between a device's whole buffers and the pieces its body works on.
-/
module

public import proofs.«01_k».proof.Proof.Blocks
public import proofs.«01_k».proof.Proof.Barrier
public import Idealize.ShloMosaic.Lib.Ring

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

def a30 : Cp → ℕ := fun _ => 3
def b30 : Cp → ℕ := fun _ => 1

/-- The memory of a device that the body works on besides the exchange's own, before and after. -/
def before (m : (ℓ : Loc nD τ sig) → Buf (Elt F) ℓ) (c : Dev nD) (f : S2x128x1024.Idx → Elt F .f32) (g : S256x1024.Idx → Elt F .bf16) (h : S2048x1024.Idx → Elt F .bf16) (X : sProp 𝕄) : sProp 𝕄 :=
  iprop(idsP m c ∗ embP m c ∗ stHalf c 0 f ∗ semVal ((c : Thread nD τ), .dma (gS 0)) 0 ∗ pPts c 0 fullShare g
    ∗ stHalf c 1 f ∗ semVal ((c : Thread nD τ), .dma (gS 1)) 0 ∗ pPts c 1 fullShare g
    ∗ maskP m c ∗ bPts c (blkOf c ⟨2 + (0 : Fin 2).val, by decide⟩) fullShare h ∗ bPts c (blkOf c ⟨2 + (1 : Fin 2).val, by decide⟩) fullShare h ∗ X)
def after (m : (ℓ : Loc nD τ sig) → Buf (Elt F) ℓ) (c : Dev nD) (X : sProp 𝕄) : sProp 𝕄 :=
  iprop(maskP m c ∗ pPts c 1 fullShare.right (partv m c) ∗ pPts c 0 fullShare.right (partv m c) ∗ stHalf c 1 (gv m c) ∗ idsP m c ∗ embP m c
    ∗ semVal ((c : Thread nD τ), .dma (gS 1)) 0 ∗ stHalf c 0 (gv m c) ∗ semVal ((c : Thread nD τ), .dma (gS 0)) 0 ∗ atPos ER (barCell c) 1 ∅ 0 ∗ X)

/-! ## Whole buffers in pieces -/

theorem part_set (k : Fin 2) : (partM k).view.set = (Rect.unit (s := S256x1024) ![128 * k.val, 0] S128x1024.size (hf_inb k)).set := View.set_slice_whole _ _
theorem y_set (k : Fin 2) : (yM k).view.set = (Rect.unit (s := S256x1024) ![128 * k.val, 0] S128x1024.size (hf_inb k)).set := View.set_slice_whole _ _
theorem blk_set (b : Fin 16) : (blkM b).view.set = (Rect.unit (s := S2048x1024) ![128 * b.val, 0] S128x1024.size (blk_inb b)).set := View.set_slice_whole _ _

theorem lone {n : ℕ} : ∀ a : Fin (⟨2, ![n, 1024]⟩ : Shape).rank, a ≠ 0 → ∀ o : ℕ, (![o, 0] : Fin 2 → ℕ) a = 0
  | ⟨0, _⟩, h, _ => absurd rfl h
  | ⟨1, _⟩, _, _ => rfl
theorem lsz {n : ℕ} : ∀ a : Fin (⟨2, ![n, 1024]⟩ : Shape).rank, a ≠ 0 → S128x1024.size a = (⟨2, ![n, 1024]⟩ : Shape).size a
  | ⟨0, _⟩, h => absurd rfl h
  | ⟨1, _⟩, _ => rfl
theorem half_sets_disjoint (k k' : Fin 2) (h : k ≠ k') : Disjoint (Rect.unit (s := S256x1024) ![128 * k.val, 0] S128x1024.size (hf_inb k)).set
    (Rect.unit (s := S256x1024) ![128 * k'.val, 0] S128x1024.size (hf_inb k')).set :=
  Ring.lead_disjoint (s := S256x1024) (NB := 2) (0 : Fin 2) 128 (fun k a => (![128 * k.val, 0] : Fin 2 → ℕ) a) S128x1024.size hf_inb (fun _ => rfl) rfl k k' h
theorem half_sets_cover : Finset.univ.biUnion (fun k : Fin 2 => (Rect.unit (s := S256x1024) ![128 * k.val, 0] S128x1024.size (hf_inb k)).set) = Finset.univ :=
  Ring.lead_cover (s := S256x1024) (NB := 2) (0 : Fin 2) 128 (fun k a => (![128 * k.val, 0] : Fin 2 → ℕ) a) S128x1024.size hf_inb (fun _ => rfl)
    (fun b a h => lone a h _) rfl lsz rfl

theorem part_whole (c : Dev nD) (g : S256x1024.Idx → Elt F .bf16) :
    ((c : Thread nD τ).loc cc0_scratch0 ↦[Finset.univ]{fullShare} g : sProp 𝕄) = iprop(pPts c 0 fullShare g ∗ pPts c 1 fullShare g) := by
  rw [show ((c : Thread nD τ).loc cc0_scratch0 ↦[Finset.univ]{fullShare} g : sProp 𝕄) = bigSep Finset.univ fun k : Fin 2 => pPts c k fullShare g from
    Ring.pointsTo_blocks (ℓ := (c : Thread nD τ).loc cc0_scratch0) (fun k : Fin 2 => (partM k).view.set)
      (fun k k' h => by rw [part_set, part_set]; exact half_sets_disjoint k k' h)
      ((Finset.biUnion_congr rfl fun k _ => part_set k).trans half_sets_cover) g]
  exact BI.bigSep_fin_two _
theorem y_whole (c : Dev nD) (g : S256x1024.Idx → Elt F .bf16) :
    ((c : Thread nD τ).loc cc0_scratch1 ↦[Finset.univ]{fullShare} g : sProp 𝕄) = iprop(yPts c 0 fullShare g ∗ yPts c 1 fullShare g) := by
  rw [show ((c : Thread nD τ).loc cc0_scratch1 ↦[Finset.univ]{fullShare} g : sProp 𝕄) = bigSep Finset.univ fun k : Fin 2 => yPts c k fullShare g from
    Ring.pointsTo_blocks (ℓ := (c : Thread nD τ).loc cc0_scratch1) (fun k : Fin 2 => (yM k).view.set)
      (fun k k' h => by rw [y_set, y_set]; exact half_sets_disjoint k k' h)
      ((Finset.biUnion_congr rfl fun k _ => y_set k).trans half_sets_cover) g]
  exact BI.bigSep_fin_two _
theorem out_whole (c : Dev nD) (h : S2048x1024.Idx → Elt F .bf16) :
    ((c : Thread nD τ).loc cc0_stg2_0 ↦[Finset.univ]{fullShare} h : sProp 𝕄) = bigSep Finset.univ fun b : Fin 16 => bPts c b fullShare h :=
  Ring.pointsTo_blocks (ℓ := (c : Thread nD τ).loc cc0_stg2_0) (fun b : Fin 16 => (blkM b).view.set)
    (fun k k' h => by
      rw [blk_set, blk_set]
      exact Ring.lead_disjoint (s := S2048x1024) (NB := 16) (0 : Fin 2) 128 (fun k a => (![128 * k.val, 0] : Fin 2 → ℕ) a) S128x1024.size blk_inb (fun _ => rfl) rfl k k' h)
    ((Finset.biUnion_congr rfl fun k _ => blk_set k).trans
      (Ring.lead_cover (s := S2048x1024) (NB := 16) (0 : Fin 2) 128 (fun k a => (![128 * k.val, 0] : Fin 2 → ℕ) a) S128x1024.size blk_inb (fun _ => rfl)
        (fun b a h => lone a h _) rfl lsz rfl)) h

theorem st_disjoint : Disjoint (stM 0).set (stM 1).set := by
  rw [Finset.disjoint_left]
  intro i h0 h1
  have a0 := (Rect.mem_set_unit.mp h0 0).2
  have a1 := (Rect.mem_set_unit.mp h1 0).1
  exact absurd a0 (Nat.not_lt.mpr a1)
theorem st_cover : (stM 0).set ∪ (stM 1).set = Finset.univ := by
  ext i
  simp only [Finset.mem_union, Finset.mem_univ, iff_true]
  have h0 : (i 0).val < 2 := (i 0).isLt
  have h1 : (i 1).val < 128 := (i 1).isLt
  have h2 : (i 2).val < 1024 := (i 2).isLt
  have key : ∀ k : Fin 2, (i 0).val = k.val → i ∈ (stM k).set := fun k hk => Rect.mem_set_unit.mpr fun a => match a with
    | ⟨0, _⟩ => (⟨by omega, by omega⟩ : k.val ≤ (i 0).val ∧ (i 0).val < k.val + 1)
    | ⟨1, _⟩ => (⟨by omega, by omega⟩ : 0 ≤ (i 1).val ∧ (i 1).val < 0 + 128)
    | ⟨2, _⟩ => (⟨by omega, by omega⟩ : 0 ≤ (i 2).val ∧ (i 2).val < 0 + 1024)
  rcases (show (i 0).val = 0 ∨ (i 0).val = 1 by omega) with h | h
  · exact .inl (key 0 h)
  · exact .inr (key 1 h)
theorem st_whole (c : Dev nD) (f : S2x128x1024.Idx → Elt F .f32) :
    ((c : Thread nD τ).loc cc0_scratch2 ↦[Finset.univ]{fullShare} f : sProp 𝕄) = iprop(stHalf c 0 f ∗ stHalf c 1 f) := by
  rw [← st_cover]
  unfold stHalf
  have h := pointsTo_union (nD := nD) (τ := τ) (sig := sig) (Ix := Unit) (Val := Elt F) (Name := ℕ) (U := UU) (Lvl := ℕ)
    (ℓ := (c : Thread nD τ).loc cc0_scratch2) (q := fullShare) (f := f) st_disjoint
  exact BI.Entails.antisymm h.1 h.2

/-! ## The blocks of the result: a device's own two and those it receives -/

def arrives (c : Dev nD) (p : Cp) : Bool := decide (2 ≤ p.val) && ract c p
theorem blocks_inj : ∀ (c : Dev nD) (p p' : Cp), arrives c p = true → arrives c p' = true → blkOf (src c p) p = blkOf (src c p') p' → p = p' := by
  decide +kernel
theorem blocks_eq : ∀ c : Dev nD, (Finset.univ : Finset (Fin 16)) = insert (blkOf c 2) (insert (blkOf c 3)
    ((Finset.univ.filter fun p : Cp => arrives c p = true).image fun p => blkOf (src c p) p)) := by decide +kernel
theorem blocks_ne : ∀ c : Dev nD, blkOf c 2 ∉ insert (blkOf c 3) ((Finset.univ.filter fun p : Cp => arrives c p = true).image fun p => blkOf (src c p) p)
    ∧ blkOf c 3 ∉ (Finset.univ.filter fun p : Cp => arrives c p = true).image fun p => blkOf (src c p) p := by decide +kernel
theorem blocks (c : Dev nD) (Φ : Fin 16 → sProp 𝕄) : bigSep Finset.univ Φ
    = iprop(Φ (blkOf c 2) ∗ Φ (blkOf c 3) ∗ bigSep Finset.univ fun p : Cp => cif (arrives c p) (Φ (blkOf (src c p) p))) := by
  rw [blocks_eq c, bigSep_insert (blocks_ne c).1, bigSep_insert (blocks_ne c).2, bigSep_image_of_injOn (fun p hp p' hp' e =>
    blocks_inj c p p' (Finset.mem_filter.mp hp).2 (Finset.mem_filter.mp hp').2 e), bigSep_filter]
  rfl

/-! ## Before the barrier -/

/-- The places at device `c` that copies of its neighbours arrive in. -/
def place (c : Dev nD) (p : Cp) : sProp 𝕄 := cif (ract c p) iprop(slot (F := F) c p ∗ reached ER (recvCell c p) 0)
/-- A device's right to signal its neighbour in a direction. -/
def bartok (c : Dev nD) (δ : Fin 4) : sProp 𝕄 :=
  cif (has δ c) iprop(dutyTok ER (barCell (towards δ c)) 0 (opp δ) ∗ reached ER (barCell (towards δ c)) 0)

theorem turn : ∀ (c : Dev nD) (δ : Fin 4) (p : Cp), has δ c = true → dir p = opp δ → act (towards δ c) p = ract c p ∧ peer (towards δ c) p = c := by
  decide +kernel
theorem sg_of (c : Dev nD) (δ : Fin 4) : iprop(bartok c δ ∗ bigSep (Finset.univ.filter fun p : Cp => dir p = opp δ) fun p => place (F := F) c p) ⊢ sg (F := F) c δ := by
  unfold bartok sg
  cases h : has δ c with
  | false => rw [cif_false rfl, cif_false rfl]; iintro -; iempintro
  | true =>
    rw [cif_true rfl, cif_true rfl]
    have e : (bigSep (Finset.univ.filter fun p : Cp => dir p = opp δ) fun p => place (F := F) c p) = barPay (F := F) (towards δ c) (opp δ) := by
      unfold barPay
      refine bigSep_congr fun p hp => ?_
      obtain ⟨e1, e2⟩ := turn c δ p h (Finset.mem_filter.mp hp).2
      unfold place landing
      rw [e1, e2]
    rw [e]
    iintro ⟨⟨H1, H2⟩, H3⟩
    isplitl [H1]; · iexact H1
    isplitl [H2] <;> iassumption
theorem dirs_disjoint : ∀ δ ∈ (Finset.univ : Finset (Fin 4)), ∀ δ' ∈ (Finset.univ : Finset (Fin 4)), δ ≠ δ' →
    Disjoint (Finset.univ.filter fun p : Cp => dir p = opp δ) (Finset.univ.filter fun p : Cp => dir p = opp δ') := by decide
theorem dirs_cover : (Finset.univ.biUnion fun δ : Fin 4 => Finset.univ.filter fun p : Cp => dir p = opp δ) = Finset.univ := by decide
theorem sgs (c : Dev nD) : iprop((bigSep Finset.univ fun δ : Fin 4 => bartok (F := F) c δ) ∗ bigSep Finset.univ fun p : Cp => place (F := F) c p)
    ⊢ iprop(sg (F := F) c 0 ∗ sg (F := F) c 1 ∗ sg (F := F) c 3 ∗ sg (F := F) c 2) := by
  rw [← dirs_cover, bigSep_biUnion_eq _ _ _ dirs_disjoint, ← bigSep_sep']
  have h : (bigSep Finset.univ fun δ : Fin 4 => iprop(bartok c δ ∗ bigSep (Finset.univ.filter fun p : Cp => dir p = opp δ) fun p => place (F := F) c p))
      ⊢ bigSep Finset.univ fun δ : Fin 4 => sg (F := F) c δ := bigSep_mono fun δ _ => sg_of c δ
  refine h.trans (Entails.of_eq ?_)
  exact bigSep_univ_eq_bigSepL [0, 1, 3, 2] (by decide) (by decide) _

theorem two_eq : (Finset.univ.filter fun p : Cp => p.val < 2) = {0, 1} := by decide
theorem arrives_eq (c : Dev nD) (p : Cp) (h : ¬ p.val < 2) : arrives c p = ract c p := by
  unfold arrives; rw [decide_eq_true (Nat.le_of_not_lt h), Bool.true_and]
theorem ract_y : ∀ (c : Dev nD), ract c 0 = true ∧ ract c 1 = true := by decide
theorem places (c : Dev nD) (y : S256x1024.Idx → Elt F .bf16) (h : S2048x1024.Idx → Elt F .bf16) :
    iprop(((c : Thread nD τ).loc cc0_scratch1 ↦[Finset.univ]{fullShare} y) ∗ (bigSep Finset.univ fun p : Cp => cif (arrives c p) (bPts c (blkOf (src c p) p) fullShare h))
      ∗ bigSep Finset.univ fun p : Cp => reached ER (recvCell c p) 0)
    ⊢ bigSep Finset.univ fun p : Cp => place (F := F) c p := by
  have hy : ((c : Thread nD τ).loc cc0_scratch1 ↦[Finset.univ]{fullShare} y : sProp 𝕄)
      ⊢ bigSep Finset.univ fun p : Cp => if p.val < 2 then yPts c (hf p) fullShare y else iprop(emp) := by
    have e := bigSep_filter Finset.univ (fun p : Cp => p.val < 2) (fun p : Cp => yPts c (hf p) fullShare y)
    rw [two_eq, bigSep_insert (by decide), bigSep_singleton] at e
    rw [y_whole]
    exact Entails.of_eq e
  have key : ∀ p : Cp, iprop((if p.val < 2 then yPts c (hf p) fullShare y else iprop(emp)) ∗ cif (arrives c p) (bPts c (blkOf (src c p) p) fullShare h) ∗ reached ER (recvCell c p) 0)
      ⊢ place (F := F) c p := fun p => by
    unfold place
    by_cases hp : p.val < 2
    · have hr : ract c p = true := by
        rcases (show p = 0 ∨ p = 1 by revert p; decide) with rfl | rfl
        · exact (ract_y c).1
        · exact (ract_y c).2
      rw [cif_true hr, if_pos hp, slot, if_pos hp]
      iintro ⟨H, -, Hr⟩
      isplitl [H]; · iexists y; iexact H
      iexact Hr
    · rw [arrives_eq c p hp]
      cases hr : ract c p with
      | false => rw [cif_false rfl, cif_false rfl]; iintro -; iempintro
      | true =>
        rw [cif_true rfl, cif_true rfl]; unfold slot; rw [if_neg hp, if_neg hp]
        iintro ⟨-, H, Hr⟩
        isplitl [H]; · iexists h; iexact H
        iexact Hr
  have h3 := sep_mono_left (Q := iprop((bigSep Finset.univ fun p : Cp => cif (arrives c p) (bPts c (blkOf (src c p) p) fullShare h))
      ∗ bigSep Finset.univ fun p : Cp => reached ER (recvCell c p) 0)) hy
  refine h3.trans ?_
  rw [← bigSep_sep', ← bigSep_sep']
  exact bigSep_mono fun p _ => key p

/-- What a device holds of the exchange when its body begins. -/
def opened (m : (ℓ : Loc nD τ sig) → Buf (Elt F) ℓ) (κ : Names) (c : Dev nD) : sProp 𝕄 :=
  iprop(invs m κ ∗ atPos ER (barCell c) 0 ∅ 0 ∗ cred (tallyAt (barCell c) () (k0_amt1 c).toNat) ∗ (bigSep Finset.univ fun δ : Fin 4 => bartok (F := F) c δ)
    ∗ (bigSep Finset.univ fun p => ptoks c p) ∗ Recvs m c (fun _ => 0) ∗ bigSep Finset.univ fun p : Cp => reached ER (recvCell c p) 0)
def scr (c : Dev nD) : sProp 𝕄 :=
  iprop((∃ g, (c : Thread nD τ).loc cc0_scratch0 ↦[Finset.univ]{fullShare} g) ∗ (∃ g, (c : Thread nD τ).loc cc0_scratch1 ↦[Finset.univ]{fullShare} g)
    ∗ (∃ g, (c : Thread nD τ).loc cc0_scratch2 ↦[Finset.univ]{fullShare} g))
def outP (c : Dev nD) (h : S2048x1024.Idx → Elt F .bf16) : sProp 𝕄 := (c : Thread nD τ).loc cc0_stg2_0 ↦[Finset.univ]{fullShare} h
def gsems (c : Dev nD) : sProp 𝕄 := iprop(semVal ((c : Thread nD τ), .dma (gS 0)) 0 ∗ semVal ((c : Thread nD τ), .dma (gS 1)) 0)

/-- The body's start. -/
theorem start {X R : sProp 𝕄} (h : S2048x1024.Idx → Elt F .bf16)
    (hk : ∀ f g, G0 m κ c dues iprop(sg c 0 ∗ sg c 1 ∗ sg c 3 ∗ sg c 2 ∗ (atPos ER (barCell c) 0 ∅ 0 ∗ cred (tallyAt (barCell c) () (k0_amt1 c).toNat) ∗ bigSep Finset.univ fun p => ptoks c p)
        ∗ Recvs m c (fun _ => 0) ∗ before m c f g h X) ⊢ R) :
    iprop(opened m κ c ∗ levAts L lv ∗ Ow c dues ∗ scr c ∗ outP c h ∗ idsP m c ∗ maskP m c ∗ embP m c ∗ gsems c ∗ X) ⊢ R := by
  unfold opened scr gsems
  iintro ⟨⟨#HI, Hat, Hc, Hb, Ht, HR, Hr⟩, Hlev, HO, ⟨⟨%g, H0⟩, ⟨%y, H1⟩, ⟨%f, H2⟩⟩, Hout, I, M, E, ⟨V0, V1⟩, HX⟩
  iapply (hk f g)
  ihave H0 := (Entails.of_eq (part_whole c g)) $$ H0
  icases H0 with ⟨P0, P1⟩
  ihave H2 := (Entails.of_eq (st_whole c f)) $$ H2
  icases H2 with ⟨S0, S1⟩
  unfold outP
  ihave Hout := (Entails.of_eq ((out_whole c h).trans (blocks c fun b => bPts c b fullShare h))) $$ Hout
  icases Hout with ⟨B0, B1, Hout⟩
  ihave HP := (places c y h) $$ [H1 Hout Hr]
  · isplitl [H1]; · iexact H1
    isplitl [Hout] <;> iassumption
  ihave HS := (sgs (F := F) c) $$ [Hb HP]
  · isplitl [Hb] <;> iassumption
  icases HS with ⟨HS0, HS1, HS3, HS2⟩
  unfold G0 before
  isplitr; · iexact HI
  isplitl [Hlev]; · iexact Hlev
  isplitl [HO]; · iexact HO
  isplitl [HS0]; · iexact HS0
  isplitl [HS1]; · iexact HS1
  isplitl [HS3]; · iexact HS3
  isplitl [HS2]; · iexact HS2
  isplitl [Hat Hc Ht]
  · isplitl [Hat]; · iexact Hat
    isplitl [Hc] <;> iassumption
  isplitl [HR]; · iexact HR
  isplitl [I]; · iexact I
  isplitl [E]; · iexact E
  isplitl [S0]; · iexact S0
  isplitl [V0]; · iexact V0
  isplitl [P0]; · iexact P0
  isplitl [S1]; · iexact S1
  isplitl [V1]; · iexact V1
  isplitl [P1]; · iexact P1
  isplitl [M]; · iexact M
  isplitl [B0]; · iexact B0
  isplitl [B1]; · iexact B1
  iexact HX

/-! ## After the last wait -/

theorem no_send (c : Dev nD) (p : Cp) : ∀ r, (if act c p = true then 1 else 0) ≤ r → (Rd m).duties (sendCell c p) r = ∅ := fun r hr => by
  cases h : act c p with
  | true => rw [h, if_pos rfl] at hr; exact duties_later m _ r hr
  | false =>
    rcases Nat.eq_zero_or_pos r with rfl | hr'
    · rw [duties_send, if_neg (by simp [h])]
    · exact duties_later m _ r hr'
theorem no_recv (c : Dev nD) (p : Cp) : ∀ r, (if ract c p = true then 1 else 0) ≤ r → (Rd m).duties (recvCell c p) r = ∅ := fun r hr => by
  cases h : ract c p with
  | true => rw [h, if_pos rfl] at hr; exact duties_later m _ r hr
  | false =>
    rcases Nat.eq_zero_or_pos r with rfl | hr'
    · rw [duties_recv, if_neg (by simp [h])]
    · exact duties_later m _ r hr'

theorem close_send (c : Dev nD) (p : Cp) : iprop(invs m κ ∗ sendSt m c p 3) ⊢ |={Set.univ}=> iprop(semVal (sendCell c p) 0 ∗ cif (hasSrc c p) (srcPts m c p)) := by
  rw [sendSt_three]
  iintro ⟨#HI, Hat, HS⟩
  imod (Rounds.cell_close ER (Rd m) (κ := κ.nm (sendCell c p)) (Set.mem_univ _) (fun h => h) (no_send (m := m) c p)) $$ [Hat] with Hv
  · isplitr; · iapply (invs_at m κ _ (send_mem c p)); iexact HI
    iexact Hat
  imodintro
  isplitl [Hv] <;> iassumption
theorem close_recv (c : Dev nD) (p : Cp) : iprop(invs m κ ∗ recvSt m c p 1) ⊢ |={Set.univ}=> iprop(semVal (recvCell c p) 0 ∗ cif (ract c p) (keep m c p)) := by
  rw [recvSt_one]
  iintro ⟨#HI, Hat, HS⟩
  imod (Rounds.cell_close ER (Rd m) (κ := κ.nm (recvCell c p)) (Set.mem_univ _) (fun h => h) (no_recv (m := m) c p)) $$ [Hat] with Hv
  · isplitr; · iapply (invs_at m κ _ (recv_mem c p)); iexact HI
    iexact Hat
  imodintro
  isplitl [Hv] <;> iassumption
theorem close_sends (c : Dev nD) : iprop(invs m κ ∗ Sends m c a30) ⊢ |={Set.univ}=> iprop((bigSep Finset.univ fun p => semVal (sendCell c p) 0)
    ∗ bigSep Finset.univ fun p => cif (hasSrc c p) (srcPts m c p)) := by
  rw [← bigSep_sep']
  unfold Sends
  exact (bigSep_with_persistent (R := invs m κ) fun p _ => close_send c p).trans (bigSep_fupd _ _)
theorem close_recvs (c : Dev nD) : iprop(invs m κ ∗ Recvs m c b30) ⊢ |={Set.univ}=> iprop((bigSep Finset.univ fun p => semVal (recvCell c p) 0)
    ∗ bigSep Finset.univ fun p => cif (ract c p) (keep m c p)) := by
  rw [← bigSep_sep']
  unfold Recvs
  exact (bigSep_with_persistent (R := invs m κ) fun p _ => close_recv c p).trans (bigSep_fupd _ _)

/-- The source of a copy, and what is kept of one that arrived. -/
def sP (m : (ℓ : Loc nD τ sig) → Buf (Elt F) ℓ) (c : Dev nD) (p : Cp) : sProp 𝕄 := cif (hasSrc c p) (srcPts m c p)
def kP (m : (ℓ : Loc nD τ sig) → Buf (Elt F) ℓ) (c : Dev nD) (p : Cp) : sProp 𝕄 := cif (ract c p) (keep m c p)
/-- A block that arrived, whole again. -/
def wP (m : (ℓ : Loc nD τ sig) → Buf (Elt F) ℓ) (c : Dev nD) (p : Cp) : sProp 𝕄 := cif (arrives c p) (bPts c (blkOf (src c p) p) fullShare (outv m c))

theorem whole_mid (c : Dev nD) (p q₂ q₁ : Cp) (hz : 4 ≤ p.val ∧ p.val < 16) (hm : back p < 2) (h2 : q₂.val = p.val + 2) (h1 : q₁.val = p.val + 12) :
    iprop(sP m c q₂ ∗ sP m c q₁) ⊢ wP m c p := by
  unfold sP wP
  rw [hasSrc_on1 c p hz q₁ h1, hasSrc_on2 c p hz hm q₂ h2, arrives_eq c p (by omega)]
  cases h : ract c p with
  | false => rw [cif_false rfl, cif_false rfl, cif_false rfl]; iintro -; iempintro
  | true =>
    obtain ⟨hb, hq⟩ := back_on p q₂ hz hm h2
    rw [cif_true rfl, cif_true rfl, cif_true rfl,
      srcPts, if_neg (by omega), srcPts, if_neg (by omega), blk_on1 c p hz h q₁ h1, blk_on2 c p hz hm h q₂ h2,
      shr_on1 q₁ (by omega), shr_on2 q₂ hq hb, bPts_split c _ fullShare]
theorem whole_end (c : Dev nD) (p q₁ : Cp) (hz : 4 ≤ p.val ∧ p.val < 16) (hm : ¬ back p < 2) (h1 : q₁.val = p.val + 12) :
    iprop(kP m c p ∗ sP m c q₁) ⊢ wP m c p := by
  unfold sP wP kP
  rw [hasSrc_on1 c p hz q₁ h1, arrives_eq c p (by omega)]
  cases h : ract c p with
  | false => rw [cif_false rfl, cif_false rfl, cif_false rfl]; iintro -; iempintro
  | true =>
    rw [cif_true rfl, cif_true rfl, cif_true rfl, keep, if_pos hz, if_neg hm,
      srcPts, if_neg (by omega), blk_on1 c p hz h q₁ h1, shr_on1 q₁ (by omega), bPts_split c _ fullShare]
theorem whole_got (c : Dev nD) (p : Cp) (hz : ¬ (4 ≤ p.val ∧ p.val < 16)) (h2 : 2 ≤ p.val) : kP m c p ⊢ wP m c p := by
  unfold wP kP
  rw [arrives_eq c p (by omega), keep, if_neg hz, gotPts, if_neg (by omega)]
theorem whole_own (c : Dev nD) (k : Fin 2) (p q r : Cp) (hp : p = ⟨4 + k.val, by omega⟩) (hq : q = ⟨10 + k.val, by omega⟩) (hr : r = ⟨2 + k.val, by omega⟩) :
    iprop(sP m c p ∗ sP m c q ∗ sP m c r) ⊢ bPts c (blkOf c r) fullShare (outv m c) := by
  subst hp hq hr
  unfold sP
  rw [cif_true (src_own c k).1, cif_true (src_own c k).2.1, cif_true (src_own c k).2.2, (srcPts_own c k).1, (srcPts_own c k).2.1, (srcPts_own c k).2.2,
    bPts_split c _ fullShare, bPts_split c _ fullShare.right]
theorem hasSrc_y (c : Dev nD) : hasSrc c 0 = true ∧ hasSrc c 1 = true := by revert c; decide +kernel
theorem src_y (c : Dev nD) (k : Fin 2) (p : Cp) (hp : p = ⟨k.val, by omega⟩) : sP m c p = pPts c k fullShare.left (partv m c) := by
  subst hp
  unfold sP
  have hs : hasSrc c ⟨k.val, by omega⟩ = true := match k with | 0 => (hasSrc_y c).1 | 1 => (hasSrc_y c).2
  rw [cif_true hs, srcPts_part]
theorem kept_y (c : Dev nD) (k : Fin 2) (p : Cp) (hp : p = ⟨k.val, by omega⟩) : kP m c p = yPts c k fullShare (partv m (yFlip c)) := by
  subst hp
  unfold kP
  have hs : ract c ⟨k.val, by omega⟩ = true := match k with | 0 => (ract_y c).1 | 1 => (ract_y c).2
  rw [cif_true hs, keep, if_neg (show ¬ (4 ≤ k.val ∧ k.val < 16) by omega), gotPts, if_pos (show k.val < 2 by omega)]
  have : hf ⟨k.val, by omega⟩ = k := Fin.ext (Nat.mod_eq_of_lt k.isLt)
  rw [this]

/-- The copies one by one. -/
theorem chain28 (Φ : Cp → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ
/-- All the pieces of the result, as the copies leave them, are the whole result. -/
theorem rejoin (c : Dev nD) : iprop((bigSep Finset.univ fun p => sP m c p) ∗ bigSep Finset.univ fun p => kP m c p)
    ⊢ iprop(outP c (outv m c) ∗ sP m c 0 ∗ sP m c 1 ∗ kP m c 0 ∗ kP m c 1) := by
  rw [chain28 fun p => sP m c p, chain28 fun p => kP m c p]
  unfold outP
  rw [out_whole, blocks c fun b => bPts c b fullShare (outv m c), show (bigSep Finset.univ fun p : Cp => cif (arrives c p) (bPts c (blkOf (src c p) p) fullShare (outv m c)))
    = bigSep Finset.univ fun p => wP m c p from rfl, chain28 fun p => wP m c p]
  iintro ⟨⟨s0, s1, s2, s3, s4, s5, s6, s7, s8, s9, s10, s11, s12, s13, s14, s15, s16, s17, s18, s19, s20, s21, s22, s23, s24, s25, s26, s27⟩, k0, k1, k2, k3, k4, k5, k6, k7, k8, k9, k10, k11, k12, k13, k14, k15, k16, k17, k18, k19, k20, k21, k22, k23, k24, k25, k26, k27⟩
  isplitr [s0 s1 k0 k1]
  · isplitl [s4 s10 s2]
    · iapply (whole_own c 0 4 10 2 rfl rfl rfl)
      isplitl [s4]; · iexact s4
      isplitl [s10] <;> iassumption
    isplitl [s5 s11 s3]
    · iapply (whole_own c 1 5 11 3 rfl rfl rfl)
      isplitl [s5]; · iexact s5
      isplitl [s11] <;> iassumption
    isplitr; · unfold wP; rw [show arrives c 0 = false from rfl, cif_false rfl]; iempintro
    isplitr; · unfold wP; rw [show arrives c 1 = false from rfl, cif_false rfl]; iempintro
    isplitl [k2]
    · iapply (whole_got c 2 (by decide) (by decide)); iexact k2
    isplitl [k3]
    · iapply (whole_got c 3 (by decide) (by decide)); iexact k3
    isplitl [s6 s16]
    · iapply (whole_mid c 4 6 16 (by decide) (by decide) rfl rfl)
      isplitl [s6] <;> iassumption
    isplitl [s7 s17]
    · iapply (whole_mid c 5 7 17 (by decide) (by decide) rfl rfl)
      isplitl [s7] <;> iassumption
    isplitl [s8 s18]
    · iapply (whole_mid c 6 8 18 (by decide) (by decide) rfl rfl)
      isplitl [s8] <;> iassumption
    isplitl [s9 s19]
    · iapply (whole_mid c 7 9 19 (by decide) (by decide) rfl rfl)
      isplitl [s9] <;> iassumption
    isplitl [k8 s20]
    · iapply (whole_end c 8 20 (by decide) (by decide) rfl)
      isplitl [k8] <;> iassumption
    isplitl [k9 s21]
    · iapply (whole_end c 9 21 (by decide) (by decide) rfl)
      isplitl [k9] <;> iassumption
    isplitl [s12 s22]
    · iapply (whole_mid c 10 12 22 (by decide) (by decide) rfl rfl)
      isplitl [s12] <;> iassumption
    isplitl [s13 s23]
    · iapply (whole_mid c 11 13 23 (by decide) (by decide) rfl rfl)
      isplitl [s13] <;> iassumption
    isplitl [s14 s24]
    · iapply (whole_mid c 12 14 24 (by decide) (by decide) rfl rfl)
      isplitl [s14] <;> iassumption
    isplitl [s15 s25]
    · iapply (whole_mid c 13 15 25 (by decide) (by decide) rfl rfl)
      isplitl [s15] <;> iassumption
    isplitl [k14 s26]
    · iapply (whole_end c 14 26 (by decide) (by decide) rfl)
      isplitl [k14] <;> iassumption
    isplitl [k15 s27]
    · iapply (whole_end c 15 27 (by decide) (by decide) rfl)
      isplitl [k15] <;> iassumption
    isplitl [k16]
    · iapply (whole_got c 16 (by decide) (by decide)); iexact k16
    isplitl [k17]
    · iapply (whole_got c 17 (by decide) (by decide)); iexact k17
    isplitl [k18]
    · iapply (whole_got c 18 (by decide) (by decide)); iexact k18
    isplitl [k19]
    · iapply (whole_got c 19 (by decide) (by decide)); iexact k19
    isplitl [k20]
    · iapply (whole_got c 20 (by decide) (by decide)); iexact k20
    isplitl [k21]
    · iapply (whole_got c 21 (by decide) (by decide)); iexact k21
    isplitl [k22]
    · iapply (whole_got c 22 (by decide) (by decide)); iexact k22
    isplitl [k23]
    · iapply (whole_got c 23 (by decide) (by decide)); iexact k23
    isplitl [k24]
    · iapply (whole_got c 24 (by decide) (by decide)); iexact k24
    isplitl [k25]
    · iapply (whole_got c 25 (by decide) (by decide)); iexact k25
    isplitl [k26]
    · iapply (whole_got c 26 (by decide) (by decide)); iexact k26
    iapply (whole_got c 27 (by decide) (by decide)); iexact k27
  isplitl [s0]; · iexact s0
  isplitl [s1]; · iexact s1
  isplitl [k0] <;> iassumption

/-- The body's end. -/
def finished (m : (ℓ : Loc nD τ sig) → Buf (Elt F) ℓ) (c : Dev nD) (X : sProp 𝕄) : sProp 𝕄 :=
  iprop(Ow c [] ∗ scr c ∗ outP c (outv m c) ∗ idsP m c ∗ maskP m c ∗ embP m c ∗ gsems c
    ∗ (bigSep Finset.univ fun p => semVal (sendCell c p) 0) ∗ (bigSep Finset.univ fun p => semVal (recvCell c p) 0) ∗ semVal (barCell c) 0 ∗ X)

theorem finish {X : sProp 𝕄} : G m κ c a30 b30 [] (after m c X) ⊢ |={Set.univ}=> finished m c X := by
  unfold G after finished scr gsems
  iintro ⟨#HI, -, HS, HR, HO, M, P1, P0, S1, I, E, V1, S0, V0, Hat, HX⟩
  imod (close_sends (m := m) (κ := κ) c) $$ [HS] with ⟨Vs, Ss⟩
  · isplitr; · iexact HI
    iexact HS
  imod (close_recvs (m := m) (κ := κ) c) $$ [HR] with ⟨Vr, Ks⟩
  · isplitr; · iexact HI
    iexact HR
  imod (Rounds.cell_close ER (Rd m) (κ := κ.nm (barCell c)) (Set.mem_univ _) (fun h => h) (duties_later m (barCell c))) $$ [Hat] with Vb
  · isplitr; · iapply (invs_at m κ _ (bar_mem c)); iexact HI
    iexact Hat
  ihave HW := (rejoin (m := m) c) $$ [Ss Ks]
  · isplitl [Ss]; · iexact Ss
    iexact Ks
  icases HW with ⟨HW, A0, A1, Y0, Y1⟩
  ihave A0 := (Entails.of_eq (src_y (m := m) c 0 0 rfl)) $$ A0
  ihave A1 := (Entails.of_eq (src_y (m := m) c 1 1 rfl)) $$ A1
  ihave Y0 := (Entails.of_eq (kept_y (m := m) c 0 0 rfl)) $$ Y0
  ihave Y1 := (Entails.of_eq (kept_y (m := m) c 1 1 rfl)) $$ Y1
  imodintro
  isplitl [HO]; · iexact HO
  isplitl [A0 A1 P0 P1 Y0 Y1 S0 S1]
  · isplitl [A0 A1 P0 P1]
    · iexists (partv m c)
      iapply (Entails.of_eq (part_whole c (partv m c)).symm)
      isplitl [A0 P0]
      · iapply (Entails.of_eq (pPts_split c 0 fullShare (partv m c)).symm)
        isplitl [A0] <;> iassumption
      · iapply (Entails.of_eq (pPts_split c 1 fullShare (partv m c)).symm)
        isplitl [A1] <;> iassumption
    isplitl [Y0 Y1]
    · iexists (partv m (yFlip c))
      iapply (Entails.of_eq (y_whole c (partv m (yFlip c))).symm)
      isplitl [Y0] <;> iassumption
    iexists (gv m c)
    iapply (Entails.of_eq (st_whole c (gv m c)).symm)
    isplitl [S0] <;> iassumption
  isplitl [HW]; · iexact HW
  isplitl [I]; · iexact I
  isplitl [M]; · iexact M
  isplitl [E]; · iexact E
  isplitl [V0 V1]; · isplitl [V0] <;> iassumption
  isplitl [Vs]; · iexact Vs
  isplitl [Vr]; · iexact Vr
  isplitl [Vb]; · iexact Vb
  iexact HX

end Cert.Embed

end
-- ==== Proof.Body.lean ====
/-
  The whole body, at a symbolic device.
-/
module

public import proofs.«01_k».proof.Proof.Part19
public import proofs.«01_k».proof.Proof.Part20
public import proofs.«01_k».proof.Proof.Part21
public import proofs.«01_k».proof.Proof.Part22
public import proofs.«01_k».proof.Proof.Part24
public import proofs.«01_k».proof.Proof.Part25
public import proofs.«01_k».proof.Proof.Part26
public import proofs.«01_k».proof.Proof.Part27
public import proofs.«01_k».proof.Proof.Part28
public import proofs.«01_k».proof.Proof.Ends

@[expose] public section

set_option maxRecDepth 65536
set_option maxHeartbeats 20000000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

attribute [local irreducible] k0_off1 k0_off2 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52

/-- The body. -/
theorem body_run {X : sProp 𝕄} {f : S2x128x1024.Idx → Elt F .f32} {g : S256x1024.Idx → Elt F .bf16} {h : S2048x1024.Idx → Elt F .bf16} :
    G0 m κ c dues iprop(sg c 0 ∗ sg c 1 ∗ sg c 3 ∗ sg c 2 ∗ (atPos ER (barCell c) 0 ∅ 0 ∗ cred (tallyAt (barCell c) () (k0_amt1 c).toNat) ∗ bigSep Finset.univ fun p => ptoks c p)
        ∗ Recvs m c (fun _ => 0) ∗ before m c f g h X)
      ⊢ (wp frame (wpE (defs₀ (F := F)) 𝒱₀ (c : Thread nD τ) none) Set.univ) (cc0_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16) fun _ => G m κ c a30 b30 [] (after m c X) := by
  simp only [cc0_body_eq_skeleton]
  unfold cc0_body_skel before
  refine part19_ok fun v2 v5 v8 v9 v10 v11 v12 v13 v31 => ?_
  dsimp only
  refine part20_ok v2 v5 v8 v9 v12 v13 v31 ?_
  refine BI.Entails.trans (G_mono (Y := iprop(idsP m c ∗ embP m c ∗ stHalf c 1 f ∗ semVal ((c : Thread nD τ), .dma (gS 1)) 0 ∗ pPts c 1 fullShare g
    ∗ (pPts c 0 fullShare.right (partv m c) ∗ stHalf c 0 (gv m c) ∗ semVal ((c : Thread nD τ), .dma (gS 0)) 0 ∗ atPos ER (barCell c) 1 ∅ 0
      ∗ maskP m c ∗ bPts c (blkOf c ⟨2 + (0 : Fin 2).val, by decide⟩) fullShare h ∗ bPts c (blkOf c ⟨2 + (1 : Fin 2).val, by decide⟩) fullShare h ∗ X))) ?_) ?_
  · iintro ⟨P0, S0, I, E, V0, At, S1, V1, P1, M, B0, B1, HX⟩
    isplitl [I]; · iexact I
    isplitl [E]; · iexact E
    isplitl [S1]; · iexact S1
    isplitl [V1]; · iexact V1
    isplitl [P1]; · iexact P1
    isplitl [P0]; · iexact P0
    isplitl [S0]; · iexact S0
    isplitl [V0]; · iexact V0
    isplitl [At]; · iexact At
    isplitl [M]; · iexact M
    isplitl [B0]; · iexact B0
    isplitl [B1]; · iexact B1
    iexact HX
  refine part21_ok v2 v8 v9 v13 ?_
  refine conv (a' := a22) (b' := fun _ => 0) (by decide) (by decide) ?_
  refine BI.Entails.trans (G_mono (Y := iprop(maskP m c ∗ pPts c 0 fullShare.right (partv m c) ∗ bPts c (blkOf c ⟨2 + (0 : Fin 2).val, by decide⟩) fullShare h
    ∗ (pPts c 1 fullShare.right (partv m c) ∗ stHalf c 1 (gv m c) ∗ idsP m c ∗ embP m c ∗ semVal ((c : Thread nD τ), .dma (gS 1)) 0
      ∗ stHalf c 0 (gv m c) ∗ semVal ((c : Thread nD τ), .dma (gS 0)) 0 ∗ atPos ER (barCell c) 1 ∅ 0
      ∗ bPts c (blkOf c ⟨2 + (1 : Fin 2).val, by decide⟩) fullShare h ∗ X))) ?_) ?_
  · iintro ⟨P1, S1, I, E, V1, P0, S0, V0, At, M, B0, B1, HX⟩
    isplitl [M]; · iexact M
    isplitl [P0]; · iexact P0
    isplitl [B0]; · iexact B0
    isplitl [P1]; · iexact P1
    isplitl [S1]; · iexact S1
    isplitl [I]; · iexact I
    isplitl [E]; · iexact E
    isplitl [V1]; · iexact V1
    isplitl [S0]; · iexact S0
    isplitl [V0]; · iexact V0
    isplitl [At]; · iexact At
    isplitl [B1]; · iexact B1
    iexact HX
  refine part22_ok v2 v5 v8 v9 v11 v12 v13 ?_
  refine conv (a' := a23) (b' := b23) (by decide) (by decide) ?_
  refine part23_ok v2 v5 v8 v9 v10 v13 fun v139 => ?_
  refine BI.Entails.trans (G_mono (Y := iprop(maskP m c ∗ pPts c 1 fullShare.right (partv m c) ∗ bPts c (blkOf c ⟨2 + (1 : Fin 2).val, by decide⟩) fullShare h
    ∗ (pPts c 0 fullShare.right (partv m c) ∗ stHalf c 1 (gv m c) ∗ idsP m c ∗ embP m c ∗ semVal ((c : Thread nD τ), .dma (gS 1)) 0
      ∗ stHalf c 0 (gv m c) ∗ semVal ((c : Thread nD τ), .dma (gS 0)) 0 ∗ atPos ER (barCell c) 1 ∅ 0 ∗ X))) ?_) ?_
  · iintro ⟨M, P0, P1, S1, I, E, V1, S0, V0, At, B1, HX⟩
    isplitl [M]; · iexact M
    isplitl [P1]; · iexact P1
    isplitl [B1]; · iexact B1
    isplitl [P0]; · iexact P0
    isplitl [S1]; · iexact S1
    isplitl [I]; · iexact I
    isplitl [E]; · iexact E
    isplitl [V1]; · iexact V1
    isplitl [S0]; · iexact S0
    isplitl [V0]; · iexact V0
    isplitl [At]; · iexact At
    iexact HX
  refine part24_ok v2 v5 v8 v10 v11 v12 v139 ?_
  refine part25_ok v2 v5 v8 v10 v11 v12 fun c8 => ?_
  refine part26_ok v2 v5 v8 v10 v11 v12 c8 fun r => ?_
  dsimp only
  refine part27_ok v2 v5 v8 v10 v11 v12 _ _ fun _ => ?_
  refine part28_ok v2 v8 fun v301 => ?_
  simp only [Prog.lift, Prog.bind_op, Prog.bind_ret, Prog.pure_eq_ret, Prog.bind_assoc]
  show G m κ c a29 b29 [] (after m c X) ⊢ _
  generalize after m c X = X
  refine step_if2 (R := G m κ c (put (put (put (put a29 12 3) 13 3) 22 3) 23 3) b29 [] X) (fun h => ?_) (fun h hT35 => ?_) ?_
  · have h35 := Bool.eq_false_iff.mpr fun h' => h ((cond35_iff c).mpr h')
    refine skip_left 12 (by decide) (act22_false_act12_false c h35) ?_
    refine skip_left 13 (by decide) (act22_false_act13_false c h35) ?_
    refine skip_left 22 (by decide) h35 ?_
    refine skip_left 23 (by decide) (act22_false_act23_false c h35) ?_
    exact .rfl
  · have h35 := (cond35_iff c).mp h
    refine step_if2 (R := G m κ c (put (put a29 12 3) 13 3) b29 [] X) (fun h => ?_) (fun h hT36 => ?_) ?_
    · have h36 := Bool.eq_false_iff.mpr fun h' => h ((cond36_iff c h35).mpr h')
      refine skip_left 12 (by decide) h36 ?_
      refine skip_left 13 (by decide) (act12_false_act13_false c h36) ?_
      exact .rfl
    · have h36 := (cond36_iff c h35).mp h
      refine step_left 12 (by decide) h36 rfl rfl ?_
      refine step_left 13 (by decide) (act12_true_act13_true c h36) rfl rfl ?_
      exact hT36
    refine step_left 22 (by decide) h35 rfl rfl ?_
    refine step_left 23 (by decide) (act22_true_act23_true c h35) rfl rfl ?_
    exact hT35
  refine step_if2 (R := G m κ c (put (put (put (put (put (put (put (put a29 12 3) 13 3) 22 3) 23 3) 8 3) 9 3) 18 3) 19 3) b29 [] X) (fun h => ?_) (fun h hT37 => ?_) ?_
  · have h37 := Bool.eq_false_iff.mpr fun h' => h ((cond37_iff c).mpr h')
    refine skip_left 8 (by decide) (act18_false_act8_false c h37) ?_
    refine skip_left 9 (by decide) (act18_false_act9_false c h37) ?_
    refine skip_left 18 (by decide) h37 ?_
    refine skip_left 19 (by decide) (act18_false_act19_false c h37) ?_
    exact .rfl
  · have h37 := (cond37_iff c).mp h
    refine step_if2 (R := G m κ c (put (put (put (put (put (put a29 12 3) 13 3) 22 3) 23 3) 8 3) 9 3) b29 [] X) (fun h => ?_) (fun h hT38 => ?_) ?_
    · have h38 := Bool.eq_false_iff.mpr fun h' => h ((cond38_iff c h37).mpr h')
      refine skip_left 8 (by decide) h38 ?_
      refine skip_left 9 (by decide) (act8_false_act9_false c h38) ?_
      exact .rfl
    · have h38 := (cond38_iff c h37).mp h
      refine step_left 8 (by decide) h38 rfl rfl ?_
      refine step_left 9 (by decide) (act8_true_act9_true c h38) rfl rfl ?_
      exact hT38
    refine step_left 18 (by decide) h37 rfl rfl ?_
    refine step_left 19 (by decide) (act18_true_act19_true c h37) rfl rfl ?_
    exact hT37
  refine step_if2 (R := G m κ c (put (put (put (put (put (put (put (put (put (put (put (put a29 12 3) 13 3) 22 3) 23 3) 8 3) 9 3) 18 3) 19 3) 14 3) 15 3) 24 3) 25 3) b29 [] X) (fun h => ?_) (fun h hT39 => ?_) ?_
  · have h39 := Bool.eq_false_iff.mpr fun h' => h ((cond39_iff c).mpr h')
    refine skip_left 14 (by decide) (act24_false_act14_false c h39) ?_
    refine skip_left 15 (by decide) (act24_false_act15_false c h39) ?_
    refine skip_left 24 (by decide) h39 ?_
    refine skip_left 25 (by decide) (act24_false_act25_false c h39) ?_
    exact .rfl
  · have h39 := (cond39_iff c).mp h
    refine step_if2 (R := G m κ c (put (put (put (put (put (put (put (put (put (put a29 12 3) 13 3) 22 3) 23 3) 8 3) 9 3) 18 3) 19 3) 14 3) 15 3) b29 [] X) (fun h => ?_) (fun h hT40 => ?_) ?_
    · have h40 := Bool.eq_false_iff.mpr fun h' => h ((cond40_iff c h39).mpr h')
      refine skip_left 14 (by decide) h40 ?_
      refine skip_left 15 (by decide) (act14_false_act15_false c h40) ?_
      exact .rfl
    · have h40 := (cond40_iff c h39).mp h
      refine step_left 14 (by decide) h40 rfl rfl ?_
      refine step_left 15 (by decide) (act14_true_act15_true c h40) rfl rfl ?_
      exact hT40
    refine step_left 24 (by decide) h39 rfl rfl ?_
    refine step_left 25 (by decide) (act24_true_act25_true c h39) rfl rfl ?_
    exact hT39
  refine step_if2 (R := G m κ c (put (put (put (put (put (put (put (put (put (put (put (put (put (put a29 12 3) 13 3) 22 3) 23 3) 8 3) 9 3) 18 3) 19 3) 14 3) 15 3) 24 3) 25 3) 20 3) 21 3) b29 [] X) (fun h => ?_) (fun h hT41 => ?_) ?_
  · have h41 := Bool.eq_false_iff.mpr fun h' => h ((cond41_iff c).mpr h')
    refine skip_left 20 (by decide) h41 ?_
    refine skip_left 21 (by decide) (act20_false_act21_false c h41) ?_
    exact .rfl
  · have h41 := (cond41_iff c).mp h
    refine step_if2 (R := G m κ c (put (put (put (put (put (put (put (put (put (put (put (put a29 12 3) 13 3) 22 3) 23 3) 8 3) 9 3) 18 3) 19 3) 14 3) 15 3) 24 3) 25 3) b29 [] X) (fun _ => .rfl) (fun h _ => absurd h (cond42_no c h41)) ?_
    refine step_left 20 (by decide) h41 rfl rfl ?_
    refine step_left 21 (by decide) (act20_true_act21_true c h41) rfl rfl ?_
    exact hT41
  refine step_if2 (R := G m κ c (put (put (put (put (put (put (put (put (put (put (put (put (put (put (put (put a29 12 3) 13 3) 22 3) 23 3) 8 3) 9 3) 18 3) 19 3) 14 3) 15 3) 24 3) 25 3) 20 3) 21 3) 26 3) 27 3) b29 [] X) (fun h => ?_) (fun h hT43 => ?_) ?_
  · have h43 := Bool.eq_false_iff.mpr fun h' => h ((cond43_iff c).mpr h')
    refine skip_left 26 (by decide) h43 ?_
    refine skip_left 27 (by decide) (act26_false_act27_false c h43) ?_
    exact .rfl
  · have h43 := (cond43_iff c).mp h
    refine step_if2 (R := G m κ c (put (put (put (put (put (put (put (put (put (put (put (put (put (put a29 12 3) 13 3) 22 3) 23 3) 8 3) 9 3) 18 3) 19 3) 14 3) 15 3) 24 3) 25 3) 20 3) 21 3) b29 [] X) (fun _ => .rfl) (fun h _ => absurd h (cond44_no c h43)) ?_
    refine step_left 26 (by decide) h43 rfl rfl ?_
    refine step_left 27 (by decide) (act26_true_act27_true c h43) rfl rfl ?_
    exact hT43
  rw [wp_ret]
  exact (conv (a' := a30) (b' := b30) (by decide) (by decide) .rfl).trans fupd_intro

end Cert.Embed

end
-- ==== Proof.Launch.lean ====
/-
  Dealing out the exchange: tokens, cells and credit.
-/
module

public import proofs.«01_k».proof.Proof.Ends

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

variable (m : (ℓ : Loc nD τ sig) → Buf (Elt F) ℓ)

/-! ## What a device begins with -/

/-- Device `c`'s part of the exchange before its scoped semaphores are open. -/
def dormant (κ : Names) (c : Dev nD) : sProp 𝕄 :=
  iprop(invs m κ ∗ atPos ER (barCell c) 0 ∅ 0 ∗ (bigSep Finset.univ fun δ : Fin 4 => bartok (F := F) c δ)
    ∗ bigSep Finset.univ fun p : Cp => iprop((openTok ER (sendCell c p) ∗ openTok ER (recvCell c p))
      ∗ cif (act c p) iprop(dutyTok ER (sendCell c p) 0 0 ∗ dutyTok ER (recvCell (peer c p) p) 0 0)))
/-- What others will send it. -/
def promised (c : Dev nD) : sProp 𝕄 :=
  iprop(cred (tallyAt (barCell c) () (k0_amt1 c).toNat)
    ∗ bigSep Finset.univ fun p : Cp => cif (ract c p) (cred (tallyAt (recvCell c p) () N)))

/-! ## The tokens, under the device that pays with them -/

abbrev Tk : Type := Fin 4 ⊕ (Cp ⊕ Cp)
def Tk.on (c : Dev nD) : Tk → Bool
  | .inl δ => has δ c
  | .inr (.inl p) => act c p
  | .inr (.inr p) => act c p
def Tk.at (c : Dev nD) : Tk → GSem nD τ sig × ℕ × Fin 4
  | .inl δ => (barCell (towards δ c), 0, opp δ)
  | .inr (.inl p) => (sendCell c p, 0, 0)
  | .inr (.inr p) => (recvCell (peer c p) p, 0, 0)

theorem opp_opp (δ : Fin 4) : opp (opp δ) = δ := by revert δ; decide

theorem dev_of {c c' : Dev nD} {s s' : SemLoc sig} {x x' : ℕ × Fin 4}
    (h : (((c : Thread nD τ), s), x) = (((c' : Thread nD τ), s'), x')) : c = c' ∧ s = s' ∧ x = x' :=
  ⟨congrArg (fun t : GSem nD τ sig × ℕ × Fin 4 => t.1.1.1) h, congrArg (fun t : GSem nD τ sig × ℕ × Fin 4 => t.1.2) h, congrArg (fun t : GSem nD τ sig × ℕ × Fin 4 => t.2) h⟩

theorem towards_inj {δ : Fin 4} {c c' : Dev nD} (h : towards δ c = towards δ c') : c = c' := by
  rw [← from_towards δ c, h, from_towards]

theorem tk_inj : Function.Injective fun x : Dev nD × Tk => Tk.at x.1 x.2 := by
  rintro ⟨c, t⟩ ⟨c', t'⟩ h
  rcases t with δ | p | p <;> rcases t' with δ' | p' | p' <;> obtain ⟨h1, h2, h3⟩ := dev_of h
  · have e : δ = δ' := by rw [← opp_opp δ, ← opp_opp δ', show opp δ = opp δ' from congrArg Prod.snd h3]
    subst e
    rw [show c = c' from towards_inj h1]
  · exact absurd h2 (fun h => nomatch h)
  · exact absurd h2 (fun h => nomatch h)
  · exact absurd h2 (fun h => nomatch h)
  · rw [show c = c' from h1, sendS_inj p p' (SemLoc.dma.inj h2)]
  · exact absurd (SemLoc.dma.inj h2) (sendS_ne_recvS p p')
  · exact absurd h2 (fun h => nomatch h)
  · exact absurd (SemLoc.dma.inj h2).symm (sendS_ne_recvS p' p)
  · have e := recvS_inj p p' (SemLoc.dma.inj h2)
    subst e
    rw [show c = c' from towards_inj h1]

def tokens : Finset (GSem nD τ sig × ℕ × Fin 4) :=
  (Finset.univ.filter fun x : Dev nD × Tk => Tk.on x.1 x.2 = true).map ⟨fun x => Tk.at x.1 x.2, tk_inj⟩

theorem tokens_eq : (bigSep tokens fun x => (dutyTok ER x.1 x.2.1 x.2.2 : sProp 𝕄))
    = bigSep Finset.univ fun c : Dev nD => iprop((bigSep Finset.univ fun δ : Fin 4 => cif (has δ c) (dutyTok ER (barCell (towards δ c)) 0 (opp δ)))
      ∗ (bigSep Finset.univ fun p : Cp => cif (act c p) (dutyTok ER (sendCell c p) 0 0))
      ∗ bigSep Finset.univ fun p : Cp => cif (act c p) (dutyTok ER (recvCell (peer c p) p) 0 0)) := by
  unfold tokens
  rw [bigSep_map, bigSep_filter, bigSep_univ_prod]
  refine bigSep_congr fun c _ => ?_
  rw [bigSep_univ_sum, bigSep_univ_sum]
  rfl

/-! ## The cells -/

def barEmb : Dev nD ↪ GSem nD τ sig := ⟨fun c => barCell c, fun _ _ h => congrArg (fun g : GSem nD τ sig => g.1.1) h⟩
def cpS : Cp ⊕ Cp → DmaSem sig
  | .inl p => sendS p
  | .inr p => recvS p
theorem cpS_inj : Function.Injective cpS := by
  rintro (p | p) (p' | p') h
  · rw [sendS_inj p p' h]
  · exact absurd h (sendS_ne_recvS p p')
  · exact absurd h.symm (sendS_ne_recvS p' p)
  · rw [recvS_inj p p' h]
def cpEmb : Dev nD × (Cp ⊕ Cp) ↪ GSem nD τ sig :=
  ⟨fun x => ((x.1 : Thread nD τ), .dma (cpS x.2)), fun _ _ h =>
    Prod.ext (congrArg (fun g : GSem nD τ sig => g.1.1) h) (cpS_inj (SemLoc.dma.inj (congrArg (fun g : GSem nD τ sig => g.2) h)))⟩

def barCells : Finset (GSem nD τ sig) := Finset.univ.map barEmb
def cpCells : Finset (GSem nD τ sig) := Finset.univ.map cpEmb

theorem disjoint_cells : Disjoint barCells cpCells := by
  rw [Finset.disjoint_left]
  rintro g h₁ h₂
  obtain ⟨c, -, rfl⟩ := Finset.mem_map.mp h₁
  obtain ⟨x, -, h⟩ := Finset.mem_map.mp h₂
  have h2 : (SemLoc.dma (cpS x.2) : SemLoc sig) = .reg barS := congrArg (fun g : GSem nD τ sig => g.2) h
  exact nomatch h2

theorem cells_sub : cells ⊆ barCells ∪ cpCells := by
  intro g hg
  obtain ⟨c, -, hc⟩ := Finset.mem_biUnion.mp hg
  rcases Finset.mem_insert.mp hc with rfl | hc
  · exact Finset.mem_union_left _ (Finset.mem_map_of_mem barEmb (Finset.mem_univ c))
  rcases Finset.mem_union.mp hc with hc | hc <;> obtain ⟨p, -, rfl⟩ := Finset.mem_image.mp hc
  · exact Finset.mem_union_right _ (Finset.mem_map.mpr ⟨(c, .inl p), Finset.mem_univ _, rfl⟩)
  · exact Finset.mem_union_right _ (Finset.mem_map.mpr ⟨(c, .inr p), Finset.mem_univ _, rfl⟩)

theorem bars_eq (Φ : GSem nD τ sig → sProp 𝕄) : bigSep barCells Φ = bigSep Finset.univ fun c : Dev nD => Φ (barCell c) := by
  unfold barCells; rw [bigSep_map]; rfl
theorem cps_eq (Φ : GSem nD τ sig → sProp 𝕄) : bigSep cpCells Φ
    = bigSep Finset.univ fun c : Dev nD => iprop((bigSep Finset.univ fun p : Cp => Φ (sendCell c p)) ∗ bigSep Finset.univ fun p : Cp => Φ (recvCell c p)) := by
  unfold cpCells; rw [bigSep_map, bigSep_univ_prod]
  refine bigSep_congr fun c _ => ?_
  rw [bigSep_univ_sum]; rfl

/-! ## The launch credit -/

/-- How many of a device's dues fall to a barrier, or to a copy's arrival. -/
def hitBar (c d : Dev nD) : Due → ℕ
  | .bar δ => if has δ d = true ∧ towards δ d = c then 1 else 0
  | .cp _ => 0
def hitCp (c : Dev nD) (p : Cp) (d : Dev nD) : Due → ℕ
  | .bar _ => 0
  | .cp p' => if p' = p ∧ act d p' = true ∧ peer d p' = c then 1 else 0

theorem bars_hit : ∀ c : Dev nD, (∑ d : Dev nD, (dues.map (hitBar c d)).sum) = (k0_amt1 c).toNat := by decide +kernel
theorem cps_hit : ∀ (c : Dev nD) (p : Cp), (∑ d : Dev nD, (dues.map (hitCp c p d)).sum) = if ract c p = true then 1 else 0 := by decide +kernel

theorem owing_at (c : Dev nD) (l : List Due) (g : GSem nD τ sig) :
    owing c l g () = (l.map fun d => dueOf c d g ()).sum := by
  induction l with
  | nil => rfl
  | cons d l ih =>
    show (dueOf c d + owing c l) g () = _
    rw [Pi.add_apply, Finsupp.add_apply, ih]; rfl

theorem due_bar (c d : Dev nD) (x : Due) : dueOf d x (barCell c) () = hitBar c d x := by
  unfold dueOf
  cases x with
  | bar δ =>
    show (if has δ d = true then (tallyAt (barCell (towards δ d)) () 1 : CellTallies nD τ sig Unit) else 0) (barCell c) () = if _ then 1 else 0
    by_cases h : has δ d = true
    · rw [if_pos h, tallyAt_apply]
      by_cases e : towards δ d = c
      · rw [if_pos ⟨by rw [e], rfl⟩, if_pos ⟨h, e⟩]
      · rw [if_neg fun hh => e (congrArg (fun g : GSem nD τ sig => g.1.1) hh.1).symm, if_neg fun hh => e hh.2]
    · rw [if_neg h, if_neg fun hh => h hh.1]; rfl
  | cp p =>
    show (if act d p = true then (tallyAt (recvCell (peer d p) p) () N : CellTallies nD τ sig Unit) else 0) (barCell c) () = 0
    split
    · rw [tallyAt_apply, if_neg fun hh => nomatch (congrArg (fun g : GSem nD τ sig => g.2) hh.1 : (SemLoc.reg barS : SemLoc sig) = .dma (recvS p))]
    · rfl

theorem due_cp (c : Dev nD) (p : Cp) (d : Dev nD) (x : Due) : dueOf d x (recvCell c p) () = N * hitCp c p d x := by
  unfold dueOf
  cases x with
  | bar δ =>
    show (if has δ d = true then (tallyAt (barCell (towards δ d)) () 1 : CellTallies nD τ sig Unit) else 0) (recvCell c p) () = N * 0
    split
    · rw [tallyAt_apply, if_neg fun hh => nomatch (congrArg (fun g : GSem nD τ sig => g.2) hh.1 : (SemLoc.dma (recvS p) : SemLoc sig) = .reg barS)]; rfl
    · rfl
  | cp p' =>
    show (if act d p' = true then (tallyAt (recvCell (peer d p') p') () N : CellTallies nD τ sig Unit) else 0) (recvCell c p) () = N * if _ then 1 else 0
    by_cases h : act d p' = true
    · rw [if_pos h, tallyAt_apply]
      by_cases e : p' = p ∧ peer d p' = c
      · obtain ⟨rfl, e⟩ := e
        rw [if_pos ⟨by rw [e], rfl⟩, if_pos ⟨rfl, h, e⟩, Nat.mul_one]
      · rw [if_neg fun hh => e ⟨recvS_inj p' p (SemLoc.dma.inj (congrArg (fun g : GSem nD τ sig => g.2) hh.1).symm), (congrArg (fun g : GSem nD τ sig => g.1.1) hh.1).symm⟩,
          if_neg fun hh => e ⟨hh.1, hh.2.2⟩, Nat.mul_zero]
    · rw [if_neg h, if_neg fun hh => h hh.2.1, Nat.mul_zero]; rfl

def owed0 (c : Dev nD) : CellTallies nD τ sig Unit := owing c dues

theorem sum_mul (l : List Due) (f : Due → ℕ) : (l.map fun x => N * f x).sum = N * (l.map f).sum := by
  induction l with
  | nil => rfl
  | cons d l ih => rw [List.map_cons, List.sum_cons, ih, List.map_cons, List.sum_cons, Nat.mul_add]

theorem launch_bar (c : Dev nD) :
    tallyOn (barCell c) (launchCredit (Pipeline.owing owed0) 0 (barCell c)) = (tallyAt (barCell c) () (k0_amt1 c).toNat : CellTallies nD τ sig Unit) := by
  unfold tallyAt; refine congrArg _ (Finsupp.ext fun u => ?_); cases u
  rw [Pipeline.launchCredit_owing, Finsupp.single_eq_same, ← bars_hit c]
  refine Finset.sum_congr rfl fun d _ => ?_
  rw [owed0, owing_at]
  exact congrArg List.sum (List.map_congr_left fun x _ => due_bar c d x)

theorem launch_cp (c : Dev nD) (p : Cp) (h : ract c p = true) :
    tallyOn (recvCell c p) (launchCredit (Pipeline.owing owed0) 0 (recvCell c p)) = (tallyAt (recvCell c p) () N : CellTallies nD τ sig Unit) := by
  unfold tallyAt; refine congrArg _ (Finsupp.ext fun u => ?_); cases u
  rw [Pipeline.launchCredit_owing, Finsupp.single_eq_same]
  have e := cps_hit c p
  rw [if_pos h] at e
  have e2 : (∑ d : Dev nD, N * (dues.map (hitCp c p d)).sum) = N := by rw [← Finset.mul_sum, e, Nat.mul_one]
  refine Eq.trans ?_ e2
  refine Finset.sum_congr rfl fun d _ => ?_
  rw [owed0, owing_at, ← sum_mul]
  exact congrArg List.sum (List.map_congr_left fun x _ => due_cp c p d x)

def recvEmb : Cp ↪ SemLoc sig := ⟨fun p => .dma (recvS p), fun p p' h => recvS_inj p p' (SemLoc.dma.inj h)⟩

theorem drop {P : sProp 𝕄} : P ⊢ iprop(emp) := by
  iintro -
  iempintro

theorem creds (c : Dev nD) : (Pipeline.launchCred owed0 c : sProp 𝕄) ⊢ promised (F := F) c := by
  unfold Pipeline.launchCred promised
  rw [bigSep_univ_at _ (SemLoc.reg barS), launch_bar]
  refine sep_mono_right ?_
  have hs : (Finset.univ.map recvEmb : Finset (SemLoc sig)) ⊆ Finset.univ.erase (SemLoc.reg barS) := fun s hs => by
    obtain ⟨p, -, rfl⟩ := Finset.mem_map.mp hs
    exact Finset.mem_erase.mpr ⟨fun h => absurd (show (SemLoc.dma (recvS p) : SemLoc sig) = .reg barS from h) (fun h => nomatch h), Finset.mem_univ _⟩
  refine (bigSep_subset hs).trans ?_
  rw [bigSep_map]
  refine bigSep_mono fun p _ => ?_
  cases h : ract c p with
  | true =>
    rw [cif_true rfl]
    exact Entails.of_eq (congrArg cred (launch_cp c p h))
  | false =>
    rw [cif_false rfl]
    exact drop

/-! ## Dealing it all out -/

theorem families {ι : Type} [Fintype ι] [DecidableEq ι] {Φ Ψ : ι → sProp 𝕄} :
    iprop(bigSep Finset.univ Φ ∗ bigSep Finset.univ Ψ) ⊢ bigSep Finset.univ fun i => iprop(Φ i ∗ Ψ i) := by
  rw [← bigSep_sep']

/-- What device `c` gets of what the launch makes. -/
def share (c : Dev nD) : sProp 𝕄 :=
  iprop(atPos ER (barCell c) 0 ∅ 0
    ∗ ((bigSep Finset.univ fun p : Cp => openTok ER (sendCell c p)) ∗ bigSep Finset.univ fun p : Cp => openTok ER (recvCell c p))
    ∗ (bigSep Finset.univ fun δ : Fin 4 => cif (has δ c) (dutyTok ER (barCell (towards δ c)) 0 (opp δ)))
    ∗ (bigSep Finset.univ fun p : Cp => cif (act c p) (dutyTok ER (sendCell c p) 0 0))
    ∗ bigSep Finset.univ fun p : Cp => cif (act c p) (dutyTok ER (recvCell (peer c p) p) 0 0))

def known (κ : GSem nD τ sig → ℕ) : sProp 𝕄 :=
  iprop((bigSep (barCells ∪ cpCells) fun g => cellInv ER (Rd m) (κ g) g) ∗ bigSep Finset.univ fun c : Dev nD => reached ER (barCell c) 0)
instance (κ : GSem nD τ sig → ℕ) : BI.Persistent (known m κ) := by unfold known; infer_instance

theorem all_bars (c : Dev nD) : (bigSep Finset.univ fun c : Dev nD => (reached ER (barCell c) 0 : sProp 𝕄)) ⊢ reached ER (barCell c) 0 :=
  bigSep_elim (Finset.mem_univ c)

theorem bar_deal (c : Dev nD) (δ : Fin 4) : iprop((bigSep Finset.univ fun c : Dev nD => (reached ER (barCell c) 0 : sProp 𝕄)) ∗ cif (has δ c) (dutyTok ER (barCell (towards δ c)) 0 (opp δ)))
    ⊢ bartok (F := F) c δ := by
  unfold bartok
  cases h : has δ c with
  | true =>
    rw [cif_true rfl, cif_true rfl]
    iintro ⟨#HR, H⟩
    isplitl [H]; · iexact H
    iapply (all_bars (F := F) (towards δ c))
    iexact HR
  | false =>
    rw [cif_false rfl, cif_false rfl]
    iintro -
    iempintro

theorem cif_sep (b : Bool) (P Q : sProp 𝕄) : iprop(cif b P ∗ cif b Q) ⊢ cif b iprop(P ∗ Q) := by
  cases b with
  | true => rw [cif_true rfl, cif_true rfl, cif_true rfl]
  | false =>
    rw [cif_false rfl, cif_false rfl, cif_false rfl]
    iintro -
    iempintro

theorem deal (κ : GSem nD τ sig → ℕ) (c : Dev nD) : iprop(known m κ ∗ share (F := F) c) ⊢ iprop(∃ κ : Names, dormant m κ c) := by
  unfold known share dormant invs
  iintro ⟨⟨#HI, #HR⟩, Hat, ⟨Ho, Hv⟩, Hb, Hs, Hr⟩
  iexists (⟨κ, barCells ∪ cpCells, cells_sub⟩ : Names)
  isplitr; · iexact HI
  isplitl [Hat]; · iexact Hat
  isplitl [Hb]
  · iapply (bigSep_with_persistent (R := bigSep Finset.univ fun c : Dev nD => (reached ER (barCell c) 0 : sProp 𝕄)) (Φ := fun δ : Fin 4 => cif (has δ c) (dutyTok ER (barCell (towards δ c)) 0 (opp δ))) fun δ _ => bar_deal c δ)
    isplitr; · iexact HR
    iexact Hb
  iapply families
  isplitl [Ho Hv]
  · iapply families
    isplitl [Ho] <;> iassumption
  · have key : iprop((bigSep Finset.univ fun p : Cp => cif (act c p) (dutyTok ER (sendCell c p) 0 0))
      ∗ bigSep Finset.univ fun p : Cp => cif (act c p) (dutyTok ER (recvCell (peer c p) p) 0 0))
      ⊢ (bigSep Finset.univ fun p : Cp => cif (act c p) iprop(dutyTok ER (sendCell c p) 0 0 ∗ dutyTok ER (recvCell (peer c p) p) 0 0) : sProp 𝕄) := by
      rw [← bigSep_sep']
      exact bigSep_mono fun p _ => cif_sep _ _ _
    iapply key
    isplitl [Hs] <;> iassumption

/-- The launch's element of the exchange's ghost state. -/
def seed : UR' := launchOf barCells cpCells tokens

theorem fund : iprop((bigSep Finset.univ fun c : Dev nD => (semVal (barCell c) 0 : sProp 𝕄)) ∗ BI.own (ER seed))
    ⊢ |={Set.univ}=> bigSep Finset.univ fun c : Dev nD => iprop(∃ κ : Names, dormant m κ c) := by
  unfold seed
  iintro ⟨Hv, Hu⟩
  imod (Rounds.fund_launch ER (Rd m) disjoint_cells (fun g _ h => h) tokens) $$ [Hv Hu] with ⟨%κ, -, #HI, Hr, Hat, Ho, Ht⟩
  · isplitl [Hv]
    · iapply (Entails.of_eq (bars_eq fun g => (semVal g 0 : sProp 𝕄)).symm); iexact Hv
    · iexact Hu
  imodintro
  ihave Hr := (Entails.of_eq (bars_eq fun g => (reached ER g 0 : sProp 𝕄))) $$ Hr
  icases Hr with #Hr
  ihave Hat := (Entails.of_eq (bars_eq fun g => (atPos ER g 0 ∅ 0 : sProp 𝕄))) $$ Hat
  ihave Ho := (Entails.of_eq (cps_eq fun g => (openTok ER g : sProp 𝕄))) $$ Ho
  ihave Ht := (Entails.of_eq (tokens_eq (F := F))) $$ Ht
  iapply (bigSep_with_persistent (R := known m κ) (Φ := fun c => share (F := F) c) fun c _ => deal m κ c)
  isplitr
  · unfold known
    isplitr; · iexact HI
    iexact Hr
  unfold share
  iapply families; isplitl [Hat]; · iexact Hat
  iapply families; isplitl [Ho]; · iexact Ho
  iexact Ht

end Cert.Embed

end
-- ==== Proof.Region.lean ====
/-
  The kernel's region: its windows, its body, its semaphores opened.
-/
module

public import proofs.«01_k».proof.Proof.Launch
public import proofs.«01_k».proof.Proof.Gen.KernelIdeal.Regions
public import proofs.«01_k».proof.Proof.Gen.KernelIdeal.Points

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

variable (m : (ℓ : Loc nD τ sig) → Buf (Elt F) ℓ)

open Idealize.ShloMosaic.Pipeline (Dat Cfg BodyObligation)

/-- The kernel's body as the region calls it. -/
abbrev theBody : Prog (TpuEff nD τ sig (Elt F) Λ₀ .tc) PUnit :=
  (cc0_body (F := F) (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16)

/-- The body's run on device `c`. -/
def Runs (c : Dev nD) : Prop :=
  ∀ (κ : Names) (f : S2x128x1024.Idx → Elt F .f32) (g : S256x1024.Idx → Elt F .bf16) (h : S2048x1024.Idx → Elt F .bf16) (X : sProp 𝕄),
    G0 m κ c dues iprop(sg c 0 ∗ sg c 1 ∗ sg c 3 ∗ sg c 2 ∗ (atPos ER (barCell c) 0 ∅ 0 ∗ cred (tallyAt (barCell c) () (k0_amt1 c).toNat) ∗ bigSep Finset.univ fun p => ptoks c p)
        ∗ Recvs m c (fun _ => 0) ∗ before m c f g h X)
      ⊢ (wp frame (wpE (defs₀ (F := F)) 𝒱₀ (c : Thread nD τ) none) Set.univ) (theBody (F := F)) fun _ => G m κ c a30 b30 [] (after m c X)

/-! ## The region's data -/

def inv0 (c : Dev nD) : sProp 𝕄 :=
  iprop((∃ κ : Names, opened m κ c) ∗ levAts L lv ∗ scr c ∗ embP m c ∗ gsems c ∗ ∃ r, prngReg c r)
def inv1 (c : Dev nD) : sProp 𝕄 :=
  iprop(scr c ∗ embP m c ∗ gsems c ∗ (bigSep Finset.univ fun p => semVal (sendCell c p) 0) ∗ (bigSep Finset.univ fun p => semVal (recvCell c p) 0)
    ∗ semVal (barCell c) 0 ∗ ∃ r, prngReg c r)

def dat (c : Dev nD) : Dat τ (Elt F) Unit ℕ UU ℕ cfg0 c where
  A w := match w with
    | ⟨0, _⟩ => idsv m c
    | ⟨1, _⟩ => maskv m c
    | ⟨2, _⟩ => V3 m c main_v16
    | ⟨_ + 3, h⟩ => absurd h (Nat.not_lt.2 (Nat.le_add_left _ _))
  after w _ := match w with
    | ⟨0, _⟩ => idsv m c
    | ⟨1, _⟩ => maskv m c
    | ⟨2, _⟩ => outv m c
    | ⟨_ + 3, h⟩ => absurd h (Nat.not_lt.2 (Nat.le_add_left _ _))
  Φ t := match t with
    | ⟨0, _⟩ => inv0 m c
    | ⟨_ + 1, _⟩ => inv1 m c
  q _ := fullShare
  owed t := match t with
    | ⟨0, _⟩ => owed0 c
    | ⟨_ + 1, _⟩ => 0

abbrev dats : (p : Fin 1) → (c : Dev nD) → Dat τ (Elt F) Unit ℕ UU ℕ (cfgs p) c := fun _ c => dat m c

theorem read_ids (f : main_v13.ty.Contents (Elt F)) : (win0_0.blk t0_0).view.read (Elt F) f = f :=
  Memref.read_access_unit_zero (Elt F) main_v13
    (show (fun a => (win0_0.index t0_0) a * main_v13.ty.shape.size a) = fun _ => 0 from
      funext fun a => by fin_cases a <;> decide) (fun a => by fin_cases a <;> decide) f
theorem read_mask (f : main_v15.ty.Contents (Elt F)) : (win0_1.blk t0_0).view.read (Elt F) f = f :=
  Memref.read_access_unit_zero (Elt F) main_v15
    (show (fun a => (win0_1.index t0_0) a * main_v15.ty.shape.size a) = fun _ => 0 from
      funext fun a => by fin_cases a <;> decide) (fun a => by fin_cases a <;> decide) f
theorem read_res (f : main_v16.ty.Contents (Elt F)) : (win0_2.blk t0_0).view.read (Elt F) f = f :=
  Memref.read_access_unit_zero (Elt F) main_v16
    (show (fun a => (win0_2.index t0_0) a * main_v16.ty.shape.size a) = fun _ => 0 from
      funext fun a => by fin_cases a <;> decide) (fun a => by fin_cases a <;> decide) f

theorem before_ids (c : Dev nD) (d) : (dat m c).before 0 t0_0 d = idsv m c := by
  unfold Dat.before; rw [if_pos (fetch0_0 t0_0)]
  show (win0_0.blk t0_0).view.read (Elt F) (idsv m c) = _
  exact read_ids _
theorem before_mask (c : Dev nD) (d) : (dat m c).before 1 t0_0 d = maskv m c := by
  unfold Dat.before; rw [if_pos (fetch0_1 t0_0)]
  show (win0_1.blk t0_0).view.read (Elt F) (maskv m c) = _
  exact read_mask _

theorem arrAt_ids (c : Dev nD) (n : ℕ) : (dat m c).arrAt 0 n = idsv m c := Dat.arrAt_in _ 0 rfl n
theorem arrAt_mask (c : Dev nD) (n : ℕ) : (dat m c).arrAt 1 n = maskv m c := Dat.arrAt_in _ 1 rfl n
theorem arrAt_res (c : Dev nD) : (dat m c).arrAt 2 cfg0.N = outv m c := by
  have hw : ((cfg0.win 2).blk t0_0).view.read (Elt F) ((dat m c).arrAt 2 cfg0.N) = (dat m c).flushed 2 t0_0 := by
    rw [show cfg0.N = t0_0.val + 1 from rfl, (dat m c).arrAt_succ (2 : Fin 3) t0_0, flush0_2, if_pos rfl]
    exact View.read_write_univ _ _
  exact (read_res _).symm.trans (hw.trans rfl)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_out (c : Dev nD) (t) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, H⟩; iexists W; iexact H
theorem owes_in (c : Dev nD) (t) (O : CellTallies nD τ sig Unit) (h0 : (dat m c).owed t = O) :
    iprop(∃ W, owes (c : Thread nD τ) O W) ⊢ ((dat m c).owesAt () t : sProp 𝕄) := by
  unfold Dat.owesAt Pipeline.owesWithin Dat.bound; rw [h0]
  iintro ⟨%W, H⟩; iexists W; isplitr
  · ipureintro; exact fun _ _ => Or.inl trivial
  iexact H

/-! ## The body's obligation -/

variable {m}

theorem whole_run {c : Dev nD} (hr : Runs m c) (κ : Names) (h : S2048x1024.Idx → Elt F .bf16) (X : sProp 𝕄) :
    iprop(opened m κ c ∗ levAts L lv ∗ Ow c dues ∗ scr c ∗ outP c h ∗ idsP m c ∗ maskP m c ∗ embP m c ∗ gsems c ∗ X)
      ⊢ (wp frame (wpE (defs₀ (F := F)) 𝒱₀ (c : Thread nD τ) none) Set.univ) (theBody (F := F)) fun _ => finished m c X :=
  start h fun f g => (hr κ f g h X).trans ((wp_mono _ _ _ fun _ => finish).trans (wp_fupd _ _ _ _ _))

theorem obligation {c : Dev nD} (hr : Runs m c) : BodyObligation (dat m c) (defs₀ (F := F)) 𝒱₀ () Set.univ := fun t => by
  obtain rfl := fin_N0 t
  rw [bigSep_W0, bigSep_W0]
  rw [show (dat m c).Φ t0_0.castSucc = inv0 m c from rfl, show (dat m c).Φ t0_0.succ = inv1 m c from rfl]
  simp only [before_ids, before_mask]
  show iprop(inv0 m c ∗ (dat m c).owesAt () t0_0.castSucc ∗ ((∃ d, owns (c : Thread nD τ) (Memref.whole cc0_stg0_0) fullShare (idsv m c)) ∗ (∃ d, owns (c : Thread nD τ) (Memref.whole cc0_stg1_0) fullShare (maskv m c))
      ∗ ∃ d, owns (c : Thread nD τ) (Memref.whole cc0_stg2_0) fullShare ((dat m c).before 2 t0_0 d)))
    ⊢ (wp frame (wpE (defs₀ (F := F)) 𝒱₀ (c : Thread nD τ) none) Set.univ) (theBody (F := F)) fun _ => iprop(inv1 m c ∗ (dat m c).owesAt () t0_0.succ ∗ (owns (c : Thread nD τ) (Memref.whole cc0_stg0_0) fullShare (idsv m c) ∗ owns (c : Thread nD τ) (Memref.whole cc0_stg1_0) fullShare (maskv m c)
      ∗ owns (c : Thread nD τ) (Memref.whole cc0_stg2_0) fullShare (outv m c)))
  simp only [owns_whole_eq]
  have post : finished m c iprop(∃ r, prngReg c r) ⊢ iprop(inv1 m c ∗ (dat m c).owesAt () t0_0.succ ∗ ((∃ f : Buf (Elt F) ((c : Thread nD τ).loc cc0_stg0_0), ⌜f = idsv m c⌝ ∗ (((c : Thread nD τ).loc cc0_stg0_0) ↦{fullShare} f))
      ∗ (∃ f : Buf (Elt F) ((c : Thread nD τ).loc cc0_stg1_0), ⌜f = maskv m c⌝ ∗ (((c : Thread nD τ).loc cc0_stg1_0) ↦{fullShare} f))
      ∗ (∃ f : Buf (Elt F) ((c : Thread nD τ).loc cc0_stg2_0), ⌜f = outv m c⌝ ∗ (((c : Thread nD τ).loc cc0_stg2_0) ↦{fullShare} f)))) := by
    unfold finished inv1 outP idsP maskP Ow
    iintro ⟨HO, Hs, Ho, Hi, Hm, He, Hg, Vs, Vr, Vb, Hp⟩
    isplitl [Hs He Hg Vs Vr Vb Hp]
    · isplitl [Hs]; · iexact Hs
      isplitl [He]; · iexact He
      isplitl [Hg]; · iexact Hg
      isplitl [Vs]; · iexact Vs
      isplitl [Vr]; · iexact Vr
      isplitl [Vb]; · iexact Vb
      iexact Hp
    isplitl [HO]
    · iapply (owes_in m c t0_0.succ 0 rfl); iexact HO
    isplitl [Hi]
    · iexists (idsv m c); isplitr; · ipureintro; rfl
      iexact Hi
    isplitl [Hm]
    · iexists (maskv m c); isplitr; · ipureintro; rfl
      iexact Hm
    · iexists (outv m c); isplitr; · ipureintro; rfl
      iexact Ho
  iintro ⟨HI, HO, ⟨%d0, %f0, %h0, H0⟩, ⟨%d1, %f1, %h1, H1⟩, ⟨%d2, %f2, %h2, H2⟩⟩
  subst h0 h1
  ihave HO := (owes_out m c t0_0.castSucc (owed0 c) rfl) $$ HO
  unfold inv0
  icases HI with ⟨⟨%κ, Hop⟩, Hlev, Hs, He, Hg, Hp⟩
  iapply ((whole_run hr κ f2 iprop(∃ r, prngReg c r)).trans (wp_mono _ _ _ fun _ => post))
  isplitl [Hop]; · iexact Hop
  isplitl [Hlev]; · iexact Hlev
  isplitl [HO]; · unfold Ow; iexact HO
  isplitl [Hs]; · iexact Hs
  isplitl [H2]; · unfold outP; iexact H2
  isplitl [H0]; · unfold idsP; iexact H0
  isplitl [H1]; · unfold maskP; iexact H1
  isplitl [He]; · iexact He
  isplitl [Hg]; · iexact Hg
  iexact Hp

/-! ## Opening the scoped semaphores -/

/-- The kernel's own semaphores that are used: the copies' and the gathers'. -/
def osem : (Cp ⊕ Cp) ⊕ Fin 2 → SemLoc sig
  | .inl x => .dma (cpS x)
  | .inr k => .dma (gS k)

theorem send_scoped : ∀ p : Cp, (SemLoc.dma (sendS p) : SemLoc sig).isScoped .tc = true := by decide
theorem recv_scoped : ∀ p : Cp, (SemLoc.dma (recvS p) : SemLoc sig).isScoped .tc = true := by decide
theorem g_scoped : ∀ k : Fin 2, (SemLoc.dma (gS k) : SemLoc sig).isScoped .tc = true := by decide
theorem send_ne_g : ∀ (p : Cp) (k : Fin 2), sendS p ≠ gS k := by decide
theorem recv_ne_g : ∀ (p : Cp) (k : Fin 2), recvS p ≠ gS k := by decide
theorem gS_inj : ∀ k k' : Fin 2, gS k = gS k' → k = k' := by decide
theorem send_ne_stage : ∀ (p : Cp) (w : Fin 3), (sendS p).val ≠ w.val := by decide
theorem recv_ne_stage : ∀ (p : Cp) (w : Fin 3), (recvS p).val ≠ w.val := by decide
theorem g_ne_stage : ∀ (k : Fin 2) (w : Fin 3), (gS k).val ≠ w.val := by decide
theorem stage_sem : ∀ (w : Fin 3) (s : Fin (spec0 w).nbuf), ((spec0 w).sem s).val = w.val := by decide

theorem osem_facts : Pipeline.OwnSemFacts spec0 osem where
  isScoped
    | .inl (.inl p) => send_scoped p
    | .inl (.inr p) => recv_scoped p
    | .inr k => g_scoped k
  inj := by
    rintro ((p | p) | k) ((p' | p') | k') h
    · exact congrArg Sum.inl (cpS_inj (SemLoc.dma.inj h))
    · exact congrArg Sum.inl (cpS_inj (SemLoc.dma.inj h))
    · exact absurd (SemLoc.dma.inj h) (send_ne_g p k')
    · exact congrArg Sum.inl (cpS_inj (SemLoc.dma.inj h))
    · exact congrArg Sum.inl (cpS_inj (SemLoc.dma.inj h))
    · exact absurd (SemLoc.dma.inj h) (recv_ne_g p k')
    · exact absurd (SemLoc.dma.inj h).symm (send_ne_g p' k)
    · exact absurd (SemLoc.dma.inj h).symm (recv_ne_g p' k)
    · exact congrArg Sum.inr (gS_inj k k' (SemLoc.dma.inj h))
  disj k w s h := by
    have e := stage_sem w s
    rcases k with (p | p) | k
    · exact send_ne_stage p w ((congrArg Fin.val (SemLoc.dma.inj h)).trans e)
    · exact recv_ne_stage p w ((congrArg Fin.val (SemLoc.dma.inj h)).trans e)
    · exact g_ne_stage k w ((congrArg Fin.val (SemLoc.dma.inj h)).trans e)

theorem own_sems (c : Dev nD) : (Pipeline.ownSems0 osem c : sProp 𝕄)
    = iprop(((bigSep Finset.univ fun p => semVal (sendCell c p) 0) ∗ bigSep Finset.univ fun p => semVal (recvCell c p) 0) ∗ gsems c) := by
  unfold Pipeline.ownSems0 gsems
  rw [bigSep_univ_sum, bigSep_univ_sum, BI.bigSep_fin_two]
  rfl

variable (m)

theorem open_copy (κ : Names) (c : Dev nD) (p : Cp) :
    iprop(invs m κ ∗ ((openTok ER (sendCell c p) ∗ openTok ER (recvCell c p)) ∗ cif (act c p) iprop(dutyTok ER (sendCell c p) 0 0 ∗ dutyTok ER (recvCell (peer c p) p) 0 0))
        ∗ (semVal (sendCell c p) 0 ∗ semVal (recvCell c p) 0))
      ⊢ |={Set.univ}=> iprop(ptoks c p ∗ (atPos ER (recvCell c p) 0 ∅ 0 ∗ reached ER (recvCell c p) 0)) := by
  unfold ptoks
  iintro ⟨#HI, ⟨⟨Os, Or⟩, Ht⟩, Vs, Vr⟩
  imod (Rounds.cell_open ER (Rd m) (g := sendCell c p) (Set.mem_univ (κ.nm (sendCell c p)))) $$ [Os Vs] with ⟨As, #Rs⟩
  · isplitr; · iapply (invs_at m κ _ (send_mem c p)); iexact HI
    isplitl [Os] <;> iassumption
  imod (Rounds.cell_open ER (Rd m) (g := recvCell c p) (Set.mem_univ (κ.nm (recvCell c p)))) $$ [Or Vr] with ⟨Ar, #Rr⟩
  · isplitr; · iapply (invs_at m κ _ (recv_mem c p)); iexact HI
    isplitl [Or] <;> iassumption
  imodintro
  isplitl [As Ht]
  · isplitl [As]; · iexact As
    isplitr; · iexact Rs
    iexact Ht
  · isplitl [Ar]; · iexact Ar
    iexact Rr

def hold (c : Dev nD) : sProp 𝕄 := iprop((∃ κ : Names, dormant m κ c) ∗ promised (F := F) c)
def ready0 (c : Dev nD) : sProp 𝕄 := iprop((∃ κ : Names, opened m κ c) ∗ levAts L lv ∗ gsems c)

theorem open_all (c : Dev nD) : iprop(hold m c ∗ Pipeline.ownSems0 osem c ∗ levAts L lv) ⊢ (|={Set.univ}=> ready0 m c : sProp 𝕄) := by
  rw [own_sems]
  unfold hold dormant promised ready0 opened Recvs
  iintro ⟨⟨⟨%κ, #HI, Hat, Hb, Hp⟩, Hc, Hcs⟩, ⟨⟨Vs, Vr⟩, Hg⟩, Hlev⟩
  have key : iprop(invs m κ ∗ bigSep Finset.univ fun p : Cp => iprop(((openTok ER (sendCell c p) ∗ openTok ER (recvCell c p)) ∗ cif (act c p) iprop(dutyTok ER (sendCell c p) 0 0 ∗ dutyTok ER (recvCell (peer c p) p) 0 0))
        ∗ (semVal (sendCell c p) 0 ∗ semVal (recvCell c p) 0)))
      ⊢ (|={Set.univ}=> bigSep Finset.univ fun p : Cp => iprop(ptoks c p ∗ (atPos ER (recvCell c p) 0 ∅ 0 ∗ reached ER (recvCell c p) 0)) : sProp 𝕄) :=
    (bigSep_with_persistent fun p _ => open_copy m κ c p).trans (bigSep_fupd _ _)
  imod key $$ [Hp Vs Vr] with H
  · isplitr; · iexact HI
    iapply families
    isplitl [Hp]; · iexact Hp
    iapply families
    isplitl [Vs] <;> iassumption
  imodintro
  have spl : (bigSep Finset.univ fun p : Cp => iprop(ptoks c p ∗ (atPos ER (recvCell c p) 0 ∅ 0 ∗ reached ER (recvCell c p) 0)) : sProp 𝕄)
      ⊢ iprop((bigSep Finset.univ fun p : Cp => ptoks c p) ∗ (bigSep Finset.univ fun p : Cp => atPos ER (recvCell c p) 0 ∅ 0) ∗ bigSep Finset.univ fun p : Cp => reached ER (recvCell c p) 0) := by
    rw [bigSep_sep', bigSep_sep']
  ihave H := spl $$ H
  icases H with ⟨Hp, Ha, Hr⟩
  isplitl [Hat Hb Hp Ha Hr Hc Hcs]
  · iexists κ
    isplitr; · iexact HI
    isplitl [Hat]; · iexact Hat
    isplitl [Hc]; · iexact Hc
    isplitl [Hb]; · iexact Hb
    isplitl [Hp]; · iexact Hp
    isplitr [Hr]
    · have e : (bigSep Finset.univ fun p : Cp => recvSt m c p 0 : sProp 𝕄) = bigSep Finset.univ fun p : Cp => iprop(atPos ER (recvCell c p) 0 ∅ 0 ∗ cif (ract c p) (cred (tallyAt (recvCell c p) () N))) :=
        bigSep_congr fun p _ => recvSt_zero m c p
      iapply (Entails.of_eq e.symm)
      iapply families
      isplitl [Ha] <;> iassumption
    · iexact Hr
  isplitl [Hlev] <;> iassumption

end Cert.Embed

end
-- ==== Proof.Run.lean ====
/-
  The whole program's run, from its launch to its end.
-/
module

public import proofs.«01_k».proof.Proof.Region

@[expose] public section

set_option maxRecDepth 65536
set_option maxHeartbeats 400000

noncomputable section

namespace Cert.Embed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Names} {c : Dev nD}

variable (m : (ℓ : Loc nD τ sig) → Buf (Elt F) ℓ)

open Idealize.ShloMosaic.Pipeline (Dat Cfg BodyObligation)

/-! ## The memory outside the region's windows -/

/-- What the region leaves in its result array. -/
def outs : Outs (F := F) := fun _ r c => Function.update (V3 m c) (Proc.devRef .tc main_v16) (outv m c) (Proc.devRef .tc r)
theorem outs_res (c : Dev nD) (n : ℕ) : outs m n main_v16 c = outv m c := Function.update_self _ _ _
theorem V4_res (c : Dev nD) : V4 m (outs m) c main_v16 = outv m c := (Function.update_self _ _ _).trans (outs_res m c 4)

abbrev tableRef : DevRef τ sig := Proc.devRef .tc main_arg1
abbrev arrs : Finset (DevRef τ sig) := Pipeline.arrRefs (τ := τ) spec0
abbrev off : Finset (DevRef τ sig) := Pipeline.ucRefs τ sig \ arrs

theorem arrs_eq : arrs = {Proc.devRef .tc main_v13, Proc.devRef .tc main_v15, Proc.devRef .tc main_v16} := by decide
theorem arrs_sub : arrs ⊆ Pipeline.ucRefs τ sig := by
  rw [arrs_eq]
  intro b hb
  simp only [Finset.mem_insert, Finset.mem_singleton] at hb
  rcases hb with rfl | rfl | rfl
  · exact Finset.mem_filter.mpr ⟨StableHlo.devRef_mem_tcRefs main_v13, by decide⟩
  · exact Finset.mem_filter.mpr ⟨StableHlo.devRef_mem_tcRefs main_v15, by decide⟩
  · exact Finset.mem_filter.mpr ⟨StableHlo.devRef_mem_tcRefs main_v16, by decide⟩
theorem table_off : ({tableRef} : Finset (DevRef τ sig)) ⊆ off := by
  intro b hb
  rw [Finset.mem_singleton] at hb
  subst hb
  refine Finset.mem_sdiff.mpr ⟨Finset.mem_filter.mpr ⟨StableHlo.devRef_mem_tcRefs main_arg1, by decide⟩, ?_⟩
  rw [arrs_eq]; decide

theorem held_split (c : Dev nD) (W : Valuation τ sig (Elt F)) :
    (StableHlo.held (c : Thread nD τ) (Pipeline.ucRefs τ sig) W : sProp 𝕄)
      = iprop(StableHlo.held (c : Thread nD τ) arrs W ∗ StableHlo.held (c : Thread nD τ) off W) :=
  bigSep_sdiff_split arrs_sub

theorem held_table (c : Dev nD) (W : Valuation τ sig (Elt F)) (h : W main_arg1 = embv m c) :
    (StableHlo.held (c : Thread nD τ) {tableRef} W : sProp 𝕄) = embP m c := by
  unfold StableHlo.held embP
  rw [bigSep_singleton, ← h]

/-! ## The region -/

theorem enter (c : Dev nD) : iprop(Pipeline.scopedRest (Pipeline.pin (pcfgs (F := F)) adm 0).spec c ∗ (∃ r, prngReg c r)
      ∗ StableHlo.held (c.tc : Thread nD τ) {tableRef} (V3 m c) ∗ ready0 m c) ⊢ (dats m 0 c).Φ 0 := by
  rw [show (dats m 0 c).Φ 0 = inv0 m c from rfl, held_table m c (V3 m c) rfl]
  rw [show (Pipeline.scopedRest (Pipeline.pin (pcfgs (F := F)) adm 0).spec c : sProp 𝕄) = scr c from scopedRest0_eq c]
  unfold inv0 ready0
  iintro ⟨Hs, Hp, He, Ho, Hl, Hg⟩
  isplitl [Ho]; · iexact Ho
  isplitl [Hl]; · iexact Hl
  isplitl [Hs]; · iexact Hs
  isplitl [He]; · iexact He
  isplitl [Hg]; · iexact Hg
  iexact Hp

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) {tableRef} (V4 m (outs m) c) ∗ Pipeline.ownSems0 osem c ∗ semVal (barCell c) 0) := by
  rw [show (dats m 0 c).Φ (Fin.last _) = inv1 m c from rfl, held_table m c (V4 m (outs m) c) (V4_of m (outs m) c main_arg1 (by decide)), own_sems]
  rw [show (Pipeline.scopedRest (Pipeline.pin (pcfgs (F := F)) adm 0).spec c : sProp 𝕄) = scr c from scopedRest0_eq c]
  unfold inv1
  iintro ⟨Hs, He, Hg, Vs, Vr, Vb, Hp⟩
  isplitl [Hs]; · iexact Hs
  isplitl [Hp]; · iexact Hp
  isplitl [He]; · iexact He
  isplitl [Vs Vr Hg]
  · isplitl [Vs Vr]
    · isplitl [Vs] <;> iassumption
    · iexact Hg
  iexact Vb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_level : ∀ (w : Fin 3) (s : Fin (spec0 w).nbuf), lev (.dma ((spec0 w).sem s)) = 0 := by decide +kernel

theorem due_pos (d : Due) : 0 < d.lvl := by
  cases d with
  | bar δ => exact Nat.one_pos
  | cp p =>
    show 0 < Embed.lvl p
    unfold Embed.lvl; split <;> omega

theorem owed_lev (c : Dev nD) (t : Fin ((Pipeline.pin (pcfgs (F := F)) adm 0).N + 1)) (g : GSem nD τ sig) (i : Unit) (h : 0 < (dats m 0 c).owed t g i) :
    i ∈ L g ∧ (0 : ℕ) < lv g i := by
  obtain ⟨t, ht⟩ := t
  cases t with
  | zero =>
    obtain ⟨d, -, rfl⟩ := owing_pos c dues g i h
    refine ⟨by cases d <;> (rw [Due.cell, L_tc]; exact Finset.mem_singleton_self _), ?_⟩
    show 0 < lev (d.cell c).2
    rw [lev_due]; exact due_pos d
  | succ t => exact absurd h (Nat.lt_irrefl 0)

theorem rest_same (c : Dev nD) : ∀ b ∈ off \ {tableRef}, V4 m (outs m) c b = V3 m c b := fun b hb => by
  have hb' : b ∉ arrs := (Finset.mem_sdiff.mp (Finset.mem_sdiff.mp hb).1).2
  rw [arrs_eq] at hb'
  refine Function.update_of_ne (fun h => hb' ?_) _ _
  rw [h]; decide

theorem first_arr (c : Dev nD) : ∀ w : Fin 3, (dats m 0 c).arrAt w 0 = V3 m c (Proc.devRef .tc (Pipeline.arrRef spec0 w))
  | ⟨0, _⟩ => rfl
  | ⟨1, _⟩ => rfl
  | ⟨2, _⟩ => rfl
theorem last_arr (c : Dev nD) : ∀ w : Fin 3, (dats m 0 c).arrAt w cfg0.N = V4 m (outs m) c (Proc.devRef .tc (Pipeline.arrRef spec0 w))
  | ⟨0, _⟩ => (arrAt_ids m c _).trans (V4_of m (outs m) c main_v13 (by decide)).symm
  | ⟨1, _⟩ => (arrAt_mask m c _).trans (V4_of m (outs m) c main_v15 (by decide)).symm
  | ⟨2, _⟩ => (arrAt_res m c).trans (V4_res m c).symm

set_option backward.isDefEq.respectTransparency.types false in
def region (hr : ∀ c, Runs m c) : Pipeline.RegionSeg (pcfgs (F := F)) adm (dats m) () defs₀ 𝒱₀ L lv 0 :=
  Pipeline.RegionSeg.ofTalk (pcfgs (F := F)) adm (dats m) () defs₀ 𝒱₀ L lv 0 osem osem_facts
    {tableRef} off table_off kit rfl (fun c => (obligation (hr c)).loose)
    (fun _ => 0) owed0 (fun c => (zero_add _).symm) (fun _ => rfl) (fun _ => rfl)
    (fun c w => by fin_cases w <;> rfl)
    (V3 m) (V4 m (outs m)) (rest_same m)
    (hold m) (fun c => semVal (barCell c) 0) (ready0 m) (fun c => semVal (barCell c) 0) (open_all m) (enter m) (leave m)
    (fun c => by iintro H; imodintro; iexact H)
    (fun _ => 0)
    ⟨fun c w s => by rw [L_tc]; exact Finset.mem_singleton_self _, fun c w s => le_of_eq (stage_level w s), fun c t g i h => owed_lev m c t g i h⟩
    (fun _ => iprop(emp))
    (first_arr m) (last_arr m)

/-- What rides beside the buffers up to the region, and after it. -/
def rest : Fin 2 → Dev nD → sProp 𝕄
  | 0, c => iprop(hold m c ∗ (∃ r, prngReg c r) ∗ ∃ W, owes (c : Thread nD τ) (owed0 c) W)
  | 1, c => iprop(semVal (barCell c) 0 ∗ ∃ W, owes (c : Thread nD τ) (0 : CellTallies nD τ sig Unit) W)

theorem region_pre (hr : ∀ c, Runs m c) (c : Dev nD) :
    iprop(StableHlo.held (c : Thread nD τ) (Pipeline.ucRefs τ sig) (V3 m c) ∗ rest m 0 c) ⊢ (region m hr).pre c := by
  show _ ⊢ iprop(StableHlo.held (c.tc : Thread nD τ) arrs (V3 m c) ∗ (∃ r, prngReg c r)
    ∗ (StableHlo.held (c.tc : Thread nD τ) off (V3 m c) ∗ emp) ∗ hold m c ∗ ∃ Wd, owes (c : Thread nD τ) (0 + owed0 c) Wd)
  rw [held_split, zero_add]
  unfold rest
  iintro ⟨⟨Ha, Ho⟩, Hk, Hp, HO⟩
  isplitl [Ha]; · iexact Ha
  isplitl [Hp]; · iexact Hp
  isplitl [Ho]
  · isplitl [Ho]; · iexact Ho
    iempintro
  isplitl [Hk]; · iexact Hk
  iexact HO

theorem region_post (hr : ∀ c, Runs m c) (c : Dev nD) :
    (region m hr).post c ⊢ iprop(StableHlo.held (c : Thread nD τ) (Pipeline.ucRefs τ sig) (V4 m (outs m) c) ∗ rest m 1 c) := by
  show iprop(StableHlo.held (c.tc : Thread nD τ) arrs (V4 m (outs m) c) ∗ (∃ r, prngReg c r)
    ∗ (StableHlo.held (c.tc : Thread nD τ) off (V4 m (outs m) c) ∗ emp) ∗ semVal (barCell c) 0 ∗ ∃ Wd, owes (c : Thread nD τ) (0 : CellTallies nD τ sig Unit) Wd) ⊢ _
  rw [held_split]
  unfold rest
  iintro ⟨Ha, -, ⟨Ho, -⟩, Vb, HO⟩
  isplitl [Ha Ho]
  · isplitl [Ha] <;> iassumption
  isplitl [Vb] <;> iassumption

/-! ## The launch -/

abbrev seeds : UU :=
  (initOf (Pipeline.cells (Pipeline.pin (pcfgs (F := F)) adm) cellOf_inj) (Pipeline.launchToks (Pipeline.pin (pcfgs (F := F)) adm) cellOf_inj), (Emb.inl : Emb UR' (UR' × Counters)) seed)

/-- A resource parked whole with one device until the launch deals it out. -/
def parked (X : sProp 𝕄) (c : Dev nD) : sProp 𝕄 := if c = 0 then X else iprop(emp)
theorem parked_eq (X : sProp 𝕄) : bigSep Finset.univ (parked X) = X := by
  have hz : (bigSep (Finset.univ.erase (0 : Dev nD)) (parked X) : sProp 𝕄) = iprop(emp) := by
    rw [bigSep_congr (Ψ := fun _ => (BI.emp : sProp 𝕄)) fun c hc => by unfold parked; rw [if_neg (Finset.ne_of_mem_erase hc)]; rfl]
    exact BI.bigSep_emp_const _
  rw [bigSep_univ_at _ (0 : Dev nD), hz]
  unfold parked; rw [if_pos rfl]
  exact BI.equiv_iff.mp sep_emp

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (ρ : Dev nD → PrngReg)

theorem start_all :
    iprop((bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ parked (BI.own (ER seed)) c)) ∗ levAts L lv)
      ⊢ (|={Set.univ}=> bigSep Finset.univ fun c : Dev nD => iprop(StableHlo.held (c : Thread nD τ) (Pipeline.ucRefs τ sig) (V0 m c) ∗ rest m 0 c) : sProp 𝕄) := by
  have each (c : Dev nD) : iprop(unscopedBufs c (fun b => m ((c : Thread nD τ).loc b)) ∗ unscopedSems0 c
          ∗ owes (c : Thread nD τ) (owed0 c) ∅ ∗ Pipeline.launchCred owed0 c ∗ prngReg c (ρ c) ∗ parked (BI.own (ER seed)) c)
      ⊢ iprop((StableHlo.held (c : Thread nD τ) (Pipeline.ucRefs τ sig) (V0 m c) ∗ promised (F := F) c ∗ (∃ r, prngReg c r) ∗ ∃ W, owes (c : Thread nD τ) (owed0 c) W)
        ∗ (semVal (barCell c) 0 ∗ parked (BI.own (ER seed)) c)) := by
    rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c), bar_only]
    iintro ⟨Hh, Hv, HO, Hc, Hp, HG⟩
    ihave Hc := (creds (F := F) c) $$ Hc
    isplitr [Hv HG]
    · isplitl [Hh]; · iexact Hh
      isplitl [Hc]; · iexact Hc
      isplitl [Hp]; · iexists (ρ c); iexact Hp
      iexists ∅; iexact HO
    · isplitl [Hv] <;> iassumption
  have all : (bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ parked (BI.own (ER seed)) c) : sProp 𝕄)
      ⊢ bigSep Finset.univ fun c : Dev nD => iprop((StableHlo.held (c : Thread nD τ) (Pipeline.ucRefs τ sig) (V0 m c) ∗ promised (F := F) c ∗ (∃ r, prngReg c r) ∗ ∃ W, owes (c : Thread nD τ) (owed0 c) W)
        ∗ (semVal (barCell c) 0 ∗ parked (BI.own (ER seed)) c)) := bigSep_mono fun c _ => each c
  have spl : (bigSep Finset.univ fun c : Dev nD => iprop((StableHlo.held (c : Thread nD τ) (Pipeline.ucRefs τ sig) (V0 m c) ∗ promised (F := F) c ∗ (∃ r, prngReg c r) ∗ ∃ W, owes (c : Thread nD τ) (owed0 c) W)
        ∗ (semVal (barCell c) 0 ∗ parked (BI.own (ER seed)) c)) : sProp 𝕄)
      ⊢ iprop((bigSep Finset.univ fun c : Dev nD => iprop(StableHlo.held (c : Thread nD τ) (Pipeline.ucRefs τ sig) (V0 m c) ∗ promised (F := F) c ∗ (∃ r, prngReg c r) ∗ ∃ W, owes (c : Thread nD τ) (owed0 c) W))
        ∗ (bigSep Finset.univ fun c : Dev nD => semVal (barCell c) 0) ∗ BI.own (ER seed)) := by
    rw [bigSep_sep', bigSep_sep' (Φ := fun c : Dev nD => (semVal (barCell c) 0 : sProp 𝕄)), parked_eq]
  have fin : (bigSep Finset.univ fun c : Dev nD => iprop((∃ κ : Names, dormant m κ c)
        ∗ (StableHlo.held (c : Thread nD τ) (Pipeline.ucRefs τ sig) (V0 m c) ∗ promised (F := F) c ∗ (∃ r, prngReg c r) ∗ ∃ W, owes (c : Thread nD τ) (owed0 c) W)) : sProp 𝕄)
      ⊢ bigSep Finset.univ fun c : Dev nD => iprop(StableHlo.held (c : Thread nD τ) (Pipeline.ucRefs τ sig) (V0 m c) ∗ rest m 0 c) := by
    have one (c : Dev nD) : iprop((∃ κ : Names, dormant m κ c)
        ∗ (StableHlo.held (c : Thread nD τ) (Pipeline.ucRefs τ sig) (V0 m c) ∗ promised (F := F) c ∗ (∃ r, prngReg c r) ∗ ∃ W, owes (c : Thread nD τ) (owed0 c) W))
        ⊢ iprop(StableHlo.held (c : Thread nD τ) (Pipeline.ucRefs τ sig) (V0 m c) ∗ rest m 0 c) := by
      unfold rest hold
      iintro ⟨Hd, Hh, Hc, Hp, HO⟩
      isplitl [Hh]; · iexact Hh
      isplitl [Hd Hc]
      · isplitl [Hd] <;> iassumption
      isplitl [Hp] <;> iassumption
    exact bigSep_mono fun c _ => one c
  iintro ⟨H, -⟩
  ihave H := all $$ H
  ihave H := spl $$ H
  icases H with ⟨HB, Hv, Hu⟩
  imod (fund m) $$ [Hv Hu] with Hd
  · isplitl [Hv] <;> iassumption
  imodintro
  iapply fin
  iapply families
  isplitl [Hd] <;> iassumption

theorem unscoped_bar : ∀ sm : SemLoc sig, sm.isScoped .tc = false → sm = .reg barS := by decide +kernel

set_option backward.isDefEq.respectTransparency.types false in
/-- The run: every execution ends with both arguments unchanged, the result array at `outv`, every semaphore at zero. -/
theorem run_of (hr : ∀ c, Runs m c) : θ_run defs (onTc (τ := τ) (main (F := F))) ⟨m, fun _ => 0, ρ⟩
    (fun r => (∀ c : Dev nD, r.2.mem ((c : Thread nD τ).loc main_v16) = outv m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  refine Pipeline.θ_run_regions_kit_dev_sems (pcfgs (F := F)) adm (dats m) () cellOf_inj EP defs₀ 𝒱₀ L lv m ρ main
    (segs m 𝒱₀ L lv (rest m) () (dats m) (region m hr))
    (fun c Q => by
      rewrite [main_chain c, Pipeline.Seg.run_eq_chain,
        show (segs m 𝒱₀ L lv (rest m) () (dats m) (region m hr) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := owed0) (hL := L_of_ne) (G := parked (BI.own (ER seed))) (u₀ := seeds (F := F))
    (hu₀ := ?_)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V4 m (outs m) c) ∗ semVal (barCell c) 0))
    (hch := fun c => ⟨.rfl, .rfl, .rfl, region_pre m hr c, (region_post m hr c).trans ?_⟩)
    (hinit := start_all m ρ)
    (QY := fun c s => (s.mem ((c : Thread nD τ).loc main_v16) = outv m c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => ?_) (hQ := fun s h hs => ⟨fun c => (h c).1, ?_⟩)
  · iintro Hu
    ihave H := (ownU_pair _ _) $$ Hu
    icases H with ⟨HP, HX⟩
    imodintro
    isplitl [HP]; · iexact HP
    rw [parked_eq]
    iexact HX
  · unfold rest
    iintro ⟨Hh, Vb, HO⟩
    isplitr [HO]
    · isplitl [Hh] <;> iassumption
    · iexact HO
  · unfold StableHlo.held
    iintro ⟨⟨Hh, Vb⟩, HSI⟩
    icombine HSI Vb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨⟨(h (Proc.devRef .tc main_v16) (Finset.mem_filter.mpr ⟨StableHlo.devRef_mem_tcRefs main_v16, by decide⟩)).trans (V4_res m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩,
        by simpa using hb⟩
    · iexact HSI
  · exact sem_eq_zero hs fun c sm hsm => by
      obtain rfl := unscoped_bar sm hsm
      exact (h c).2

end Cert.Embed

end
-- ==== Proof.Frames.lean ====
/-
  What the kernel's two readings leave: the runs the claims are read from.
-/
module

public import proofs.«01_k».proof.Proof.Body
public import proofs.«01_k».proof.Proof.Run
public import proofs.«01_k».proof.Proof.Gen.Kernel
public import proofs.«01_k».proof.Defs

@[expose] public section

set_option maxRecDepth 65536

noncomputable section

namespace Cert.Embed

open Cert.KernelIdeal
open Idealize.ShloMosaic Idealize.ShloMosaic.TcCoe
open Idealize.SL Idealize.SL.Sem

variable {F : FTy → Type} [FloatOps F]

theorem runs (m : (ℓ : Loc nD τ sig) → Buf (Elt F) ℓ) (c : Dev nD) : Runs m c := fun _ _ _ _ _ => body_run

/-- Every run of the kernel: the result array at `outv`, both arguments unchanged, every semaphore at zero. -/
theorem run_main (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c : Thread nD τ).loc main_v16) = outv m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  run_of m ρ (runs m)

theorem frame_ideal : Cert.quiescent_KernelIdeal := fun m ρ _ =>
  (θ_run (defs (F := Ideal)) _ _).mono (fun _ h => ⟨fun c => (h.1 c).2, h.2⟩) (run_main (F := Ideal) m ρ)
theorem frame_ideal_pre [Cert.Pre_ids_named_KernelIdeal.Facts] : Cert.quiescent_KernelIdeal_pre_ids_named_KernelIdeal := fun m ρ _ =>
  (θ_run (defs (F := Ideal)) _ _).mono (fun _ h => ⟨fun c => (h.1 c).2, h.2⟩) (run_main (F := Ideal) m ρ)
theorem frame_bits (m : (ℓ : Loc nD τ sig) → Buf (Elt Bits) ℓ) (ρ : Dev nD → PrngReg) :
    θ_run (defs (F := Bits)) (onTc (τ := τ) (main (F := Bits))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run (defs (F := Bits)) _ _).mono (fun _ h => ⟨fun c => (h.1 c).2, h.2⟩) (run_main (F := Bits) m ρ)

/-- The kernel's two printings are one program: what is read of the one is read of the other. -/
theorem frame_same : (∀ (m : (ℓ : Loc nD τ sig) → Buf (Elt Bits) ℓ) (ρ : Dev nD → PrngReg), Cert.Pre_Kernel m →
    θ_run (defs (F := Bits)) (onTc (τ := τ) (main (F := Bits))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0))
    = Cert.quiescent_Kernel := by
  sl_kernel_rfl
theorem frame_kernel : Cert.quiescent_Kernel := frame_same.mp fun m ρ _ => frame_bits m ρ

end Cert.Embed

end
-- ==== Proof.Ref.lean ====
/-
  The reference's run: each row of its result is the row of the table that the row's id names.
-/
module

public import proofs.«01_k».proof.Defs
public import proofs.«01_k».proof.Proof.Gen.ReferenceIdeal.Run
public import Idealize.ShloMosaic.Lib.Quiescent
public import Idealize.ShloMosaic.Lib.Pipeline.Value

@[expose] public section

set_option maxRecDepth 65536

noncomputable section

namespace Cert.Embed

open Cert.ReferenceIdeal Cert.ReferenceIdeal.Gen
open Idealize.ShloMosaic Idealize.ShloMosaic.TcCoe
open Idealize.SL Idealize.SL.Sem

theorem frame_reference : Cert.quiescent_ReferenceIdeal := fun m ρ _ =>
  (θ_run (defs (F := Ideal)) _ _).mono (fun r h => ⟨fun c => (h c).2, sem_eq_zero_of_no_sems (by decide) r.2⟩) (Value.run (F := Ideal) m ρ)
theorem frame_reference_pre [Cert.Pre_ids_named_ReferenceIdeal.Facts] : Cert.quiescent_ReferenceIdeal_pre_ids_named_ReferenceIdeal := fun m ρ _ =>
  (θ_run (defs (F := Ideal)) _ _).mono (fun r h => ⟨fun c => (h c).2, sem_eq_zero_of_no_sems (by decide) r.2⟩) (Value.run (F := Ideal) m ρ)

/-! ## Its result -/

abbrev rowsD : GatherDims S32768x1024 S2048x1 S2048x1024 := gather_S32768x1024_S2048x1_S2048x1024_1_0_n_n_0_1_11024

/-- An entry of the table, by its row and its column. -/
def entry (r : Fin 32768) (l : Fin 1024) : S32768x1024.Idx := fun a => match a with
  | ⟨0, _⟩ => r
  | ⟨1, _⟩ => l
/-- The id of a row of the result. -/
def idOf (j : S2048x1024.Idx) : S2048.Idx := fun a => match a with
  | ⟨0, _⟩ => (⟨(j 0).val, (j 0).isLt⟩ : Fin 2048)
def colOf (j : S2048x1024.Idx) : S2048x1.Idx := fun a => match a with
  | ⟨0, _⟩ => (⟨(j 0).val, (j 0).isLt⟩ : Fin 2048)
  | ⟨1, _⟩ => (⟨0, Nat.one_pos⟩ : Fin 1)

theorem kept_axis : rowsD.sKept = [1] := by decide
theorem start_row (j : S2048x1024.Idx) (idx : IVec S2048x1 32) : rowsD.start j idx 0 = min (idx (colOf j)).toInt.toNat 32767 := by
  have e : rowsD.siIdx j ⟨rowsD.startIndexMap.idxOf 0, List.idxOf_lt_length_iff.2 (by decide)⟩ = colOf j := by
    funext b
    match b with
    | ⟨0, _⟩ => exact Fin.ext rfl
    | ⟨1, _⟩ => exact Fin.ext rfl
  show (if ha : (0 : Fin 2) ∈ rowsD.startIndexMap then min (idx (rowsD.siIdx j ⟨rowsD.startIndexMap.idxOf 0, List.idxOf_lt_length_iff.2 ha⟩)).toInt.toNat (32768 - 1) else 0) = _
  rw [dif_pos (by decide), e]
theorem looked_row (j : S2048x1024.Idx) (idx : IVec S2048x1 32) (n : Fin 32768) (h : (idx (colOf j)).toInt = n.val) :
    rowsD.operandIdx j idx = entry n ⟨(j 1).val, (j 1).isLt⟩ := by
  have hn := n.isLt
  funext a
  match a with
  | ⟨0, _⟩ =>
    refine Fin.ext ?_
    show rowsD.start j idx 0 + rowsD.batchCoord j 0 + rowsD.offCoord j 0 = n.val
    rw [start_row, rowsD.batchCoord_eq_zero j 0 (by decide), rowsD.offCoord_eq_zero j 0 (by decide), h]
    omega
  | ⟨1, _⟩ =>
    refine Fin.ext ?_
    show rowsD.start j idx 1 + rowsD.batchCoord j 1 + rowsD.offCoord j 1 = (j 1).val
    have hs : rowsD.start j idx 1 = 0 := by unfold GatherDims.start; rw [dif_neg (by decide)]
    have ho : rowsD.offCoord j 1 = (j 1).val := by unfold GatherDims.offCoord; rw [dif_pos (by decide)]; rfl
    rw [hs, rowsD.batchCoord_eq_zero j 1 (by decide), ho]
    omega

/-- What the reference computes of the ids and the table. -/
def looked (ids : S2048.Idx → BitVec 32) (E : FVec Ideal S32768x1024 .f32) : FVec Ideal S2048x1024 .bf16 :=
  truncf .bf16 (Host.gather rowsD E (broadcastInDim S2048x1 ![0] bcast_S2048_S2048x1_0
    (select (cmpi .slt ids (broadcastInDim S2048 ![] bcast_S_S2048 (constantI S_ 32 0#32)))
      (addi ids (broadcastInDim S2048 ![] bcast_S_S2048 (constantI S_ 32 32768#32))) ids))) bitsLt_bf16_f32

theorem looked_at (ids : S2048.Idx → BitVec 32) (E : FVec Ideal S32768x1024 .f32) (j : S2048x1024.Idx) (h : (ids (idOf j)).toNat < 32768) :
    looked ids E j = E (entry ⟨(ids (idOf j)).toNat, h⟩ ⟨(j 1).val, (j 1).isLt⟩) := by
  unfold looked
  show E (rowsD.operandIdx j _) = _
  rw [looked_row j _ ⟨(ids (idOf j)).toNat, h⟩]
  have e : ∀ v : IVec S2048 32, broadcastInDim S2048x1 ![0] bcast_S2048_S2048x1_0 v (colOf j) = v (idOf j) := fun v =>
    broadcastInDim_apply _ _ v (colOf j) (idOf j) fun a => by
      match a with
      | ⟨0, _⟩ => rfl
  rw [e]
  show (if BitVec.ofBool ((ids (idOf j)).slt 0#32) = 1#1 then ids (idOf j) + 32768#32 else ids (idOf j)).toInt = ((ids (idOf j)).toNat : ℤ)
  generalize ids (idOf j) = w at h
  have hi : w.toInt = w.toNat := by rw [BitVec.toInt_eq_toNat_cond]; split <;> omega
  have hl : w.slt 0#32 = false := by
    rw [Bool.eq_false_iff]
    intro hc
    rw [BitVec.slt_iff_toInt_lt, hi] at hc
    have e0 : (0#32 : BitVec 32).toInt = 0 := rfl
    omega
  rw [hl, if_neg (by decide), hi]

theorem reference_run (m' : (ℓ : Loc nD τ sig) → Buf (Elt Ideal) ℓ) (ρ : Dev nD → PrngReg) :
    θ_run (defs (F := Ideal)) (onTc (τ := τ) (main (F := Ideal))) ⟨m', fun _ => 0, ρ⟩ fun r =>
      r.2.mem (((0 : Dev nD).tc : Thread nD τ).loc main_v7) = looked (m' (((0 : Dev nD).tc : Thread nD τ).loc main_arg0)) (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1) :=
  (θ_run (defs (F := Ideal)) _ _).mono (fun _ h => h 0) (Value.run (F := Ideal) m' ρ)

end Cert.Embed

end
-- ==== Proof.Value.lean ====
/-
  The value: over the reals, and for ids that name rows of the table, the result of every device is the table's rows that the
  ids name.
-/
module

public import proofs.«01_k».proof.Proof.Host
public import proofs.«01_k».proof.Proof.Ref
public import proofs.«01_k».proof.Proof.Frames
public import Idealize.ShloMosaic.PureOps.Ideal.Laws

@[expose] public section

set_option maxRecDepth 65536

noncomputable section

namespace Cert.Embed

open Cert.KernelIdeal Cert.KernelIdeal.Gen
open Idealize.ShloMosaic Idealize.ShloMosaic.TcCoe
open Idealize.SL Idealize.SL.Sem

variable {m : (ℓ : Loc nD τ sig) → Buf (Elt Ideal) ℓ}

/-- A place in a device's half of the table, by its row and its column. -/
def placeH (r : Fin 16384) (l : Fin 1024) : S16384x1024.Idx := fun a => match a with
  | ⟨0, _⟩ => r
  | ⟨1, _⟩ => l

/-- What a block of gathered rows is before it is sent: over the reals, the rows themselves. -/
theorem pay1_at (v : Vec Ideal S1x128x1024 .f32) (x : S128x1024.Idx) : k0_pay1 v x = v (Fin.cons (⟨0, Nat.one_pos⟩ : Fin 1) x) := by
  unfold k0_pay1
  rw [shapeCast_apply _ _ x x rfl]
  show shapeCast S128x1024 v _ x = _
  exact shapeCast_dropUnit_apply _ _ _ x

theorem emb_unit (k : Fin 2) (x : S128x1024.Idx) (h) :
    ((Rect.unit (s := S2x128x1024) ![k.val, 0, 0] S1x128x1024.size h).emb (Fin.cons (⟨0, Nat.one_pos⟩ : Fin 1) x) 0 : Fin 2) = k
    ∧ ((Rect.unit (s := S2x128x1024) ![k.val, 0, 0] S1x128x1024.size h).emb (Fin.cons (⟨0, Nat.one_pos⟩ : Fin 1) x) 1 : Fin 128) = ⟨(x 0).val, (x 0).isLt⟩
    ∧ ((Rect.unit (s := S2x128x1024) ![k.val, 0, 0] S1x128x1024.size h).emb (Fin.cons (⟨0, Nat.one_pos⟩ : Fin 1) x) 2 : Fin 1024) = ⟨(x 1).val, (x 1).isLt⟩ := by
  refine ⟨Fin.ext ?_, Fin.ext ?_, Fin.ext ?_⟩
  · show k.val + 1 * 0 = k.val; omega
  · show 0 + 1 * (x 0).val = (x 0).val; omega
  · show 0 + 1 * (x 1).val = (x 1).val; omega

theorem gv_at (c : Dev nD) (i : S2x128x1024.Idx) : gv m c i = embv m c (placeH (rowAt m c (i 0) (i 1)) (i 2)) := by
  unfold gv
  generalize embv m c = e
  congr 1

theorem half_at (c : Dev nD) (k : Fin 2) (x : S128x1024.Idx) :
    half m c k x = embv m c (placeH (rowAt m c k ⟨(x 0).val, (x 0).isLt⟩) ⟨(x 1).val, (x 1).isLt⟩) := by
  unfold half
  rw [pay1_at, gv_at]
  generalize embv m c = e
  generalize rowAt m c = r
  have h := emb_unit k x (st_inb k)
  rw [h.1, h.2.1, h.2.2]
  rfl

/-- The mask's row of an id. -/
theorem mask_place : ∀ (c : Dev nD) (k : Fin 2), 128 * (blkOf c ⟨2 + k.val, by omega⟩).val = 512 * (c.val % 4) + 256 * (c.val / 8) + 128 * k.val := by
  decide
theorem mask_at (c : Dev nD) (k : Fin 2) (i : S128x1.Idx) :
    maskRows m c k i = ((((inHalf m c (idAt c k ⟨(i 0).val, (i 0).isLt⟩)).toNat : ℝ) : EReal) : Ideal .f32) := by
  unfold maskRows
  rw [maskv_eq]
  rw [broadcastInDim_apply _ _ _ _ (idAt c k ⟨(i 0).val, (i 0).isLt⟩) (fun a => by
    match a with
    | ⟨0, _⟩ =>
      have h := mask_place c k
      show 512 * (c.val % 4) + 256 * (c.val / 8) + 128 * k.val + (i 0).val = 128 * (blkOf c ⟨2 + k.val, _⟩).val + 1 * (i 0).val
      omega)]
  rfl

theorem comb_at (c : Dev nD) (k : Fin 2) (x : S128x1024.Idx) :
    comb m c k x = if inHalf m c (idAt c k ⟨(x 0).val, (x 0).isLt⟩) = 1#1 then half m c k x else half m (yFlip c) k x := by
  let i0 : S128x1.Idx := fun a => match a with
    | ⟨0, _⟩ => (⟨(x 0).val, (x 0).isLt⟩ : Fin 128)
    | ⟨1, _⟩ => (⟨0, Nat.one_pos⟩ : Fin 1)
  unfold comb k0_pay3
  dsimp only
  show (if broadcastTo S128x1024 _ _ x = 1#1 then half m c k x else half m (yFlip c) k x) = _
  rw [broadcastTo_apply _ _ x i0 (fun a => by
    match a with
    | ⟨0, _⟩ => rfl
    | ⟨1, _⟩ => rfl)]
  rw [shapeCast_apply _ _ i0 i0 rfl]
  show (if Ideal.cmp .ogt (shapeCast S128x1 (maskRows m c k) _ i0) (Ideal.ofBits .f32 0x00000000#32) = 1#1 then _ else _) = _
  rw [shapeCast_apply _ _ i0 i0 rfl, mask_at, Ideal.ofBits_zero_f32]
  show (if Ideal.cmp .ogt ((((inHalf m c (idAt c k ⟨(x 0).val, (x 0).isLt⟩)).toNat : ℝ) : EReal)) 0 = 1#1 then _ else _) = _
  generalize inHalf m c (idAt c k ⟨(x 0).val, (x 0).isLt⟩) = b
  have hb : ∀ b : BitVec 1, b = 0#1 ∨ b = 1#1 := by decide
  rcases hb b with rfl | rfl
  · simp [Ideal.cmp]
  · simp [Ideal.cmp]

/-! ## Which half an id is in -/

theorem word_half (w : BitVec 32) (y : ℕ) (hw : w.toNat < 32768) (hy : y < 2) :
    (BitVec.ofBool ((0#32 : BitVec 32).sle (w - BitVec.ofNat 32 (16384 * y))) &&& BitVec.ofBool ((w - BitVec.ofNat 32 (16384 * y)).slt 16384#32) = 1#1
      ↔ w.toNat / 16384 = y)
    ∧ (w.toNat / 16384 = y → (w - BitVec.ofNat 32 (16384 * y)).toNat = w.toNat - 16384 * y) := by
  have key : (w - BitVec.ofNat 32 (16384 * y)).toInt = (w.toNat : ℤ) - 16384 * y := by
    have ew : w.toInt = w.toNat := by rw [BitVec.toInt_eq_toNat_cond, if_pos (by omega)]
    have hy' : y = 0 ∨ y = 1 := by omega
    rw [BitVec.toInt_sub, ew]
    rcases hy' with rfl | rfl
    · rw [show (BitVec.ofNat 32 (16384 * 0)).toInt = 0 from rfl, Int.bmod_eq_of_le] <;> omega
    · rw [show (BitVec.ofNat 32 (16384 * 1)).toInt = 16384 from rfl, Int.bmod_eq_of_le] <;> omega
  have e1 : (0#32 : BitVec 32).toInt = 0 := rfl
  have e2 : (16384#32 : BitVec 32).toInt = 16384 := rfl
  constructor
  · constructor
    · intro h
      by_cases h1 : (0#32 : BitVec 32).sle (w - BitVec.ofNat 32 (16384 * y)) <;>
        by_cases h2 : (w - BitVec.ofNat 32 (16384 * y)).slt 16384#32 <;> simp [h1, h2] at h
      rw [BitVec.sle_iff_toInt_le, e1, key] at h1
      rw [BitVec.slt_iff_toInt_lt, e2, key] at h2
      omega
    · intro h
      have h1 : (0#32 : BitVec 32).sle (w - BitVec.ofNat 32 (16384 * y)) = true := by
        rw [BitVec.sle_iff_toInt_le, e1, key]; omega
      have h2 : (w - BitVec.ofNat 32 (16384 * y)).slt 16384#32 = true := by
        rw [BitVec.slt_iff_toInt_lt, e2, key]; omega
      rw [h1, h2]; rfl
  · intro h
    have hk := key
    have := (w - BitVec.ofNat 32 (16384 * y)).isLt
    rw [BitVec.toInt_eq_toNat_cond] at hk
    split at hk <;> omega

/-- A device's coordinate along the axis that the table is cut on. -/
abbrev yOf (c : Dev nD) : ℕ := c.val / 4 % 2

theorem in_half (c : Dev nD) (i : S2048.Idx) (hw : (arg0v m c i).toNat < 32768) : inHalf m c i = 1#1 ↔ (arg0v m c i).toNat / 16384 = yOf c := by
  have h := (word_half (arg0v m c i) (yOf c) hw (Nat.mod_lt _ (by decide))).1
  rw [← baseW_eq] at h
  exact h
theorem id_local (c : Dev nD) (i : S2048.Idx) (hw : (arg0v m c i).toNat < 32768) (h : (arg0v m c i).toNat / 16384 = yOf c) :
    (idsv m c i).toNat = (arg0v m c i).toNat - 16384 * yOf c := by
  rw [idsv_eq, if_pos ((in_half c i hw).mpr h)]
  have h' := (word_half (arg0v m c i) (yOf c) hw (Nat.mod_lt _ (by decide))).2 h
  rw [← baseW_eq] at h'
  exact h'

/-! ## The result -/

section
variable (ids : S2048.Idx → BitVec 32) (E : FVec Ideal Cert.ReferenceIdeal.S32768x1024 .f32)
  (hids : ∀ c : Dev nD, arg0v m c = ids) (hlt : ∀ i, (ids i).toNat < 32768)
  (hE : ∀ c : Dev nD, m ((c : Thread nD τ).loc main_arg1)
    = Layout.blockN ⟨2, ![16384, 1024]⟩ ⟨2, ![32768, 1024]⟩ (Layout.meshBlock [2, 2, 4] ![[1], []] c) E)
include hids hlt hE

theorem cut_at (c : Dev nD) (r : Fin 16384) (l : Fin 1024) (n : Fin 32768) (h : n.val = 16384 * yOf c + r.val) :
    embv m c (placeH r l) = E (entry n l) := by
  rw [embv_eq, hE c, Layout.blockN_apply]
  congr 1
  funext a
  match a with
  | ⟨0, _⟩ =>
    refine Fin.ext ?_
    have e : ∀ c : Dev nD, Layout.meshLin [2, 2, 4] c.val [1] = c.val / 4 % 2 := by decide
    rw [Layout.TilesN.idx_val, Layout.meshBlock_val]
    show Layout.meshLin [2, 2, 4] c.val [1] * 16384 + r.val = n.val
    rw [e c, h]; show c.val / 4 % 2 * 16384 + r.val = 16384 * (c.val / 4 % 2) + r.val; omega
  | ⟨1, _⟩ =>
    refine Fin.ext ?_
    have e : ∀ c : Dev nD, Layout.meshLin [2, 2, 4] c.val [] = 0 := by decide
    rw [Layout.TilesN.idx_val, Layout.meshBlock_val]
    show Layout.meshLin [2, 2, 4] c.val [] * 1024 + l.val = l.val
    rw [e c]; omega

theorem half_named (c : Dev nD) (k : Fin 2) (x : S128x1024.Idx) (i : S2048.Idx) (hi : idAt c k ⟨(x 0).val, (x 0).isLt⟩ = i)
    (h : (ids i).toNat / 16384 = yOf c) : half m c k x = E (entry ⟨(ids i).toNat, hlt i⟩ ⟨(x 1).val, (x 1).isLt⟩) := by
  rw [half_at]
  refine cut_at ids E hids hlt hE c _ _ _ ?_
  show (ids i).toNat = 16384 * yOf c + min (idsv m c (idAt c k ⟨(x 0).val, (x 0).isLt⟩)).toNat 16383
  have h' := h
  rw [← hids c] at h'
  rw [hi, id_local c i (by rw [hids c]; exact hlt i) h', hids c]
  have := hlt i
  omega

theorem comb_named (c : Dev nD) (k : Fin 2) (x : S128x1024.Idx) (i : S2048.Idx) (hi : idAt c k ⟨(x 0).val, (x 0).isLt⟩ = i) :
    comb m c k x = E (entry ⟨(ids i).toNat, hlt i⟩ ⟨(x 1).val, (x 1).isLt⟩) := by
  rw [comb_at, hi]
  have hh := in_half (m := m) c i (by rw [hids c]; exact hlt i)
  rw [hids c] at hh
  by_cases h : (ids i).toNat / 16384 = yOf c
  · rw [if_pos (hh.mpr h)]
    exact half_named ids E hids hlt hE c k x i hi h
  · rw [if_neg fun hc => h (hh.mp hc)]
    have hf : ∀ c : Dev nD, (yFlip c).val % 4 = c.val % 4 ∧ (yFlip c).val / 8 = c.val / 8 ∧ yOf (yFlip c) = 1 - yOf c := by decide
    obtain ⟨f1, f2, f3⟩ := hf c
    refine half_named ids E hids hlt hE (yFlip c) k x i ?_ ?_
    · rw [← hi]
      funext a
      match a with
      | ⟨0, _⟩ =>
        refine Fin.ext ?_
        show 512 * ((yFlip c).val % 4) + 256 * ((yFlip c).val / 8) + 128 * k.val + (x 0).val = 512 * (c.val % 4) + 256 * (c.val / 8) + 128 * k.val + (x 0).val
        rw [f1, f2]
    · rw [f3]
      have := hlt i
      have hy : yOf c < 2 := Nat.mod_lt _ (by decide)
      omega

theorem out_named (c : Dev nD) : outv m c = looked ids E := by
  funext j
  unfold outv
  rw [looked_at ids E j (hlt _)]
  refine (comb_named ids E hids hlt hE _ _ (rowIn j) (idOf j) ?_).trans rfl
  have key : ∀ n c : ℕ, n < 2048 → 512 * ((8 * (n / 128 / 2 % 2) + 4 * (c / 4 % 2) + n / 128 / 4) % 4)
      + 256 * ((8 * (n / 128 / 2 % 2) + 4 * (c / 4 % 2) + n / 128 / 4) / 8) + 128 * (n / 128 % 2) + n % 128 = n := by
    intro n c hn
    have hB : c / 4 % 2 < 2 := Nat.mod_lt _ (by decide)
    have hC : n / 128 / 4 < 4 := by omega
    have hA : n / 128 / 2 % 2 < 2 := Nat.mod_lt _ (by decide)
    generalize c / 4 % 2 = B at hB ⊢
    have e1 : (8 * (n / 128 / 2 % 2) + 4 * B + n / 128 / 4) % 4 = n / 128 / 4 := by omega
    have e2 : (8 * (n / 128 / 2 % 2) + 4 * B + n / 128 / 4) / 8 = n / 128 / 2 % 2 := by omega
    rw [e1, e2]
    omega
  funext a
  match a with
  | ⟨0, _⟩ =>
    refine Fin.ext ?_
    exact key (j 0).val c.val (j 0).isLt
end

/-- The precondition, read at an id. -/
theorem named_of [Cert.Pre_ids_named_KernelIdeal.Facts] (h : Cert.Pre_KernelIdeal_ids_named_KernelIdeal m) (c : Dev nD) (i : S2048.Idx) :
    (arg0v m c i).toNat < 32768 := by
  have h' : BitVec.ofBool ((0#32 : BitVec 32).sle (arg0v m c i)) &&& BitVec.ofBool ((arg0v m c i).slt 32768#32) = 1#1 := congrFun (h c) i
  generalize arg0v m c i = w at h' ⊢
  by_cases h1 : (0#32 : BitVec 32).sle w <;> by_cases h2 : w.slt 32768#32 <;> simp [h1, h2] at h'
  rw [BitVec.sle_iff_toInt_le] at h1
  rw [BitVec.slt_iff_toInt_lt] at h2
  have e1 : (0#32 : BitVec 32).toInt = 0 := rfl
  have e2 : (32768#32 : BitVec 32).toInt = 32768 := rfl
  rw [e1] at h1
  rw [e2] at h2
  rw [BitVec.toInt_eq_toNat_cond] at h1 h2
  have := w.isLt
  split at h1 <;> omega

/-- The kernel's result is the reference's, on every device, for ids that name rows. -/
theorem algebraic [Cert.Pre_ids_named_KernelIdeal.Facts] : Cert.algebraic_KernelIdeal_ReferenceIdeal_pre_ids_named_KernelIdeal := by
  intro m g m' g' hpre hm
  let ids : S2048.Idx → BitVec 32 := m' (((0 : Dev Cert.ReferenceIdeal.nD).tc : Thread Cert.ReferenceIdeal.nD Cert.ReferenceIdeal.τ).loc Cert.ReferenceIdeal.main_arg0)
  let E : FVec Ideal Cert.ReferenceIdeal.S32768x1024 .f32 := m' (((0 : Dev Cert.ReferenceIdeal.nD).tc : Thread Cert.ReferenceIdeal.nD Cert.ReferenceIdeal.τ).loc Cert.ReferenceIdeal.main_arg1)
  have hids : ∀ c : Dev nD, arg0v m c = ids := fun c => (hm c).1
  have hlt : ∀ i, (ids i).toNat < 32768 := fun i => by
    rw [← hids (0 : Dev nD)]
    exact named_of hpre (0 : Dev nD) i
  have hout : ∀ c : Dev nD, outv m c = looked ids E := out_named ids E hids hlt fun c => (hm c).2
  refine ⟨looked ids E, ?_, reference_run m' g'⟩
  exact (θ_run (defs (F := Ideal)) _ _).mono (fun _ h c => ⟨(h.1 c).1.trans (hout c), (h.1 c).2⟩) (run_main (F := Ideal) m g)

end Cert.Embed

end
-- ==== Proof.lean ====
/-
  The certificate's claims, put together.
-/
module

public import proofs.«01_k».proof.Defs
public import proofs.«01_k».proof.Proof.Frames
public import proofs.«01_k».proof.Proof.Value

@[expose] public section

noncomputable section

namespace Cert.Proof

instance pre_kernel : Cert.Pre_ids_named_KernelIdeal.Facts := ⟨by decide⟩
instance pre_reference : Cert.Pre_ids_named_ReferenceIdeal.Facts := ⟨by decide⟩

theorem claim : Cert.Claim :=
  ⟨Cert.Kernel.Gen.facts, Cert.KernelIdeal.Gen.facts, Cert.ReferenceIdeal.Gen.facts, pre_kernel, pre_reference,
    Cert.Embed.frame_kernel, Cert.Embed.frame_ideal, Cert.Embed.frame_ideal_pre, Cert.Embed.frame_reference, Cert.Embed.frame_reference_pre,
    trivial, Cert.Embed.algebraic⟩

end Cert.Proof

end
